-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v19)) (v2 : (c : Dev Cert.Kernel2Ideal.nD) → Buf (Elt Ideal) ((c.tc : Thread Cert.Kernel2Ideal.nD Cert.Kernel2Ideal.τ).loc Cert.Kernel2Ideal.main_v20)) (v3 : (c : Dev Cert.Kernel2Ideal.nD) → Buf (Elt Ideal) ((c.tc : Thread Cert.Kernel2Ideal.nD Cert.Kernel2Ideal.τ).loc Cert.Kernel2Ideal.main_v14_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v19) = v1 c
          ∧ r.2.mem ((c.tc : Thread Cert.Kernel2Ideal.nD Cert.Kernel2Ideal.τ).loc Cert.Kernel2Ideal.main_v20) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v23)) (v3 : (c : Dev Cert.Kernel4Ideal.nD) → Buf (Elt Ideal) ((c.tc : Thread Cert.Kernel4Ideal.nD Cert.Kernel4Ideal.τ).loc Cert.Kernel4Ideal.main_v25)) (v4 : (c : Dev Cert.Kernel4Ideal.nD) → Buf (Elt Ideal) ((c.tc : Thread Cert.Kernel4Ideal.nD Cert.Kernel4Ideal.τ).loc Cert.Kernel4Ideal.main_v20_4)) (v5 : (c : Dev Cert.Kernel4Ideal.nD) → Buf (Elt Ideal) ((c.tc : Thread Cert.Kernel4Ideal.nD Cert.Kernel4Ideal.τ).loc Cert.Kernel4Ideal.main_v20_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v23) = v2 c
          ∧ r.2.mem ((c.tc : Thread Cert.Kernel4Ideal.nD Cert.Kernel4Ideal.τ).loc Cert.Kernel4Ideal.main_v25) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_v20_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v30) = v3 c
          ∧ r.2.mem ((c.tc : Thread Cert.Reference4Ideal.nD Cert.Reference4Ideal.τ).loc Cert.Reference4Ideal.main_v31) = v4 c
          ∧ r.2.mem ((c.tc : Thread Cert.Reference4Ideal.nD Cert.Reference4Ideal.τ).loc Cert.Reference4Ideal.main_v32) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v14)) (v2 : (c : Dev Cert.Kernel5Ideal.nD) → Buf (Elt Ideal) ((c.tc : Thread Cert.Kernel5Ideal.nD Cert.Kernel5Ideal.τ).loc Cert.Kernel5Ideal.main_v16)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v14) = v1 c
          ∧ r.2.mem ((c.tc : Thread Cert.Kernel5Ideal.nD Cert.Kernel5Ideal.τ).loc Cert.Kernel5Ideal.main_v16) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)) (v2 : (c : Dev Cert.Kernel6Ideal.nD) → Buf (Elt Ideal) ((c.tc : Thread Cert.Kernel6Ideal.nD Cert.Kernel6Ideal.τ).loc Cert.Kernel6Ideal.main_v18)) (v3 : (c : Dev Cert.Kernel6Ideal.nD) → Buf (Elt Ideal) ((c.tc : Thread Cert.Kernel6Ideal.nD Cert.Kernel6Ideal.τ).loc Cert.Kernel6Ideal.main_v20)) (v4 : (c : Dev Cert.Kernel6Ideal.nD) → Buf (Elt Ideal) ((c.tc : Thread Cert.Kernel6Ideal.nD Cert.Kernel6Ideal.τ).loc Cert.Kernel6Ideal.main_v16_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_v18) = v2 c
          ∧ r.2.mem ((c.tc : Thread Cert.Kernel6Ideal.nD Cert.Kernel6Ideal.τ).loc Cert.Kernel6Ideal.main_v20) = v3 c
          ∧ r.2.mem ((c.tc : Thread Cert.Kernel6Ideal.nD Cert.Kernel6Ideal.τ).loc Cert.Kernel6Ideal.main_v16_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_v31) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x8192x8x2x64 : Shape := ⟨5, ![2, 8192, 8, 2, 64]⟩
abbrev S2x8192x8x128 : Shape := ⟨4, ![2, 8192, 8, 128]⟩
abbrev S1x1 : Shape := ⟨2, ![1, 1]⟩
abbrev S128 : Shape := ⟨1, ![128]⟩
abbrev S_ : Shape := ⟨0, ![]⟩

class Facts : Prop where
  bcast_S_S2x8192x8x2x64 : S_.BroadcastsInDim S2x8192x8x2x64 (![] : Fin 0 → Fin S2x8192x8x2x64.rank)
  reducesTo_S2x8192x8x2x64_S_d0_1_2_3_4 : S2x8192x8x2x64.ReducesTo [0, 1, 2, 3, 4] S_
  h_S_ : 0 < S_.numel
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S2x8192x8x2x64 .f32) (main_arg1 : FVec F S2x8192x8x2x64 .f32) (main_arg2 : FVec F S2x8192x8x128 .f32) (main_arg3 : FVec F S1x1 .f32) (main_arg4 : FVec F S128 .f32) : IVec S_ 1 :=
  let main_v0 : FVec F S2x8192x8x2x64 .f32 := Host.absf main_arg0
  let main_cst : FVec F S_ .f32 := constant S_ .f32 0x7F800000#32
  let main_v1 : FVec F S2x8192x8x2x64 .f32 := broadcastInDim S2x8192x8x2x64 ![] bcast_S_S2x8192x8x2x64 main_cst
  let main_v2 : IVec S2x8192x8x2x64 1 := cmpf .olt main_v0 main_v1
  let main_c : IVec S_ 1 := constantI S_ 1 1#1
  let main_v3 : IVec S_ 1 := (fun x v => Host.reduce IntOp.andi x v reducesTo_S2x8192x8x2x64_S_d0_1_2_3_4 h_S_) main_v2 main_c
  let main_v4 : FVec F S2x8192x8x2x64 .f32 := Host.absf main_arg1
  let main_cst_0 : FVec F S_ .f32 := constant S_ .f32 0x7F800000#32
  let main_v5 : FVec F S2x8192x8x2x64 .f32 := broadcastInDim S2x8192x8x2x64 ![] bcast_S_S2x8192x8x2x64 main_cst_0
  let main_v6 : IVec S2x8192x8x2x64 1 := cmpf .olt main_v4 main_v5
  let main_c_1 : IVec S_ 1 := constantI S_ 1 1#1
  let main_v7 : IVec S_ 1 := (fun x v => Host.reduce IntOp.andi x v reducesTo_S2x8192x8x2x64_S_d0_1_2_3_4 h_S_) main_v6 main_c_1
  let main_v8 : IVec S_ 1 := andi main_v3 main_v7
  let main_v9 : FVec F S2x8192x8x128 .f32 := Host.absf main_arg2
  let main_cst_2 : FVec F S_ .f32 := constant S_ .f32 0x7F800000#32
  let main_v10 : FVec F S2x8192x8x128 .f32 := broadcastInDim S2x8192x8x128 ![] bcast_S_S2x8192x8x128 main_cst_2
  let main_v11 : IVec S2x8192x8x128 1 := cmpf .olt main_v9 main_v10
  let main_c_3 : IVec S_ 1 := constantI S_ 1 1#1
  let main_v12 : IVec S_ 1 := (fun x v => Host.reduce IntOp.andi x v reducesTo_S2x8192x8x128_S_d0_1_2_3 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S2x8192x8x2x64 : Shape := ⟨5, ![2, 8192, 8, 2, 64]⟩
abbrev S2x8192x8x128 : Shape := ⟨4, ![2, 8192, 8, 128]⟩
abbrev S1x1 : Shape := ⟨2, ![1, 1]⟩
abbrev S128 : Shape := ⟨1, ![128]⟩
abbrev S2x8192x1024 : Shape := ⟨3, ![2, 8192, 1024]⟩
abbrev S2x1024x8192 : Shape := ⟨3, ![2, 1024, 8192]⟩
abbrev S16384x1024 : Shape := ⟨2, ![16384, 1024]⟩
abbrev S8 : Shape := ⟨1, ![8]⟩
abbrev S_ : Shape := ⟨0, ![]⟩
abbrev S1x128 : Shape := ⟨2, ![1, 128]⟩
abbrev S512x128 : Shape := ⟨2, ![512, 128]⟩
abbrev S1x128x8192 : Shape := ⟨3, ![1, 128, 8192]⟩
abbrev S32x256x256 : Shape := ⟨3, ![32, 256, 256]⟩
abbrev S32x128x256 : Shape := ⟨3, ![32, 128, 256]⟩
abbrev S2x512x512 : Shape := ⟨3, ![2, 512, 512]⟩
abbrev S256x128 : Shape := ⟨2, ![256, 128]⟩
abbrev S1x128x256 : Shape := ⟨3, ![1, 128, 256]⟩
abbrev S128x256 : Shape := ⟨2, ![128, 256]⟩
abbrev S1x256x128 : Shape := ⟨3, ![1, 256, 128]⟩
abbrev S128x512 : Shape := ⟨2, ![128, 512]⟩
abbrev S128x1 : Shape := ⟨2, ![128, 1]⟩
abbrev S1x512 : Shape := ⟨2, ![1, 512]⟩
abbrev S1 : Shape := ⟨1, ![1]⟩
abbrev S256x512 : Shape := ⟨2, ![256, 512]⟩
abbrev S2x256x256 : Shape := ⟨3, ![2, 256, 256]⟩
abbrev S512x256 : Shape := ⟨2, ![512, 256]⟩
abbrev S512x512 : Shape := ⟨2, ![512, 512]⟩
abbrev S1x512x512 : Shape := ⟨3, ![1, 512, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S512 : Shape := ⟨1, ![512]⟩
abbrev S1x256x512 : Shape := ⟨3, ![1, 256, 512]⟩
abbrev S144x512 : Shape := ⟨2, ![144, 512]⟩
abbrev S512x1 : Shape := ⟨2, ![512, 1]⟩

abbrev nBuf : Space → Nat
  | .hbm => 25
  | .vmem => 14
  | .smem => 1
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S1x1, .f32⟩
  | .hbm, ⟨4, _⟩ => ⟨S128, .f32⟩
  | .hbm, ⟨5, _⟩ => ⟨S2x8192x1024, .f32⟩
  | .hbm, ⟨6, _⟩ => ⟨S2x1024x8192, .f32⟩
  | .hbm, ⟨7, _⟩ => ⟨S2x8192x1024, .f32⟩
  | .hbm, ⟨8, _⟩ => ⟨S2x1024x8192, .f32⟩
  | .hbm, ⟨9, _⟩ => ⟨S16384x1024, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S1x128, .f32⟩
  | .hbm, ⟨24, _⟩ => ⟨S16384x1024, .f32⟩
  | .local _ .vmem, ⟨0, _⟩ => ⟨S1x1, .f32⟩
  | .local _ .vmem, ⟨1, _⟩ => ⟨S1x128, .f32⟩
  | .local _ .vmem, ⟨2, _⟩ => ⟨S512x128, .f32⟩
  | .local _ .vmem, ⟨3, _⟩ => ⟨S512x128, .f32⟩
  | .local _ .vmem, ⟨4, _⟩ => ⟨S1x128x8192, .f32⟩
  | .local _ .vmem, ⟨5, _⟩ => ⟨S1x128x8192, .f32⟩
  | .local _ .vmem, ⟨6, _⟩ => ⟨S1x128x8192, .f32⟩
  | .local _ .vmem, ⟨7, _⟩ => ⟨S1x128x8192, .f32⟩
  | .local _ .vmem, ⟨8, _⟩ => ⟨S512x128, .f32⟩
  | .local _ .vmem, ⟨9, _⟩ => ⟨S512x128, .f32⟩
  | .local _ .vmem, ⟨10, _⟩ => ⟨S32x256x256, .bf16⟩
  | .local _ .vmem, ⟨11, _⟩ => ⟨S32x128x256, .bf16⟩
  | .local _ .vmem, ⟨12, _⟩ => ⟨S2x512x512, .f32⟩
  | .local _ .vmem, ⟨13, _⟩ => ⟨S2x512x512, .f32⟩
  | .local _ .smem, ⟨0, _⟩ => ⟨S8, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 8, 16], ![false, false, false]⟩

def k0_off1 (i : grid0.Coords) : Fin 1 → Nat :=
  let arg1 : BitVec 32 := BitVec.ofNat 32 (i 1).val
  let v36 : Index := Scalar.indexCast arg1
  ![v36.toNat]
def k0_off2 (i : grid0.Coords) : Fin 3 → Nat :=
  let arg2 : BitVec 32 := BitVec.ofNat 32 (i 2).val
  let c2_i32_20 : BitVec 32 := 2#32
  let v110 : BitVec 32 := Scalar.muli arg2 c2_i32_20
  let c30_i32 : BitVec 32 := 30#32
  let v111 : BitVec 32 := Scalar.minsi v110 c30_i32
  let v112 : Index := Scalar.indexCast v111
  let c0_21 : Index := 0#32
  let c0_22 : Index := 0#32
  ![v112.toNat, 0, 0]
def k0_off3 : Fin 3 → Nat :=
  let c0_i32_30 : BitVec 32 := 0#32
  let c30_i32_31 : BitVec 32 := 30#32
  let v123 : BitVec 32 := Scalar.minsi c0_i32_30 c30_i32_31
  let v124 : Index := Scalar.indexCast v123
  let c0_32 : Index := 0#32
  let c0_33 : Index := 0#32
  ![v124.toNat, 0, 0]
def k0_off4 (i : grid0.Coords) (c0_i32_121 : BitVec 32) : Fin 3 → Nat :=
  let arg2 : BitVec 32 := BitVec.ofNat 32 (i 2).val
  let c2_i32_119 : BitVec 32 := 2#32
  let v415 : BitVec 32 := Scalar.muli arg2 c2_i32_119
  let c30_i32_120 : BitVec 32 := 30#32
  let v416 : BitVec 32 := Scalar.minsi v415 c30_i32_120
  let v417 : BitVec 32 := Scalar.addi v416 c0_i32_121
  let v418 : Index := Scalar.indexCast v417
  let c0_122 : Index := 0#32
  let c0_123 : Index := 0#32
  ![v418.toNat, 0, 0]
@[reducible] def k0_t1_loop (i : grid0.Coords) : Scf.Loop 32 :=
  let c0_i32_153 : BitVec 32 := 0#32
  let arg2 : BitVec 32 := BitVec.ofNat 32 (i 2).val
  let c1_i32_151 : BitVec 32 := 1#32
  let v477 : BitVec 32 := Scalar.addi arg2 c1_i32_151
  let c2_i32_152 : BitVec 32 := 2#32
  let v478 : BitVec 32 := Scalar.divsi v477 c2_i32_152
  let v479 : BitVec 32 := Scalar.subi v478 c0_i32_153
  let c1_i32_154 : BitVec 32 := 1#32
  let v481 : BitVec 32 := Scalar.divsi v479 c1_i32_154
  let v482 : BitVec 32 := Scalar.muli v481 c1_i32_154
  let v483 : BitVec 32 := Scalar.addi c0_i32_153 v482
  let c1_i32_155 : BitVec 32 := 1#32
  ⟨c0_i32_153, v483, c1_i32_155⟩
def k0_off5 (i : grid0.Coords) (k0_t1 : Fin (k0_t1_loop i).trips) (c1_i32_168 : BitVec 32) : Fin 3 → Nat :=
  let c2_i32_167 : BitVec 32 := 2#32
  let c0_i32_153 : BitVec 32 := 0#32
  let c1_i32_155 : BitVec 32 := 1#32
  let arg14 : BitVec 32 := Scf.iv c0_i32_153 c1_i32_155 k0_t1
  let v516 : BitVec 32 := Scalar.muli c2_i32_167 arg14
  let v517 : BitVec 32 := Scalar.addi v516 c1_i32_168
  let c2_i32_169 : BitVec 32 := 2#32
  let v518 : BitVec 32 := Scalar.muli v517 c2_i32_169
  let c30_i32_170 : BitVec 32 := 30#32
  let v519 : BitVec 32 := Scalar.minsi v518 c30_i32_170
  let v520 : Index := Scalar.indexCast v519
  let c0_171 : Index := 0#32
  let c0_172 : Index := 0#32
  ![v520.toNat, 0, 0]
def k0_off6 (i : grid0.Coords) (k0_t1 : Fin (k0_t1_loop i).trips) (c0_i32_202 : BitVec 32) : Fin 3 → Nat :=
  let c2_i32_185 : BitVec 32 := 2#32
  let c0_i32_153 : BitVec 32 := 0#32
  let c1_i32_155 : BitVec 32 := 1#32
  let arg14 : BitVec 32 := Scf.iv c0_i32_153 c1_i32_155 k0_t1
  let v603 : BitVec 32 := Scalar.muli c2_i32_185 arg14
  let c2_i32_200 : BitVec 32 := 2#32
  let v643 : BitVec 32 := Scalar.muli v603 c2_i32_200
  let c30_i32_201 : BitVec 32 := 30#32
  let v644 : BitVec 32 := Scalar.minsi v643 c30_i32_201
  let v645 : BitVec 32 := Scalar.addi v644 c0_i32_202
  let v646 : Index := Scalar.indexCast v645
  let c0_203 : Index := 0#32
  let c0_204 : Index := 0#32
  ![v646.toNat, 0, 0]
def k0_off7 (i : grid0.Coords) (k0_t1 : Fin (k0_t1_loop i).trips) (c0_i32_270 : BitVec 32) : Fin 3 → Nat :=
  let c2_i32_252 : BitVec 32 := 2#32
  let c0_i32_153 : BitVec 32 := 0#32
  let c1_i32_155 : BitVec 32 := 1#32
  let arg14 : BitVec 32 := Scf.iv c0_i32_153 c1_i32_155 k0_t1
  let v807 : BitVec 32 := Scalar.muli c2_i32_252 arg14
  let c1_i32_253 : BitVec 32 := 1#32
  let v808 : BitVec 32 := Scalar.addi v807 c1_i32_253
  let c2_i32_268 : BitVec 32 := 2#32
  let v848 : BitVec 32 := Scalar.muli v808 c2_i32_268
  let c30_i32_269 : BitVec 32 := 30#32
  let v849 : BitVec 32 := Scalar.minsi v848 c30_i32_269
  let v850 : BitVec 32 := Scalar.addi v849 c0_i32_270
  let v851 : Index := Scalar.indexCast v850
  let c0_271 : Index := 0#32
  let c0_272 : Index := 0#32
  ![v851.toNat, 0, 0]
@[reducible] def k0_t2_loop (i : grid0.Coords) : Scf.Loop 32 :=
  let c0_i32_153 : BitVec 32 := 0#32
  let arg2 : BitVec 32 := BitVec.ofNat 32 (i 2).val
  let c1_i32_151 : BitVec 32 := 1#32
  let v477 : BitVec 32 := Scalar.addi arg2 c1_i32_151
  let c2_i32_152 : BitVec 32 := 2#32
  let v478 : BitVec 32 := Scalar.divsi v477 c2_i32_152
  let v479 : BitVec 32 := Scalar.subi v478 c0_i32_153
  let c1_i32_154 : BitVec 32 := 1#32
  let v481 : BitVec 32 := Scalar.divsi v479 c1_i32_154
  let v482 : BitVec 32 := Scalar.muli v481 c1_i32_154
  let v483 : BitVec 32 := Scalar.addi c0_i32_153 v482
  let v480 : BitVec 32 := Scalar.addi c0_i32_153 v479
  let c1_i32_156 : BitVec 32 := 1#32
  ⟨v483, v480, c1_i32_156⟩
def k0_off8 (i : grid0.Coords) (k0_t2 : Fin (k0_t2_loop i).trips) (c1_i32_168 : BitVec 32) : Fin 3 → Nat :=
  let c2_i32_167 : BitVec 32 := 2#32
  let c0_i32_153 : BitVec 32 := 0#32
  let arg2 : BitVec 32 := BitVec.ofNat 32 (i 2).val
  let c1_i32_151 : BitVec 32 := 1#32
  let v477 : BitVec 32 := Scalar.addi arg2 c1_i32_151
  let c2_i32_152 : BitVec 32 := 2#32
  let v478 : BitVec 32 := Scalar.divsi v477 c2_i32_152
  let v479 : BitVec 32 := Scalar.subi v478 c0_i32_153
  let c1_i32_154 : BitVec 32 := 1#32
  let v481 : BitVec 32 := Scalar.divsi v479 c1_i32_154
  let v482 : BitVec 32 := Scalar.muli v481 c1_i32_154
  let v483 : BitVec 32 := Scalar.addi c0_i32_153 v482
  let c1_i32_156 : BitVec 32 := 1#32
  let arg14 : BitVec 32 := Scf.iv v483 c1_i32_156 k0_t2
  let v516 : BitVec 32 := Scalar.muli c2_i32_167 arg14
  let v517 : BitVec 32 := Scalar.addi v516 c1_i32_168
  let c2_i32_169 : BitVec 32 := 2#32
  let v518 : BitVec 32 := Scalar.muli v517 c2_i32_169
  let c30_i32_170 : BitVec 32 := 30#32
  let v519 : BitVec 32 := Scalar.minsi v518 c30_i32_170
  let v520 : Index := Scalar.indexCast v519
  let c0_171 : Index := 0#32
  let c0_172 : Index := 0#32
  ![v520.toNat, 0, 0]
def k0_off9 (i : grid0.Coords) (k0_t2 : Fin (k0_t2_loop i).trips) (c0_i32_202 : BitVec 32) : Fin 3 → Nat :=
  let c2_i32_185 : BitVec 32 := 2#32
  let c0_i32_153 : BitVec 32 := 0#32
  let arg2 : BitVec 32 := BitVec.ofNat 32 (i 2).val
  let c1_i32_151 : BitVec 32 := 1#32
  let v477 : BitVec 32 := Scalar.addi arg2 c1_i32_151
  let c2_i32_152 : BitVec 32 := 2#32
  let v478 : BitVec 32 := Scalar.divsi v477 c2_i32_152
  let v479 : BitVec 32 := Scalar.subi v478 c0_i32_153
  let c1_i32_154 : BitVec 32 := 1#32
  let v481 : BitVec 32 := Scalar.divsi v479 c1_i32_154
  let v482 : BitVec 32 := Scalar.muli v481 c1_i32_154
  let v483 : BitVec 32 := Scalar.addi c0_i32_153 v482
  let c1_i32_156 : BitVec 32 := 1#32
  let arg14 : BitVec 32 := Scf.iv v483 c1_i32_156 k0_t2
  let v603 : BitVec 32 := Scalar.muli c2_i32_185 arg14
  let c2_i32_200 : BitVec 32 := 2#32
  let v643 : BitVec 32 := Scalar.muli v603 c2_i32_200
  let c30_i32_201 : BitVec 32 := 30#32
  let v644 : BitVec 32 := Scalar.minsi v643 c30_i32_201
  let v645 : BitVec 32 := Scalar.addi v644 c0_i32_202
  let v646 : Index := Scalar.indexCast v645
  let c0_203 : Index := 0#32
  let c0_204 : Index := 0#32
  ![v646.toNat, 0, 0]
def k0_off10 (i : grid0.Coords) (k0_t2 : Fin (k0_t2_loop i).trips) (c0_i32_270 : BitVec 32) : Fin 3 → Nat :=
  let c2_i32_252 : BitVec 32 := 2#32
  let c0_i32_153 : BitVec 32 := 0#32
  let arg2 : BitVec 32 := BitVec.ofNat 32 (i 2).val
  let c1_i32_151 : BitVec 32 := 1#32
  let v477 : BitVec 32 := Scalar.addi arg2 c1_i32_151
  let c2_i32_152 : BitVec 32 := 2#32
  let v478 : BitVec 32 := Scalar.divsi v477 c2_i32_152
  let v479 : BitVec 32 := Scalar.subi v478 c0_i32_153
  let c1_i32_154 : BitVec 32 := 1#32
  let v481 : BitVec 32 := Scalar.divsi v479 c1_i32_154
  let v482 : BitVec 32 := Scalar.muli v481 c1_i32_154
  let v483 : BitVec 32 := Scalar.addi c0_i32_153 v482
  let c1_i32_156 : BitVec 32 := 1#32
  let arg14 : BitVec 32 := Scf.iv v483 c1_i32_156 k0_t2
  let v807 : BitVec 32 := Scalar.muli c2_i32_252 arg14
  let c1_i32_253 : BitVec 32 := 1#32
  let v808 : BitVec 32 := Scalar.addi v807 c1_i32_253
  let c2_i32_268 : BitVec 32 := 2#32
  let v848 : BitVec 32 := Scalar.muli v808 c2_i32_268
  let c30_i32_269 : BitVec 32 := 30#32
  let v849 : BitVec 32 := Scalar.minsi v848 c30_i32_269
  let v850 : BitVec 32 := Scalar.addi v849 c0_i32_270
  let v851 : Index := Scalar.indexCast v850
  let c0_271 : Index := 0#32
  let c0_272 : Index := 0#32
  ![v851.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S2x8192x8x2x64 : Shape := ⟨5, ![2, 8192, 8, 2, 64]⟩
abbrev S2x8192x8x128 : Shape := ⟨4, ![2, 8192, 8, 128]⟩
abbrev S1x1 : Shape := ⟨2, ![1, 1]⟩
abbrev S128 : Shape := ⟨1, ![128]⟩
abbrev S8 : Shape := ⟨1, ![8]⟩
abbrev S_ : Shape := ⟨0, ![]⟩
abbrev S8192 : Shape := ⟨1, ![8192]⟩
abbrev S2x8x2x8192x8192 : Shape := ⟨5, ![2, 8, 2, 8192, 8192]⟩
abbrev S8192x1 : Shape := ⟨2, ![8192, 1]⟩
abbrev S1x8192 : Shape := ⟨2, ![1, 8192]⟩
abbrev S8192x8192 : Shape := ⟨2, ![8192, 8192]⟩
abbrev S1x8x1x1x1 : Shape := ⟨5, ![1, 8, 1, 1, 1]⟩
abbrev S1x1x1x8192x8192 : Shape := ⟨5, ![1, 1, 1, 8192, 8192]⟩
abbrev S1x8x1x8192x8192 : Shape := ⟨5, ![1, 8, 1, 8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S1x1, .f32⟩
  | .hbm, ⟨4, _⟩ => ⟨S128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8192, .i32⟩
  | .hbm, ⟨19, _⟩ => ⟨S2x8x2x8192x8192, .f32⟩
  | .hbm, ⟨20, _⟩ => ⟨S_, .f32⟩
  | .hbm, ⟨21, _⟩ => ⟨S2x8x2x8192x8192, .f32⟩
  | .hbm, ⟨22, _⟩ => ⟨S2x8x2x8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i32⟩
  | .hbm, ⟨28, _⟩ => ⟨S1x8x1x1x1, .f32⟩
  | .hbm, ⟨29, _⟩ => ⟨S8192x8192, .f32⟩
  | .hbm, ⟨30, _⟩ => ⟨S1x1x1x8192x8192, .f32⟩
  | .hbm, ⟨31, _⟩ => ⟨S1x8x1x8192x8192, .f32⟩
  | .hbm, ⟨32, _⟩ => ⟨S1x8x1x8192x8192, .f32⟩
  | .hbm, ⟨33, _⟩ => ⟨S1x8x1x8192x8192, .f32⟩
  | .hbm, ⟨34, _⟩ => ⟨S2x8x2x8192x8192, .f32⟩
  | .hbm, ⟨35, _⟩ => ⟨S2x8x2x8192x8192, .f32⟩
  | .hbm, ⟨36, _⟩ => ⟨S_, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S2x8x2x8192x8192, .i1⟩
  | .hbm, ⟨42, _⟩ => ⟨S2x8x2x8192x8192, .f32⟩
  | .hbm, ⟨43, _⟩ => ⟨S2x8x2x8192x8192, .f32⟩
  | .hbm, ⟨44, _⟩ => ⟨S_, .f32⟩
  | .hbm, ⟨45, _⟩ => ⟨S2x8x2x8192, .f32⟩
  | .hbm, ⟨46, _⟩ => ⟨S_, .f32⟩
  | .hbm, ⟨47, _⟩ => ⟨S2x8x2x8192, .f32⟩
  | .hbm, ⟨48, _⟩ => ⟨S2x8x2x8192, .f32⟩
  | .hbm, ⟨49, _⟩ => ⟨S2x8x2x8192x1, .f32⟩
  | .hbm, ⟨50, _⟩ => ⟨S2x8x2x8192x8192, .f32⟩
  | .hbm, ⟨51, _⟩ => ⟨S2x8x2x8192x8192, .f32⟩
  | .hbm, ⟨52, _⟩ => ⟨S2x8x2x8192x8192, .f32⟩
  | .hbm, ⟨53, _⟩ => ⟨S_, .f32⟩
  | .hbm, ⟨54, _⟩ => ⟨S2x8x2x8192, .f32⟩
  | .hbm, ⟨55, _⟩ => ⟨S2x8x2x8192x1, .f32⟩
  | .hbm, ⟨56, _⟩ => ⟨S2x8x2x8192x8192, .f32⟩
  | .hbm, ⟨57, _⟩ => ⟨S2x8x2x8192x8192, .f32⟩
  | .hbm, ⟨58, _⟩ => ⟨S2x8x1x8192x8192, .f32⟩
  | .hbm, ⟨59, _⟩ => ⟨S2x8x8192x8192, .f32⟩
  | .hbm, ⟨60, _⟩ => ⟨S_, .f32⟩
  | .hbm, ⟨61, _⟩ => ⟨S2x8x1x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x128x8192, .f32⟩
  | .hbm, ⟨67, _⟩ => ⟨S2x8192x8x128, .f32⟩
  | .hbm, ⟨68, _⟩ => ⟨S2x8192x8x128, .f32⟩
  | .hbm, ⟨69, _⟩ => ⟨S_, .f32⟩
  | .hbm, ⟨70, _⟩ => ⟨S2x8192x8, .f32⟩
  | .hbm, ⟨71, _⟩ => ⟨S2x8192x8x1, .f32⟩
  | .hbm, ⟨72, _⟩ => ⟨S_, .f32⟩
  | .hbm, ⟨73, _⟩ => ⟨S2x8192x8x1, .f32⟩
  | .hbm, ⟨74, _⟩ => ⟨S2x8192x8x1, .f32⟩
  | .hbm, ⟨75, _⟩ => ⟨S_, .f32⟩
  | .hbm, ⟨76, _⟩ => ⟨S2x8192x8x1, .f32⟩
  | .hbm, ⟨77, _⟩ => ⟨S2x8192x8x1, .f32⟩
  | .hbm, ⟨78, _⟩ => ⟨S2x8192x8x1, .f32⟩
  | .hbm, ⟨79, _⟩ => ⟨S2x8192x8x128, .f32⟩
  | .hbm, ⟨80, _⟩ => ⟨S2x8192x8x128, .f32⟩
  | .hbm, ⟨81, _⟩ => ⟨S1x1x1x128, .f32⟩
  | .hbm, ⟨82, _⟩ => ⟨S2x8192x8x128, .f32⟩
  | .hbm, ⟨83, _⟩ => ⟨S2x8192x8x128, .f32⟩
  | .hbm, ⟨84, _⟩ => ⟨S_, .f32⟩
  | .hbm, ⟨85, _⟩ => ⟨S2x8192x8x128, .f32⟩
  | .hbm, ⟨86, _⟩ => ⟨S2x8192x8x128, .f32⟩
  | .hbm, ⟨87, _⟩ => ⟨S16384x1024, .f32⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x4096 : Shape := ⟨3, ![1, 1024, 4096]⟩
abbrev S16384x1024 : Shape := ⟨2, ![16384, 1024]⟩
abbrev S1024 : Shape := ⟨1, ![1024]⟩
abbrev S1024x4096 : Shape := ⟨2, ![1024, 4096]⟩
abbrev S1024x1024 : Shape := ⟨2, ![1024, 1024]⟩
abbrev S2x1024x8192 : Shape := ⟨3, ![2, 1024, 8192]⟩
abbrev S256x1024 : Shape := ⟨2, ![256, 1024]⟩
abbrev S1x1024x256 : Shape := ⟨3, ![1, 1024, 256]⟩
abbrev S256 : Shape := ⟨1, ![256]⟩
abbrev S256x1 : Shape := ⟨2, ![256, 1]⟩
abbrev S1024x256 : Shape := ⟨2, ![1024, 256]⟩
abbrev S2x16x64x8192 : Shape := ⟨4, ![2, 16, 64, 8192]⟩
abbrev S2x8192x16x64 : Shape := ⟨4, ![2, 8192, 16, 64]⟩
abbrev S1x2x8192x16x64 : Shape := ⟨5, ![1, 2, 8192, 16, 64]⟩

abbrev nBuf : Space → Nat
  | .hbm => 27
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S16384x1024, .f32⟩
  | .hbm, ⟨4, _⟩ => ⟨S1024, .f32⟩
  | .hbm, ⟨5, _⟩ => ⟨S1024x4096, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S16384x1024, .f32⟩
  | .hbm, ⟨18, _⟩ => ⟨S2x1024x8192, .f32⟩
  | .hbm, ⟨19, _⟩ => ⟨S2x1024x8192, .f32⟩
  | .hbm, ⟨20, _⟩ => ⟨S16384x1024, .f32⟩
  | .hbm, ⟨21, _⟩ => ⟨S2x16x64x8192, .f32⟩
  | .hbm, ⟨22, _⟩ => ⟨S2x8192x16x64, .f32⟩
  | .hbm, ⟨23, _⟩ => ⟨S2x16x64x8192, .f32⟩
  | .hbm, ⟨24, _⟩ => ⟨S2x8192x16x64, .f32⟩
  | .hbm, ⟨25, _⟩ => ⟨S1x2x8192x16x64, .f32⟩
  | .hbm, ⟨26, _⟩ => ⟨S1x2x8192x16x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S256x1024, .f32⟩
  | .local _ .vmem, ⟨14, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v14_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S2x8192x16x64 : Shape := ⟨4, ![2, 8192, 16, 64]⟩
abbrev S16384x1024 : Shape := ⟨2, ![16384, 1024]⟩
abbrev S1x2x8192x16x64 : Shape := ⟨5, ![1, 2, 8192, 16, 64]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x4096, .f32⟩
  | .hbm, ⟨21, _⟩ => ⟨S2x8192x4096, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x16x64, .f32⟩
  | .hbm, ⟨27, _⟩ => ⟨S2x8192x16x64, .f32⟩
  | .hbm, ⟨28, _⟩ => ⟨S16384x1024, .f32⟩
  | .hbm, ⟨29, _⟩ => ⟨S1x2x8192x16x64, .f32⟩
  | .hbm, ⟨30, _⟩ => ⟨S1x2x8192x16x64, .f32⟩
  | .hbm, ⟨31, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x1024 : Shape := ⟨3, ![1, 1024, 1024]⟩
abbrev S1024 : Shape := ⟨1, ![1024]⟩
abbrev S16384x1024 : Shape := ⟨2, ![16384, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x1024x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x8192x1024 : Shape := ⟨3, ![2, 8192, 1024]⟩
abbrev S1x1024x1024 : Shape := ⟨3, ![1, 1024, 1024]⟩
abbrev S1024 : Shape := ⟨1, ![1024]⟩
abbrev S_ : Shape := ⟨0, ![]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x1024x1024, .f32⟩
  | .hbm, ⟨4, _⟩ => ⟨S1024, .f32⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S1024x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S16384x1024 : Shape := ⟨2, ![16384, 1024]⟩
abbrev S1024 : Shape := ⟨1, ![1024]⟩
abbrev S1024x1024 : Shape := ⟨2, ![1024, 1024]⟩
abbrev S1024x4096 : Shape := ⟨2, ![1024, 4096]⟩
abbrev S2x1024x8192 : Shape := ⟨3, ![2, 1024, 8192]⟩
abbrev S131072x128 : Shape := ⟨2, ![131072, 128]⟩
abbrev S256x1024 : Shape := ⟨2, ![256, 1024]⟩
abbrev S1x1024x256 : Shape := ⟨3, ![1, 1024, 256]⟩
abbrev S2048x128 : Shape := ⟨2, ![2048, 128]⟩
abbrev S256 : Shape := ⟨1, ![256]⟩
abbrev S256x1 : Shape := ⟨2, ![256, 1]⟩
abbrev S1024x256 : Shape := ⟨2, ![1024, 256]⟩
abbrev S256x128 : Shape := ⟨2, ![256, 128]⟩
abbrev S2x8x2x64x8192 : Shape := ⟨5, ![2, 8, 2, 64, 8192]⟩
abbrev S2x8192x8x2x64 : Shape := ⟨5, ![2, 8192, 8, 2, 64]⟩
abbrev S1x2x8192x8x2x64 : Shape := ⟨6, ![1, 2, 8192, 8, 2, 64]⟩
abbrev S2x8192x8x128 : Shape := ⟨4, ![2, 8192, 8, 128]⟩
abbrev S1x2x8192x8x128 : Shape := ⟨5, ![1, 2, 8192, 8, 128]⟩

abbrev nBuf : Space → Nat
  | .hbm => 37
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S1024x1024, .bf16⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S16384x1024, .f32⟩
  | .hbm, ⟨27, _⟩ => ⟨S16384x1024, .f32⟩
  | .hbm, ⟨28, _⟩ => ⟨S2x1024x8192, .f32⟩
  | .hbm, ⟨29, _⟩ => ⟨S131072x128, .f32⟩
  | .hbm, ⟨30, _⟩ => ⟨S2x1024x8192, .f32⟩
  | .hbm, ⟨31, _⟩ => ⟨S16384x1024, .f32⟩
  | .hbm, ⟨32, _⟩ => ⟨S2x8x2x64x8192, .f32⟩
  | .hbm, ⟨33, _⟩ => ⟨S2x8192x8x2x64, .f32⟩
  | .hbm, ⟨34, _⟩ => ⟨S1x2x8192x8x2x64, .f32⟩
  | .hbm, ⟨35, _⟩ => ⟨S2x8192x8x128, .f32⟩
  | .hbm, ⟨36, _⟩ => ⟨S1x2x8192x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024x256, .f32⟩
  | .local _ .vmem, ⟨18, _⟩ => ⟨S1x1024x256, .f32⟩
  | .local _ .vmem, ⟨19, _⟩ => ⟨S2048x128, .f32⟩
  | .local _ .vmem, ⟨20, _⟩ => ⟨S2048x128, .f32⟩
  | .local _ .vmem, ⟨21, _⟩ => ⟨S1x1024x256, .f32⟩
  | .local _ .vmem, ⟨22, _⟩ => ⟨S1x1024x256, .f32⟩
  | .local _ .vmem, ⟨23, _⟩ => ⟨S256x1024, .f32⟩
  | .local _ .vmem, ⟨24, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev main_v20_4 : Ref sig .tc := ⟨.hbm, 30, rfl⟩
abbrev main_v20_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S_ : Shape := ⟨0, ![]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S2x8192x8x2x64 : Shape := ⟨5, ![2, 8192, 8, 2, 64]⟩
abbrev S2x8192x8x128 : Shape := ⟨4, ![2, 8192, 8, 128]⟩
abbrev S16384x1024 : Shape := ⟨2, ![16384, 1024]⟩
abbrev S1x2x8192x8x2x64 : Shape := ⟨6, ![1, 2, 8192, 8, 2, 64]⟩
abbrev S1x2x8192x8x128 : Shape := ⟨5, ![1, 2, 8192, 8, 128]⟩
abbrev S2x1024x8192 : Shape := ⟨3, ![2, 1024, 8192]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S1024x1024, .f32⟩
  | .hbm, ⟨17, _⟩ => ⟨S2x8192x1024, .f32⟩
  | .hbm, ⟨18, _⟩ => ⟨S2x8192x1024, .f32⟩
  | .hbm, ⟨19, _⟩ => ⟨S1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S1024x4096, .f32⟩
  | .hbm, ⟨37, _⟩ => ⟨S2x8192x4096, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x8x2x64, .f32⟩
  | .hbm, ⟨43, _⟩ => ⟨S2x8192x8x128, .f32⟩
  | .hbm, ⟨44, _⟩ => ⟨S16384x1024, .f32⟩
  | .hbm, ⟨45, _⟩ => ⟨S16384x1024, .f32⟩
  | .hbm, ⟨46, _⟩ => ⟨S1x2x8192x8x2x64, .f32⟩
  | .hbm, ⟨47, _⟩ => ⟨S1x2x8192x8x128, .f32⟩
  | .hbm, ⟨48, _⟩ => ⟨S2x1024x8192, .f32⟩
  | .hbm, ⟨49, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel5.lean ====
abbrev S32x4x1024 : Shape := ⟨3, ![32, 4, 1024]⟩
abbrev S1x1024 : Shape := ⟨2, ![1, 1024]⟩
abbrev S1x1024x4096 : Shape := ⟨3, ![1, 1024, 4096]⟩
abbrev S128x1024 : Shape := ⟨2, ![128, 1024]⟩
abbrev S1024 : Shape := ⟨1, ![1024]⟩
abbrev S1024x4096 : Shape := ⟨2, ![1024, 4096]⟩
abbrev S1024x1024 : Shape := ⟨2, ![1024, 1024]⟩
abbrev S128 : Shape := ⟨1, ![128]⟩
abbrev S128x1 : Shape := ⟨2, ![128, 1]⟩
abbrev S32x4x16x64 : Shape := ⟨4, ![32, 4, 16, 64]⟩
abbrev S1x32x4x16x64 : Shape := ⟨5, ![1, 32, 4, 16, 64]⟩

abbrev nBuf : Space → Nat
  | .hbm => 23
  | .vmem => 10
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x4096, .f32⟩
  | .hbm, ⟨3, _⟩ => ⟨S128x1024, .f32⟩
  | .hbm, ⟨4, _⟩ => ⟨S1024, .f32⟩
  | .hbm, ⟨5, _⟩ => ⟨S1024x4096, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S32x4x16x64, .f32⟩
  | .hbm, ⟨20, _⟩ => ⟨S1x32x4x16x64, .f32⟩
  | .hbm, ⟨21, _⟩ => ⟨S32x4x16x64, .f32⟩
  | .hbm, ⟨22, _⟩ => ⟨S1x32x4x16x64, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S32x4x1024 : Shape := ⟨3, ![32, 4, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x4096 : Shape := ⟨2, ![1024, 4096]⟩
abbrev S32x4x4096 : Shape := ⟨3, ![32, 4, 4096]⟩
abbrev S32x4x16x64 : Shape := ⟨4, ![32, 4, 16, 64]⟩
abbrev S128x1024 : Shape := ⟨2, ![128, 1024]⟩
abbrev S1x32x4x16x64 : Shape := ⟨5, ![1, 32, 4, 16, 64]⟩

abbrev nBuf : Space → Nat
  | .hbm => 32
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S1024x4096, .f32⟩
  | .hbm, ⟨21, _⟩ => ⟨S32x4x4096, .f32⟩
  | .hbm, ⟨22, _⟩ => ⟨S32x4x1024, .f32⟩
  | .hbm, ⟨23, _⟩ => ⟨S32x4x1024, .f32⟩
  | .hbm, ⟨24, _⟩ => ⟨S32x4x1024, .f32⟩
  | .hbm, ⟨25, _⟩ => ⟨S32x4x1024, .f32⟩
  | .hbm, ⟨26, _⟩ => ⟨S32x4x16x64, .f32⟩
  | .hbm, ⟨27, _⟩ => ⟨S32x4x16x64, .f32⟩
  | .hbm, ⟨28, _⟩ => ⟨S128x1024, .f32⟩
  | .hbm, ⟨29, _⟩ => ⟨S1x32x4x16x64, .f32⟩
  | .hbm, ⟨30, _⟩ => ⟨S1x32x4x16x64, .f32⟩
  | .hbm, ⟨31, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel6.lean ====
abbrev S32x4x1024 : Shape := ⟨3, ![32, 4, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S128x1024 : Shape := ⟨2, ![128, 1024]⟩
abbrev S1024 : Shape := ⟨1, ![1024]⟩
abbrev S1024x1024 : Shape := ⟨2, ![1024, 1024]⟩
abbrev S1024x4096 : Shape := ⟨2, ![1024, 4096]⟩
abbrev S128 : Shape := ⟨1, ![128]⟩
abbrev S128x1 : Shape := ⟨2, ![128, 1]⟩
abbrev S32x4x8x2x64 : Shape := ⟨5, ![32, 4, 8, 2, 64]⟩
abbrev S1x32x4x8x2x64 : Shape := ⟨6, ![1, 32, 4, 8, 2, 64]⟩
abbrev S32x4x8x128 : Shape := ⟨4, ![32, 4, 8, 128]⟩
abbrev S1x32x4x8x128 : Shape := ⟨5, ![1, 32, 4, 8, 128]⟩

abbrev nBuf : Space → Nat
  | .hbm => 31
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S1024, .f32⟩
  | .hbm, ⟨10, _⟩ => ⟨S1024x1024, .f32⟩
  | .hbm, ⟨11, _⟩ => ⟨S1024x4096, .f32⟩
  | .hbm, ⟨12, _⟩ => ⟨S1024x1024, .bf16⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S32x4x8x2x64, .f32⟩
  | .hbm, ⟨28, _⟩ => ⟨S1x32x4x8x2x64, .f32⟩
  | .hbm, ⟨29, _⟩ => ⟨S32x4x8x128, .f32⟩
  | .hbm, ⟨30, _⟩ => ⟨S1x32x4x8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference6Ideal.lean ====
abbrev S32x4x1024 : Shape := ⟨3, ![32, 4, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S_ : Shape := ⟨0, ![]⟩
abbrev S1024x1024 : Shape := ⟨2, ![1024, 1024]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S1024x4096 : Shape := ⟨2, ![1024, 4096]⟩
abbrev S32x4x4096 : Shape := ⟨3, ![32, 4, 4096]⟩
abbrev S32x4x8x2x64 : Shape := ⟨5, ![32, 4, 8, 2, 64]⟩
abbrev S32x4x8x128 : Shape := ⟨4, ![32, 4, 8, 128]⟩
abbrev S128x1024 : Shape := ⟨2, ![128, 1024]⟩
abbrev S1x32x4x8x2x64 : Shape := ⟨6, ![1, 32, 4, 8, 2, 64]⟩
abbrev S1x32x4x8x128 : Shape := ⟨5, ![1, 32, 4, 8, 128]⟩

abbrev nBuf : Space → Nat
  | .hbm => 49
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S32x4x1024, .f32⟩
  | .hbm, ⟨10, _⟩ => ⟨S32x4x1024, .f32⟩
  | .hbm, ⟨11, _⟩ => ⟨S_, .f32⟩
  | .hbm, ⟨12, _⟩ => ⟨S32x4x1024, .f32⟩
  | .hbm, ⟨13, _⟩ => ⟨S32x4x1024, .f32⟩
  | .hbm, ⟨14, _⟩ => ⟨S32x4x1024, .f32⟩
  | .hbm, ⟨15, _⟩ => ⟨S32x4x1024, .f32⟩
  | .hbm, ⟨16, _⟩ => ⟨S1024x1024, .f32⟩
  | .hbm, ⟨17, _⟩ => ⟨S32x4x1024, .f32⟩
  | .hbm, ⟨18, _⟩ => ⟨S32x4x1024, .f32⟩
  | .hbm, ⟨19, _⟩ => ⟨S1024, .f32⟩
  | .hbm, ⟨20, _⟩ => ⟨S32x4x1024, .f32⟩
  | .hbm, ⟨21, _⟩ => ⟨S_, .f32⟩
  | .hbm, ⟨22, _⟩ => ⟨S32x4, .f32⟩
  | .hbm, ⟨23, _⟩ => ⟨S32x4x1, .f32⟩
  | .hbm, ⟨24, _⟩ => ⟨S_, .f32⟩
  | .hbm, ⟨25, _⟩ => ⟨S32x4x1, .f32⟩
  | .hbm, ⟨26, _⟩ => ⟨S32x4x1, .f32⟩
  | .hbm, ⟨27, _⟩ => ⟨S_, .f32⟩
  | .hbm, ⟨28, _⟩ => ⟨S32x4x1, .f32⟩
  | .hbm, ⟨29, _⟩ => ⟨S32x4x1, .f32⟩
  | .hbm, ⟨30, _⟩ => ⟨S32x4x1, .f32⟩
  | .hbm, ⟨31, _⟩ => ⟨S32x4x1024, .f32⟩
  | .hbm, ⟨32, _⟩ => ⟨S32x4x1024, .f32⟩
  | .hbm, ⟨33, _⟩ => ⟨S1x1x1024, .f32⟩
  | .hbm, ⟨34, _⟩ => ⟨S32x4x1024, .f32⟩
  | .hbm, ⟨35, _⟩ => ⟨S32x4x1024, .f32⟩
  | .hbm, ⟨36, _⟩ => ⟨S1024x4096, .f32⟩
  | .hbm, ⟨37, _⟩ => ⟨S32x4x4096, .f32⟩
  | .hbm, ⟨38, _⟩ => ⟨S32x4x1024, .f32⟩
  | .hbm, ⟨39, _⟩ => ⟨S32x4x1024, .f32⟩
  | .hbm, ⟨40, _⟩ => ⟨S32x4x1024, .f32⟩
  | .hbm, ⟨41, _⟩ => ⟨S32x4x1024, .f32⟩
  | .hbm, ⟨42, _⟩ => ⟨S32x4x8x2x64, .f32⟩
  | .hbm, ⟨43, _⟩ => ⟨S32x4x8x128, .f32⟩
  | .hbm, ⟨44, _⟩ => ⟨S128x1024, .f32⟩
  | .hbm, ⟨45, _⟩ => ⟨S128x1024, .f32⟩
  | .hbm, ⟨46, _⟩ => ⟨S1x32x4x8x2x64, .f32⟩
  | .hbm, ⟨47, _⟩ => ⟨S1x32x4x8x128, .f32⟩
  | .hbm, ⟨48, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel7.lean ====
abbrev S32x4x1024 : Shape := ⟨3, ![32, 4, 1024]⟩
abbrev S1x1024x1024 : Shape := ⟨3, ![1, 1024, 1024]⟩
abbrev S1024 : Shape := ⟨1, ![1024]⟩
abbrev S128x1024 : Shape := ⟨2, ![128, 1024]⟩
abbrev S1024x1024 : Shape := ⟨2, ![1024, 1024]⟩
abbrev S1x1024 : Shape := ⟨2, ![1, 1024]⟩
abbrev S128 : Shape := ⟨1, ![128]⟩
abbrev S128x1 : Shape := ⟨2, ![128, 1]⟩

abbrev nBuf : Space → Nat
  | .hbm => 12
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S1x1024x1024, .f32⟩
  | .hbm, ⟨4, _⟩ => ⟨S1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1024x1024, .bf16⟩
  | .local _ .vmem, ⟨4, _⟩ => ⟨S1x1024, .f32⟩
  | .local _ .vmem, ⟨5, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S32x4x1024 : Shape := ⟨3, ![32, 4, 1024]⟩
abbrev S1x1024x1024 : Shape := ⟨3, ![1, 1024, 1024]⟩
abbrev S1024 : Shape := ⟨1, ![1024]⟩
abbrev S_ : Shape := ⟨0, ![]⟩
abbrev S1024x1024 : Shape := ⟨2, ![1024, 1024]⟩
abbrev S32x4 : Shape := ⟨2, ![32, 4]⟩
abbrev S32x4x1 : Shape := ⟨3, ![32, 4, 1]⟩
abbrev S1x1x1024 : Shape := ⟨3, ![1, 1, 1024]⟩
abbrev S128x1024 : Shape := ⟨2, ![128, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S1x1024x1024, .f32⟩
  | .hbm, ⟨4, _⟩ => ⟨S1024, .f32⟩
  | .hbm, ⟨5, _⟩ => ⟨S32x4x1024, .f32⟩
  | .hbm, ⟨6, _⟩ => ⟨S32x4x1024, .f32⟩
  | .hbm, ⟨7, _⟩ => ⟨S_, .f32⟩
  | .hbm, ⟨8, _⟩ => ⟨S32x4x1024, .f32⟩
  | .hbm, ⟨9, _⟩ => ⟨S32x4x1024, .f32⟩
  | .hbm, ⟨10, _⟩ => ⟨S_, .f32⟩
  | .hbm, ⟨11, _⟩ => ⟨S32x4x1024, .f32⟩
  | .hbm, ⟨12, _⟩ => ⟨S32x4x1024, .f32⟩
  | .hbm, ⟨13, _⟩ => ⟨S32x4x1024, .f32⟩
  | .hbm, ⟨14, _⟩ => ⟨S32x4x1024, .f32⟩
  | .hbm, ⟨15, _⟩ => ⟨S1024x1024, .f32⟩
  | .hbm, ⟨16, _⟩ => ⟨S32x4x1024, .f32⟩
  | .hbm, ⟨17, _⟩ => ⟨S32x4x1024, .f32⟩
  | .hbm, ⟨18, _⟩ => ⟨S32x4x1024, .f32⟩
  | .hbm, ⟨19, _⟩ => ⟨S_, .f32⟩
  | .hbm, ⟨20, _⟩ => ⟨S32x4, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S32x4x1, .f32⟩
  | .hbm, ⟨29, _⟩ => ⟨S32x4x1024, .f32⟩
  | .hbm, ⟨30, _⟩ => ⟨S32x4x1024, .f32⟩
  | .hbm, ⟨31, _⟩ => ⟨S1x1x1024, .f32⟩
  | .hbm, ⟨32, _⟩ => ⟨S32x4x1024, .f32⟩
  | .hbm, ⟨33, _⟩ => ⟨S32x4x1024, .f32⟩
  | .hbm, ⟨34, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.KI.Model.lean ====
module

public import proofs.«01_k».proof.Proof.Gen.KernelIdeal.Frame

@[expose] public section

/-! The kernel's vector operations under short names: the scores of one key group, the column maxima, the bias of
    a group, and one update of a running maximum and accumulator. -/

set_option maxRecDepth 16384
noncomputable section

namespace Cert.KernelIdeal.Hand
open Cert.KernelIdeal Cert.KernelIdeal.Gen
open Idealize.ShloMosaic Idealize.ShloMosaic.TcCoe

variable {F : FTy → Type} [FloatOps F] [Named F]

/-- The fill constant of masked scores. -/
def neg : F .f32 := Named.named κ "mask" 0xF149F2CA#32

/-- Scores of the 512 keys of a group (as two stored blocks) against 512 queries. -/
def sc (kg : FVec F S2x256x256 .bf16) (q : FVec F S256x512 .bf16) : FVec F S512x512 .f32 :=
  matmul dot_S512x256_S256x512_S512x512_1_0_0_1_n_n none (shapeCast S512x256 kg shapeCasts_S2x256x256_S512x256) q
    (constant S512x512 .f32 0x00000000#32)

/-- The upper and lower 256 rows of a group's scores. -/
def up (T : FVec F S512x512 .f32) : FVec F S256x512 .f32 := extractStridedSlice S256x512 ![0, 0] T slices_S512x512_o0_0_S256x512
def lo (T : FVec F S512x512 .f32) : FVec F S256x512 .f32 := extractStridedSlice S256x512 ![256, 0] T slices_S512x512_o256_0_S256x512

/-- Column maxima of 256 rows, by halving down to eight rows. -/
def rmax (t : FVec F S256x512 .f32) : FVec F S1x512 .f32 :=
  let a := maximumf (extractStridedSlice S128x512 ![0, 0] t slices_S256x512_o0_0_S128x512) (extractStridedSlice S128x512 ![128, 0] t slices_S256x512_o128_0_S128x512)
  let b := maximumf (extractStridedSlice S64x512 ![0, 0] a slices_S128x512_o0_0_S64x512) (extractStridedSlice S64x512 ![64, 0] a slices_S128x512_o64_0_S64x512)
  let c := maximumf (extractStridedSlice S32x512 ![0, 0] b slices_S64x512_o0_0_S32x512) (extractStridedSlice S32x512 ![32, 0] b slices_S64x512_o32_0_S32x512)
  let d := maximumf (extractStridedSlice S16x512 ![0, 0] c slices_S32x512_o0_0_S16x512) (extractStridedSlice S16x512 ![16, 0] c slices_S32x512_o16_0_S16x512)
  let e := maximumf (extractStridedSlice S8x512 ![0, 0] d slices_S16x512_o0_0_S8x512) (extractStridedSlice S8x512 ![8, 0] d slices_S16x512_o8_0_S8x512)
  shapeCast S1x512 (multiReduction .maximumf [0] S512 e 0xFF800000#32 reduces_S8x512_S512 (.inl rfl) rfl) shapeCasts_S512_S1x512

/-- The bias of half `u` of group `g` relative to query tile `s`. -/
def bias (sl : F .f32) (g s u : BitVec 32) : F .f32 :=
  Scalar.mulf sl (Scalar.sitofp .f32 (Scalar.muli (Scalar.addi (Scalar.muli (Scalar.subi g s) 2#32) u) 256#32))

/-- The same, the fill constant from the query tile's own group on. -/
def biasM (sl : F .f32) (g s u : BitVec 32) : F .f32 := Scalar.select (Scalar.cmpi .slt g s) (bias sl g s u) neg

/-- The running maximum after a group. -/
def newM (m b0 b1 : FVec F S1x512 .f32) (c0 c1 : F .f32) : FVec F S1x512 .f32 :=
  maximumf (maximumf m (addf b0 (broadcast S1x512 c0))) (addf b1 (broadcast S1x512 c1))

/-- Weights of 256 keys. -/
def prob (t : FVec F S256x512 .f32) (m : FVec F S1x512 .f32) (c : F .f32) : FVec F S256x512 .bf16 :=
  truncf .bf16 (exp2 (subf t (broadcastTo S256x512 (subf m (broadcast S1x512 c)) broadcasts_S1x512_S256x512))) bitsLt_bf16_f32

/-- The values of a group, sixteen rows of ones below them. -/
def vrows (v0 v1 : FVec F S1x128x256 .bf16) : FVec F S144x512 .bf16 :=
  concatenate S144x512 0 [⟨S128x512, concatenate S128x512 1 [⟨S128x256, shapeCast S128x256 v0 shapeCasts_S1x128x256_S128x256⟩,
      ⟨S128x256, shapeCast S128x256 v1 shapeCasts_S1x128x256_S128x256⟩] concatenates_S128x256_S128x256_S128x512_d1⟩,
    ⟨S16x512, broadcast S16x512 (Scalar.ofBits .bf16 0x3F80#16)⟩] concatenates_S128x512_S16x512_S144x512_d0

/-- The weighted values of a group. -/
def pv (m : FVec F S1x512 .f32) (c0 c1 : F .f32) (t0 t1 : FVec F S256x512 .f32) (v0 v1 : FVec F S1x128x256 .bf16) :
    FVec F S144x512 .f32 :=
  matmul dot_S144x512_S512x512_S144x512_1_0_0_1_n_n none (vrows v0 v1)
    (concatenate S512x512 0 [⟨S256x512, prob t0 m c0⟩, ⟨S256x512, prob t1 m c1⟩] concatenates_S256x512_S256x512_S512x512_d0)
    (constant S144x512 .f32 0x00000000#32)

/-- The accumulator after a group: rescaled from maximum `m` to `m'`, the group's weighted values added. -/
def newA (m : FVec F S1x512 .f32) (acc : FVec F S144x512 .f32) (m' : FVec F S1x512 .f32) (c0 c1 : F .f32)
    (t0 t1 : FVec F S256x512 .f32) (v0 v1 : FVec F S1x128x256 .bf16) : FVec F S144x512 .f32 :=
  addf (mulf (broadcastTo S144x512 (exp2 (subf m m')) broadcasts_S1x512_S144x512) acc) (pv m' c0 c1 t0 t1 v0 v1)

/-- A group's scores as a slab of the scratch. -/
def slab (T : FVec F S512x512 .f32) : FVec F S1x512x512 .f32 := shapeCast S1x512x512 T shapeCasts_S512x512_S1x512x512

/-- The two slabs of a score scratch, the second written last. -/
def pcs (P0 P1 : FVec F S1x512x512 .f32) : List (View.Piece (Elt F) S2x512x512 .f32) :=
  [⟨Rect.unit (s := S2x512x512) ![1, 0, 0] S1x512x512.size inb_S2x512x512_S1x512x512_1_0_0, P1⟩,
   ⟨Rect.unit (s := S2x512x512) ![0, 0, 0] S1x512x512.size inb_S2x512x512_S1x512x512_0_0_0, P0⟩]

/-- What one trip carries: per score half the maximum and the accumulator, then the four column maxima of the next group. -/
abbrev Carry (F : FTy → Type) [FloatOps F] : Type :=
  FVec F S1x512 .f32 × FVec F S144x512 .f32 × FVec F S1x512 .f32 × FVec F S144x512 .f32 × FVec F S1x512 .f32 × FVec F S1x512 .f32 × FVec F S1x512 .f32 × FVec F S1x512 .f32

/-- The maximum and accumulator of one score half over a trip: group `g` from the scratch's scores, group `g'` from its keys. -/
def tripM (m b0 b1 : FVec F S1x512 .f32) (sl : F .f32) (g g' s : BitVec 32) (k1 : FVec F S2x256x256 .bf16) (q : FVec F S256x512 .bf16) :
    FVec F S1x512 .f32 :=
  newM (newM m b0 b1 (biasM sl g s 0#32) (biasM sl g s 1#32)) (rmax (up (sc k1 q))) (rmax (lo (sc k1 q))) (biasM sl g' s 0#32) (biasM sl g' s 1#32)

def tripA (m b0 b1 : FVec F S1x512 .f32) (acc : FVec F S144x512 .f32) (t0 t1 : FVec F S256x512 .f32) (sl : F .f32) (g g' s : BitVec 32)
    (k1 : FVec F S2x256x256 .bf16) (q : FVec F S256x512 .bf16) (a0 a1 v0 v1 : FVec F S1x128x256 .bf16) (u0 u1 : FVec F S256x512 .f32) : FVec F S144x512 .f32 :=
  newA (newM m b0 b1 (biasM sl g s 0#32) (biasM sl g s 1#32))
    (newA m acc (newM m b0 b1 (biasM sl g s 0#32) (biasM sl g s 1#32)) (biasM sl g s 0#32) (biasM sl g s 1#32) t0 t1 a0 a1)
    (tripM m b0 b1 sl g g' s k1 q) (biasM sl g' s 0#32) (biasM sl g' s 1#32) u0 u1 v0 v1

end Cert.KernelIdeal.Hand
end
-- ==== Proof.KI.Init.lean ====
module

public import proofs.«01_k».proof.Proof.KI.Model
public import proofs.«01_k».proof.Proof.Gen.KernelIdeal.Skeleton
public import Idealize.ShloMosaic.Lib.Pipeline.ValueKit.Tiles
public import Idealize.ShloMosaic.Lib.Pointwise.Index

@[expose] public section

set_option maxRecDepth 16384
noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

theorem inbK (n : Fin 32) : ∀ a, (![0, 0, 256 * n.val] : Fin 3 → ℕ) a + S1x128x256.size a ≤ S1x128x8192.size a := by
  intro a; fin_cases a
  · exact Nat.le_refl _
  · exact Nat.le_refl _
  · show 256 * n.val + 256 ≤ 8192
    have := n.isLt; omega

/-- The stored keys of one (batch, head): block `n`, row `j` holds key `256 n + j` in its first 128 columns and the row number
    in three of the others. -/
def KG (k : FVec F S1x128x8192 .f32) : FVec F S32x256x256 .bf16 := fun y =>
  if h : (y 2).val < 128 then k0_pay5 (View.ld k (Rect.unit (s := S1x128x8192) ![0, 0, 256 * (y 0).val] S1x128x256.size (inbK (y 0)))) (ix3 0 (y 1) ⟨(y 2).val, h⟩)
  else k0_pay6 (F := F) (ix3 0 (y 1) ⟨(y 2).val - 128, by have h' : (y 2).val < 256 := (y 2).isLt; omega⟩)

/-- The stored values: block `n`, column `j` holds value `256 n + j`. -/
def VG (v : FVec F S1x128x8192 .f32) : FVec F S32x128x256 .bf16 := fun y =>
  k0_pay7 (View.ld v (Rect.unit (s := S1x128x8192) ![0, 0, 256 * (y 0).val] S1x128x256.size (inbK (y 0)))) (ix3 0 (y 1) (y 2))

theorem tileK (k : FVec F S1x128x8192 .f32) (y : S32x256x256.Idx) (n m : ℕ) (hm : m = 256 * n)
    (inb : ∀ a, (![0, 0, m] : Fin 3 → ℕ) a + S1x128x256.size a ≤ S1x128x8192.size a) :
    View.TileAt (Val := Elt F) (S := S32x256x256) (e := .bf16) y ![n, 0, 0] S1x256x128.size
      (k0_pay5 (View.ld k (Rect.unit (s := S1x128x8192) ![0, 0, m] S1x128x256.size inb))) (KG k y) := by
  subst hm
  intro x hx
  have h0 : (y 0).val = n + (x 0).val := hx 0
  have h1 : (y 1).val = 0 + (x 1).val := hx 1
  have h2 : (y 2).val = 0 + (x 2).val := hx 2
  have hx0 : (x 0).val < 1 := (x 0).isLt
  have hx2 : (x 2).val < 128 := (x 2).isLt
  have e0 : (y 0).val = n := by omega
  subst e0
  have hlt : (y 2).val < 128 := by omega
  unfold KG
  rw [dif_pos hlt]
  congr 1
  funext a; apply Fin.ext
  fin_cases a
  · show (x 0).val = 0; omega
  · show (x 1).val = (y 1).val; omega
  · show (x 2).val = (y 2).val; omega

theorem tileP (k : FVec F S1x128x8192 .f32) (y : S32x256x256.Idx) (n : ℕ) :
    View.TileAt (Val := Elt F) (S := S32x256x256) (e := .bf16) y ![n, 0, 128] S1x256x128.size (k0_pay6 (F := F)) (KG k y) := by
  intro x hx
  have h1 : (y 1).val = 0 + (x 1).val := hx 1
  have h2 : (y 2).val = 128 + (x 2).val := hx 2
  have hx0 : (x 0).val < 1 := (x 0).isLt
  have hlt : ¬ (y 2).val < 128 := by omega
  unfold KG
  rw [dif_neg hlt]
  congr 1
  funext a; apply Fin.ext
  fin_cases a
  · show (x 0).val = 0; omega
  · show (x 1).val = (y 1).val; omega
  · show (x 2).val = (y 2).val - 128; omega

theorem tileV (v : FVec F S1x128x8192 .f32) (y : S32x128x256.Idx) (n m : ℕ) (hm : m = 256 * n)
    (inb : ∀ a, (![0, 0, m] : Fin 3 → ℕ) a + S1x128x256.size a ≤ S1x128x8192.size a) :
    View.TileAt (Val := Elt F) (S := S32x128x256) (e := .bf16) y ![n, 0, 0] S1x128x256.size
      (k0_pay7 (View.ld v (Rect.unit (s := S1x128x8192) ![0, 0, m] S1x128x256.size inb))) (VG v y) := by
  subst hm
  intro x hx
  have h0 : (y 0).val = n + (x 0).val := hx 0
  have h1 : (y 1).val = 0 + (x 1).val := hx 1
  have h2 : (y 2).val = 0 + (x 2).val := hx 2
  have hx0 : (x 0).val < 1 := (x 0).isLt
  have e0 : (y 0).val = n := by omega
  subst e0
  unfold VG
  congr 1
  funext a; apply Fin.ext
  fin_cases a
  · show (x 0).val = 0; omega
  · show (x 1).val = (y 1).val; omega
  · show (x 2).val = (y 2).val; omega

/-- The slope of the point's head. -/
def slp (i : grid0.Coords) (arg3 : Memref sig .tc .smem S8 .f32) (X3 : BufTy.Contents (Elt F) arg3.view.ty) : F .f32 :=
  View.readAt (Elt F) arg3.view (Rect.unit (s := S8) (k0_off1 i) S1.size (k0_off1_inb i)).toLoadRect X3 (Shape.Idx.first (numel1_S1.symm ▸ Nat.one_pos))
/-- The query block. -/
def ld6 (arg6 : Memref sig .tc .vmem S512x128 .f32) (X6 : BufTy.Contents (Elt F) arg6.view.ty) : Vec F S512x128 .f32 :=
  View.readAt (Elt F) arg6.view (Rect.unit (s := S512x128) ![0, 0] S512x128.size inb_S512x128_S512x128_0_0).toLoadRect X6

/-- The point's first tile of a (batch, head). -/
def isFirst (i : grid0.Coords) : Prop := Scalar.cmpi .ne (Scalar.extui (Scalar.cmpi .eq (BitVec.ofNat 32 (i 2).val) 0#32) : BitVec 32) 0#32 = 1#1

/-- Before the stores of a first tile anything may lie in the key and value scratch; at the others what that tile stored. -/
def Stored (i : grid0.Coords) (arg10 : Memref sig .tc .vmem S32x256x256 .bf16) (arg11 : Memref sig .tc .vmem S32x128x256 .bf16)
    (X10 : BufTy.Contents (Elt F) arg10.view.ty) (X11 : BufTy.Contents (Elt F) arg11.view.ty) (k v : FVec F S1x128x8192 .f32) : Prop :=
  ¬ isFirst i → arg10.view.read (Elt F) X10 = KG k ∧ arg11.view.read (Elt F) X11 = VG v

theorem part37 (𝒱 : Variants) (c : Dev nD) (bd : Option 𝒱.V) (i : grid0.Coords) (arg3 : Memref sig .tc .smem S8 .f32) (harg3 : arg3.IsWhole) (arg4 : Memref sig .tc .vmem S1x1 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S1x128x8192 .f32) (harg7 : arg7.IsWhole) (arg8 : Memref sig .tc .vmem S1x128x8192 .f32) (harg8 : arg8.IsWhole) (arg9 : Memref sig .tc .vmem S512x128 .f32) (harg9 : arg9.IsWhole) (arg10 : Memref sig .tc .vmem S32x256x256 .bf16) (harg10 : arg10.IsWhole) (arg11 : Memref sig .tc .vmem S32x128x256 .bf16) (harg11 : arg11.IsWhole) (arg12 : Memref sig .tc .vmem S2x512x512 .f32) (harg12 : arg12.IsWhole) (arg13 : Memref sig .tc .vmem S2x512x512 .f32) (harg13 : arg13.IsWhole) (X3 : BufTy.Contents (Elt F) arg3.view.ty) (X6 : BufTy.Contents (Elt F) arg6.view.ty) (X7 : BufTy.Contents (Elt F) arg7.view.ty) (X8 : BufTy.Contents (Elt F) arg8.view.ty)
    (X10 : BufTy.Contents (Elt F) arg10.view.ty) (X11 : BufTy.Contents (Elt F) arg11.view.ty) (E : Set ℕ)
    (k v : FVec F S1x128x8192 .f32) (hk : arg7.view.read (Elt F) X7 = k) (hv : arg8.view.read (Elt F) X8 = v)
    (hS : Stored i arg10 arg11 X10 X11 k v) :
    (iprop((arg3.view.loc (c : Thread nD τ) ↦[arg3.view.set]{fullShare} X3) ∗ (arg6.view.loc (c : Thread nD τ) ↦[arg6.view.set]{fullShare} X6) ∗
      (arg7.view.loc (c : Thread nD τ) ↦[arg7.view.set]{fullShare} X7) ∗ (arg8.view.loc (c : Thread nD τ) ↦[arg8.view.set]{fullShare} X8) ∗
      (arg10.view.loc (c : Thread nD τ) ↦[arg10.view.set]{fullShare} X10) ∗ (arg11.view.loc (c : Thread nD τ) ↦[arg11.view.set]{fullShare} X11)) : sProp 𝕄G)
    ⊢ wp frame (wpE (defs₀ (F := F)) 𝒱 (c : Thread nD τ) bd) E (k0_part37 (F := F) i arg3 harg3 arg4 harg4 arg5 harg5 arg6 harg6 arg7 harg7 arg8 harg8 arg9 harg9 arg10 harg10 arg11 harg11 arg12 harg12 arg13 harg13)
      (fun r => (iprop(∃ Y10 : BufTy.Contents (Elt F) arg10.view.ty, ∃ Y11 : BufTy.Contents (Elt F) arg11.view.ty,
        ⌜r = ⟨BitVec.ofNat 32 (i 1).val, BitVec.ofNat 32 (i 2).val, k0_pay201 (ld6 arg6 X6), iota .tc S128x1 32 [0] iota_S128x1_d0_w32, k0_pay202, k0_pay203,
            k0_pay204 (slp i arg3 X3), Scalar.ofBits .f32 0x00000000#32, k0_pay205⟩ ∧
          arg10.view.read (Elt F) Y10 = KG k ∧ arg11.view.read (Elt F) Y11 = VG v⌝ ∗
        (arg3.view.loc (c : Thread nD τ) ↦[arg3.view.set]{fullShare} X3) ∗ (arg6.view.loc (c : Thread nD τ) ↦[arg6.view.set]{fullShare} X6) ∗
        (arg7.view.loc (c : Thread nD τ) ↦[arg7.view.set]{fullShare} X7) ∗ (arg8.view.loc (c : Thread nD τ) ↦[arg8.view.set]{fullShare} X8) ∗
        (arg10.view.loc (c : Thread nD τ) ↦[arg10.view.set]{fullShare} Y10) ∗ (arg11.view.loc (c : Thread nD τ) ↦[arg11.view.set]{fullShare} Y11)) : sProp 𝕄G)) := by
    subst hk hv
    by_cases h : isFirst i
    · unfold isFirst at h
      rw [k0_part37_eq_skeleton]; unfold k0_part37_skel
      iintro ⟨H3, H6, H7, H8, H10, H11⟩
      sl_exec (disch := sl_exact h)
      sl_step
      iexists _, _
      isplitr
      swap
      · isplitl [H3]; · iexact H3
        isplitl [H6]; · iexact H6
        isplitl [H7]; · iexact H7
        isplitl [H8]; · iexact H8
        isplitl [H10]; · iexact H10
        iexact H11
      · ipureintro
        refine ⟨rfl, ?_, ?_⟩
        · refine (View.read_writes_eq_canon arg10.view X10 _ (fun y => View.cover_of_tiled_head _ _ _ ?_ y)).trans ?_
          · rfl
          funext y
          refine View.canon_eq_of_allAt _ _ _ (View.cover_of_tiled_head _ _ _ ?_ y) ?_
          · rfl
          iterate 32
            refine View.allAt_cons_unit _ _ _ _ _ (tileP _ y _) ?_
            refine View.allAt_cons_unit _ _ _ _ _ (tileK _ y _ _ (by rfl) _) ?_
          exact View.allAt_nil _ _
        · refine (View.read_writes_eq_canon arg11.view X11 _ (fun y => View.cover_of_tiled_head _ _ _ ?_ y)).trans ?_
          · rfl
          funext y
          refine View.canon_eq_of_allAt _ _ _ (View.cover_of_tiled_head _ _ _ ?_ y) ?_
          · rfl
          iterate 32
            refine View.allAt_cons_unit _ _ _ _ _ (tileV _ y _ _ (by rfl) _) ?_
          exact View.allAt_nil _ _
    · have h' := h
      unfold isFirst at h
      rw [k0_part37_eq_skeleton]; unfold k0_part37_skel
      iintro ⟨H3, H6, H7, H8, H10, H11⟩
      sl_exec (disch := sl_exact h)
      sl_step
      iexists _, _
      isplitr
      swap
      · isplitl [H3]; · iexact H3
        isplitl [H6]; · iexact H6
        isplitl [H7]; · iexact H7
        isplitl [H8]; · iexact H8
        isplitl [H10]; · iexact H10
        iexact H11
      · ipureintro
        exact ⟨rfl, hS h'⟩

end Cert.KernelIdeal.Hand
end
-- ==== Proof.KI.Trip.lean ====
module

public import proofs.«01_k».proof.Proof.KI.Model
public import proofs.«01_k».proof.Proof.Gen.KernelIdeal.Skeleton

@[expose] public section

set_option maxRecDepth 16384
noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- A quarter of a score scratch, as a trip loads it. -/
def quarter (P0 P1 : FVec F S1x512x512 .f32) (e u : ℕ) (inb : ∀ a, (![e, u, 0] : Fin 3 → ℕ) a + S1x256x512.size a ≤ S2x512x512.size a) : FVec F S256x512 .f32 :=
  shapeCast S256x512 (View.ld (View.canon (pcs P0 P1)) (Rect.unit (s := S2x512x512) ![e, u, 0] S1x256x512.size inb)) shapeCasts_S1x256x512_S256x512

theorem quarter_eq (arg : Memref sig .tc .vmem S2x512x512 .f32) (P0 P1 : FVec F S1x512x512 .f32) (e u : ℕ) (inb) :
    quarter P0 P1 e u inb = shapeCast S256x512 (arg.view.readCov (pcs P0 P1) (Rect.unit (s := S2x512x512) ![e, u, 0] S1x256x512.size inb).toLoadRect) shapeCasts_S1x256x512_S256x512 := by
  rw [View.readCov_eq_canon']; rfl

def ld10 (arg10 : Memref sig .tc .vmem S32x256x256 .bf16) (X : BufTy.Contents (Elt F) arg10.view.ty) (off : Fin 3 → ℕ)
    (h : ∀ a, off a + S2x256x256.size a ≤ S32x256x256.size a) : FVec F S2x256x256 .bf16 :=
  View.readAt (Elt F) arg10.view (Rect.unit (s := S32x256x256) off S2x256x256.size h).toLoadRect X
def ld11 (arg11 : Memref sig .tc .vmem S32x128x256 .bf16) (X : BufTy.Contents (Elt F) arg11.view.ty) (off : Fin 3 → ℕ)
    (h : ∀ a, off a + S1x128x256.size a ≤ S32x128x256.size a) : FVec F S1x128x256 .bf16 :=
  View.readAt (Elt F) arg11.view (Rect.unit (s := S32x128x256) off S1x128x256.size h).toLoadRect X

/-- One trip's yield. -/
def tripY (i : grid0.Coords) (arg10 : Memref sig .tc .vmem S32x256x256 .bf16) (arg11 : Memref sig .tc .vmem S32x128x256 .bf16)
    (X10 : BufTy.Contents (Elt F) arg10.view.ty) (X11 : BufTy.Contents (Elt F) arg11.view.ty) (P0 P1 : FVec F S1x512x512 .f32)
    (s : BitVec 32) (sl0 : F .f32) (q0 : FVec F S256x512 .bf16) (sl1 : F .f32) (q1 : FVec F S256x512 .bf16) (k : Fin (k0_t1_loop i).trips)
    (acc : Carry F) : Carry F :=
  let j : BitVec 32 := Scf.iv 0#32 1#32 k
  let g := Scalar.muli 2#32 j
  let g' := Scalar.addi (Scalar.muli 2#32 j) 1#32
  let k1 := ld10 arg10 X10 (k0_off5 i k 1#32) (k0_off5_inb i k 0)
  let k2 := ld10 arg10 X10 (k0_off5 i k 2#32) (k0_off5_inb i k 1)
  let a0 := ld11 arg11 X11 (k0_off6 i k 0#32) (k0_off6_inb i k 0)
  let a1 := ld11 arg11 X11 (k0_off6 i k 1#32) (k0_off6_inb i k 1)
  let v0 := ld11 arg11 X11 (k0_off7 i k 0#32) (k0_off7_inb i k 0)
  let v1 := ld11 arg11 X11 (k0_off7 i k 1#32) (k0_off7_inb i k 1)
  let S0 := slab (sc k1 q0)
  let S1 := slab (sc k1 q1)
  (tripM acc.1 acc.2.2.2.2.1 acc.2.2.2.2.2.1 sl0 g g' s k1 q0,
   tripA acc.1 acc.2.2.2.2.1 acc.2.2.2.2.2.1 acc.2.1 (quarter P0 P1 0 0 inb_S2x512x512_S1x256x512_0_0_0) (quarter P0 P1 0 256 inb_S2x512x512_S1x256x512_0_256_0) sl0 g g' s k1 q0 a0 a1 v0 v1
     (quarter S0 S1 0 0 inb_S2x512x512_S1x256x512_0_0_0) (quarter S0 S1 0 256 inb_S2x512x512_S1x256x512_0_256_0),
   tripM acc.2.2.1 acc.2.2.2.2.2.2.1 acc.2.2.2.2.2.2.2 sl1 g g' s k1 q1,
   tripA acc.2.2.1 acc.2.2.2.2.2.2.1 acc.2.2.2.2.2.2.2 acc.2.2.2.1 (quarter P0 P1 1 0 inb_S2x512x512_S1x256x512_1_0_0) (quarter P0 P1 1 256 inb_S2x512x512_S1x256x512_1_256_0) sl1 g g' s k1 q1 a0 a1 v0 v1
     (quarter S0 S1 1 0 inb_S2x512x512_S1x256x512_1_0_0) (quarter S0 S1 1 256 inb_S2x512x512_S1x256x512_1_256_0),
   rmax (up (sc k2 q0)), rmax (lo (sc k2 q0)), rmax (up (sc k2 q1)), rmax (lo (sc k2 q1)))

/-- The scratch as a trip holds it: the stored keys and values, the two score scratches. -/
abbrev Bufs (c : Dev nD) (arg10 : Memref sig .tc .vmem S32x256x256 .bf16) (arg11 : Memref sig .tc .vmem S32x128x256 .bf16) (arg12 : Memref sig .tc .vmem S2x512x512 .f32) (arg13 : Memref sig .tc .vmem S2x512x512 .f32)
    (X10 : BufTy.Contents (Elt F) arg10.view.ty) (X11 : BufTy.Contents (Elt F) arg11.view.ty) (f12 : BufTy.Contents (Elt F) arg12.view.ty) (f13 : BufTy.Contents (Elt F) arg13.view.ty) : sProp 𝕄G :=
  iprop((arg10.view.loc (c : Thread nD τ) ↦[arg10.view.set]{fullShare} X10) ∗ (arg11.view.loc (c : Thread nD τ) ↦[arg11.view.set]{fullShare} X11)
    ∗ (arg12.view.loc (c : Thread nD τ) ↦[arg12.view.set]{fullShare} f12) ∗ (arg13.view.loc (c : Thread nD τ) ↦[arg13.view.set]{fullShare} f13))

theorem trip (𝒱 : Variants) (c : Dev nD) (bd : Option 𝒱.V) (i : grid0.Coords) (arg3 : Memref sig .tc .smem S8 .f32) (harg3 : arg3.IsWhole) (arg4 : Memref sig .tc .vmem S1x1 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S1x128x8192 .f32) (harg7 : arg7.IsWhole) (arg8 : Memref sig .tc .vmem S1x128x8192 .f32) (harg8 : arg8.IsWhole) (arg9 : Memref sig .tc .vmem S512x128 .f32) (harg9 : arg9.IsWhole) (arg10 : Memref sig .tc .vmem S32x256x256 .bf16) (harg10 : arg10.IsWhole) (arg11 : Memref sig .tc .vmem S32x128x256 .bf16) (harg11 : arg11.IsWhole) (arg12 : Memref sig .tc .vmem S2x512x512 .f32) (harg12 : arg12.IsWhole) (arg13 : Memref sig .tc .vmem S2x512x512 .f32) (harg13 : arg13.IsWhole) (arg2 : BitVec 32) (v38 : F .f32) (v72 : FVec F S256x512 .bf16) (v75 : F .f32) (v109 : FVec F S256x512 .bf16) (X_arg10 : BufTy.Contents (Elt F) arg10.view.ty) (X_arg11 : BufTy.Contents (Elt F) arg11.view.ty) (k : Fin (k0_t1_loop i).trips)
   (E : Set ℕ) (acc : Carry F) (f_arg12 : BufTy.Contents (Elt F) arg12.view.ty) (f_arg13 : BufTy.Contents (Elt F) arg13.view.ty) (P0 P1 : FVec F S1x512x512 .f32) :
      Bufs (F := F) c arg10 arg11 arg12 arg13 X_arg10 X_arg11 f_arg12 (arg13.view.writes (Elt F) f_arg13
        [⟨Rect.unit (s := S2x512x512) ![1, 0, 0] S1x512x512.size inb_S2x512x512_S1x512x512_1_0_0, P1⟩, ⟨Rect.unit (s := S2x512x512) ![0, 0, 0] S1x512x512.size inb_S2x512x512_S1x512x512_0_0_0, P0⟩])
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg2 v38 v72 v75 v109 0#32 k acc)
          (fun yld => iprop(∃ g12 : BufTy.Contents (Elt F) arg12.view.ty, ∃ g13 : BufTy.Contents (Elt F) arg13.view.ty,
            ⌜yld = tripY i arg10 arg11 X_arg10 X_arg11 P0 P1 arg2 v38 v72 v75 v109 k acc⌝ ∗
            Bufs (F := F) c arg10 arg11 arg12 arg13 X_arg10 X_arg11 g12 (arg13.view.writes (Elt F) g13
              (pcs (slab (sc (ld10 arg10 X_arg10 (k0_off5 i k 2#32) (k0_off5_inb i k 1)) v72)) (slab (sc (ld10 arg10 X_arg10 (k0_off5 i k 2#32) (k0_off5_inb i k 1)) v109)))))) := by
    obtain ⟨m0, a0, m1, a1, b00, b01, b10, b11⟩ := acc
    unfold k0_t1_body
    iintro ⟨HR_arg10, HR_arg11, HW_arg12, HW_arg13⟩
    sl_exec
    sl_step
    iexists _, (arg13.view.writes (Elt F) f_arg13 (pcs P0 P1))
    isplitr
    · ipureintro
      unfold tripY
      simp only [quarter_eq arg13 P0 P1, quarter_eq arg12 (slab _) (slab _)]
      refine Prod.ext ?_ (Prod.ext ?_ (Prod.ext ?_ (Prod.ext ?_ (Prod.ext ?_ (Prod.ext ?_ (Prod.ext ?_ ?_))))))
      · rfl
      · rfl
      · rfl
      · rfl
      · rfl
      · rfl
      · rfl
      · rfl
    · isplitl [HR_arg10]; · iexact HR_arg10
      isplitl [HR_arg11]; · iexact HR_arg11
      isplitl [HW_arg12]; · iexact HW_arg12
      iexact HW_arg13

end Cert.KernelIdeal.Hand
end
-- ==== Proof.KI.Read.lean ====
module

public import proofs.«01_k».proof.Proof.KI.Init
public import proofs.«01_k».proof.Proof.KI.Trip
public import Idealize.ShloMosaic.Lib.Pointwise

@[expose] public section

set_option maxRecDepth 16384
noncomputable section

namespace Cert.KernelIdeal.Hand
open Cert.KernelIdeal Cert.KernelIdeal.Gen
open Idealize.ShloMosaic Idealize.ShloMosaic.TcCoe Idealize.ShloMosaic.Tactic

variable {F : FTy → Type} [FloatOps F] [Named F]

/-- A read under the last store. -/
theorem canon_hit (off size : Fin 3 → ℕ) (inb : ∀ a, off a + size a ≤ S2x512x512.size a)
    (w : (Rect.unit (s := S2x512x512) off size inb).shape.Idx → Elt F .f32) (L : List (View.Piece (Elt F) S2x512x512 .f32))
    (y : S2x512x512.Idx) (x : (Rect.unit (s := S2x512x512) off size inb).shape.Idx) (h : ∀ a, (y a).val = off a + (x a).val) :
    View.canon ((⟨Rect.unit (s := S2x512x512) off size inb, w⟩ : View.Piece (Elt F) S2x512x512 .f32) :: L) y = w x := by
  have e : y = (Rect.unit (s := S2x512x512) off size inb).emb x := by
    funext a; apply Fin.ext; rw [h a, Rect.emb_apply]; show _ = off a + 1 * (x a).val; omega
  rw [e]; exact View.canon_cons_emb _ w L x

/-- A read off the last store. -/
theorem canon_miss (off size : Fin 3 → ℕ) (inb : ∀ a, off a + size a ≤ S2x512x512.size a)
    (w : (Rect.unit (s := S2x512x512) off size inb).shape.Idx → Elt F .f32) (L : List (View.Piece (Elt F) S2x512x512 .f32))
    (y : S2x512x512.Idx) (a : Fin 3) (h : (y a).val < off a ∨ off a + size a ≤ (y a).val) :
    View.canon ((⟨Rect.unit (s := S2x512x512) off size inb, w⟩ : View.Piece (Elt F) S2x512x512 .f32) :: L) y = View.canon L y := by
  refine View.canon_cons_of_not_mem _ _ ?_
  intro hm
  have := (Rect.mem_set_unit (inb := inb)).1 hm a
  omega

theorem hit512 (e : Fin 2) (inb : ∀ a, (![e.val, 0, 0] : Fin 3 → ℕ) a + S1x512x512.size a ≤ S2x512x512.size a)
    (w : FVec F S1x512x512 .f32) (L : List (View.Piece (Elt F) S2x512x512 .f32)) (r c : Fin 512) :
    View.canon ((⟨Rect.unit (s := S2x512x512) ![e.val, 0, 0] S1x512x512.size inb, w⟩ : View.Piece (Elt F) S2x512x512 .f32) :: L) (ix3 e r c)
      = w (ix3 0 r c) := by
  refine canon_hit ![e.val, 0, 0] S1x512x512.size inb w L _ (ix3 0 r c : S1x512x512.Idx) ?_
  intro a; fin_cases a
  · rfl
  · show r.val = 0 + r.val; omega
  · show c.val = 0 + c.val; omega

theorem miss512 (e : ℕ) (e' : Fin 2) (h : e ≠ e'.val) (inb : ∀ a, (![e, 0, 0] : Fin 3 → ℕ) a + S1x512x512.size a ≤ S2x512x512.size a)
    (w : FVec F S1x512x512 .f32) (L : List (View.Piece (Elt F) S2x512x512 .f32)) (r c : Fin 512) :
    View.canon ((⟨Rect.unit (s := S2x512x512) ![e, 0, 0] S1x512x512.size inb, w⟩ : View.Piece (Elt F) S2x512x512 .f32) :: L) (ix3 e' r c)
      = View.canon L (ix3 e' r c) :=
  canon_miss ![e, 0, 0] S1x512x512.size inb w L _ (0 : Fin 3) (by show e'.val < e ∨ e + 1 ≤ e'.val; omega)

theorem hit256 (e : Fin 2) (u : ℕ) (inb : ∀ a, (![e.val, u, 0] : Fin 3 → ℕ) a + S1x256x512.size a ≤ S2x512x512.size a)
    (w : FVec F S1x256x512 .f32) (L : List (View.Piece (Elt F) S2x512x512 .f32)) (r c : Fin 512) (x : Fin 256) (h : r.val = u + x.val) :
    View.canon ((⟨Rect.unit (s := S2x512x512) ![e.val, u, 0] S1x256x512.size inb, w⟩ : View.Piece (Elt F) S2x512x512 .f32) :: L) (ix3 e r c)
      = w (ix3 0 x c) := by
  refine canon_hit ![e.val, u, 0] S1x256x512.size inb w L _ (ix3 0 x c : S1x256x512.Idx) ?_
  intro a; fin_cases a
  · rfl
  · exact h
  · show c.val = 0 + c.val; omega

theorem miss256 (e u : ℕ) (e' : Fin 2) (r c : Fin 512) (h : e ≠ e'.val ∨ r.val < u ∨ u + 256 ≤ r.val)
    (inb : ∀ a, (![e, u, 0] : Fin 3 → ℕ) a + S1x256x512.size a ≤ S2x512x512.size a)
    (w : FVec F S1x256x512 .f32) (L : List (View.Piece (Elt F) S2x512x512 .f32)) :
    View.canon ((⟨Rect.unit (s := S2x512x512) ![e, u, 0] S1x256x512.size inb, w⟩ : View.Piece (Elt F) S2x512x512 .f32) :: L) (ix3 e' r c)
      = View.canon L (ix3 e' r c) := by
  rcases h with h | h
  · exact canon_miss ![e, u, 0] S1x256x512.size inb w L _ (0 : Fin 3) (by show e'.val < e ∨ e + 1 ≤ e'.val; omega)
  · exact canon_miss ![e, u, 0] S1x256x512.size inb w L _ (1 : Fin 3) (by show r.val < u ∨ u + 256 ≤ r.val; omega)

theorem slab_apply (T : FVec F S512x512 .f32) (a : Fin 1) (r c : Fin 512) : slab T (ix3 a r c) = T (ix2 r c) := by
  pointwise [slab]

/-- The two slabs, read back. -/
theorem pcs0 (A B : FVec F S512x512 .f32) (r c : Fin 512) :
    View.canon (pcs (slab A) (slab B)) (ix3 0 r c) = A (ix2 r c) :=
  (miss512 1 0 (by decide) _ _ _ r c).trans ((hit512 0 _ _ _ r c).trans (slab_apply A 0 r c))

theorem pcs1 (A B : FVec F S512x512 .f32) (r c : Fin 512) :
    View.canon (pcs (slab A) (slab B)) (ix3 1 r c) = B (ix2 r c) :=
  (hit512 1 _ _ _ r c).trans (slab_apply B 0 r c)

/-- Reading a score scratch through a list of its writes. -/
abbrev Reader (F : FTy → Type) [FloatOps F] : Type :=
  (L : List (View.Piece (Elt F) S2x512x512 .f32)) → (B : Rect S2x512x512) → B.shape.Idx → Elt F .f32

/-- By the writes alone. -/
def rdC : Reader F := fun L B => View.ld (View.canon L) B
/-- Through a memref. -/
def rdM (arg : Memref sig .tc .vmem S2x512x512 .f32) : Reader F := fun L B => arg.view.readCov L B.toLoadRect

theorem rdM_eq (arg : Memref sig .tc .vmem S2x512x512 .f32) : (rdM arg : Reader F) = rdC := by
  funext L B; unfold rdM rdC; rw [View.readCov_eq_canon']

/-- Half `u` of one score slab, and a whole one. -/
def rd256 (rd : Reader F) (L : List (View.Piece (Elt F) S2x512x512 .f32)) (e u : ℕ)
    (inb : ∀ a, (![e, u, 0] : Fin 3 → ℕ) a + S1x256x512.size a ≤ S2x512x512.size a) : FVec F S1x256x512 .f32 :=
  rd L (Rect.unit (s := S2x512x512) ![e, u, 0] S1x256x512.size inb)
def rd512 (rd : Reader F) (L : List (View.Piece (Elt F) S2x512x512 .f32)) (e : ℕ)
    (inb : ∀ a, (![e, 0, 0] : Fin 3 → ℕ) a + S1x512x512.size a ≤ S2x512x512.size a) : FVec F S1x512x512 .f32 :=
  rd L (Rect.unit (s := S2x512x512) ![e, 0, 0] S1x512x512.size inb)

theorem rd256C (L : List (View.Piece (Elt F) S2x512x512 .f32)) (n : ℕ) (e : Fin 2) (he : e.val = n) (u : ℕ) (inb) (r : Fin 256) (c : Fin 512) (r' : Fin 512) (h : r'.val = u + r.val) :
    rd256 rdC L n u inb (ix3 0 r c) = View.canon L (ix3 e r' c) := by
  subst he
  unfold rd256 rdC
  show View.canon L ((Rect.unit (s := S2x512x512) ![e.val, u, 0] S1x256x512.size inb).emb (ix3 0 r c : S1x256x512.Idx)) = _
  congr 1
  funext a; apply Fin.ext; rw [Rect.emb_apply]
  fin_cases a
  · show e.val + 1 * 0 = e.val; omega
  · show u + 1 * r.val = r'.val; omega
  · show 0 + 1 * c.val = c.val; omega

theorem rd512C (L : List (View.Piece (Elt F) S2x512x512 .f32)) (n : ℕ) (e : Fin 2) (he : e.val = n) (inb) (r c : Fin 512) :
    rd512 rdC L n inb (ix3 0 r c) = View.canon L (ix3 e r c) := by
  subst he
  unfold rd512 rdC
  show View.canon L ((Rect.unit (s := S2x512x512) ![e.val, 0, 0] S1x512x512.size inb).emb (ix3 0 r c : S1x512x512.Idx)) = _
  congr 1
  funext a; apply Fin.ext; rw [Rect.emb_apply]
  fin_cases a
  · show e.val + 1 * 0 = e.val; omega
  · show 0 + 1 * r.val = r.val; omega
  · show 0 + 1 * c.val = c.val; omega

theorem up_apply (T : FVec F S512x512 .f32) (r : Fin 256) (c : Fin 512) : up T (ix2 r c) = T (ix2 ⟨r.val, by omega⟩ c) := by
  pointwise [up]
theorem lo_apply (T : FVec F S512x512 .f32) (r : Fin 256) (c : Fin 512) : lo T (ix2 r c) = T (ix2 ⟨256 + r.val, by omega⟩ c) := by
  pointwise [lo]

theorem cast256_apply (x : FVec F S1x256x512 .f32) (h) (r : Fin 256) (c : Fin 512) : shapeCast S256x512 x h (ix2 r c) = x (ix3 0 r c) := by
  pointwise

theorem quarter_rd (P0 P1 : FVec F S1x512x512 .f32) (n u : ℕ) (h : ∀ a, (![n, u, 0] : Fin 3 → ℕ) a + S1x256x512.size a ≤ S2x512x512.size a) :
    quarter P0 P1 n u h = shapeCast S256x512 (rd256 rdC (pcs P0 P1) n u h) shapeCasts_S1x256x512_S256x512 := by
  unfold quarter
  refine congrArg (fun z => shapeCast S256x512 z shapeCasts_S1x256x512_S256x512) ?_
  unfold rd256 rdC
  exact Eq.refl _

theorem quarter_apply (A B : FVec F S512x512 .f32) (n : ℕ) (e : Fin 2) (he : e.val = n) (u : ℕ) (h) (r : Fin 256) (c r' : Fin 512) (hr : r'.val = u + r.val) :
    quarter (slab A) (slab B) n u h (ix2 r c) = View.canon (pcs (slab A) (slab B)) (ix3 e r' c) := by
  rw [quarter_rd, cast256_apply, rd256C _ n e he u h r c r' hr]

/-- The quarters of a scratch holding two slabs. -/
theorem quarter00 (A B : FVec F S512x512 .f32) (h) : quarter (slab A) (slab B) 0 0 h = up A := by
  funext y
  idx_vars y
  rw [up_apply, quarter_apply A B 0 0 rfl 0 h y0 y1 ⟨y0.val, by omega⟩ (by simp), pcs0]
theorem quarter01 (A B : FVec F S512x512 .f32) (h) : quarter (slab A) (slab B) 0 256 h = lo A := by
  funext y
  idx_vars y
  rw [lo_apply, quarter_apply A B 0 0 rfl 256 h y0 y1 ⟨256 + y0.val, by omega⟩ rfl, pcs0]
theorem quarter10 (A B : FVec F S512x512 .f32) (h) : quarter (slab A) (slab B) 1 0 h = up B := by
  funext y
  idx_vars y
  rw [up_apply, quarter_apply A B 1 1 rfl 0 h y0 y1 ⟨y0.val, by omega⟩ (by simp), pcs1]
theorem quarter11 (A B : FVec F S512x512 .f32) (h) : quarter (slab A) (slab B) 1 256 h = lo B := by
  funext y
  idx_vars y
  rw [lo_apply, quarter_apply A B 1 1 rfl 256 h y0 y1 ⟨256 + y0.val, by omega⟩ rfl, pcs1]

/-! ## The query tile's own group, masked in the scratch -/

/-- Row numbers and column numbers of a half. -/
def rows256 : IVec S256x512 32 := iota .tc S256x512 32 [0] iota_S256x512_d0_w32
def cols512 : IVec S256x512 32 := iota .tc S256x512 32 [1] iota_S256x512_d1_w32

def L3 (rd : Reader F) (A B : FVec F S512x512 .f32) : List (View.Piece (Elt F) S2x512x512 .f32) :=
  ⟨Rect.unit (s := S2x512x512) ![0, 0, 0] S1x256x512.size inb_S2x512x512_S1x256x512_0_0_0,
    k0_pay230 (k0_pay229 k0_pay203) (rd256 rd (pcs (slab A) (slab B)) 0 0 inb_S2x512x512_S1x256x512_0_0_0)⟩ :: pcs (slab A) (slab B)
def L4 (rd : Reader F) (A B : FVec F S512x512 .f32) : List (View.Piece (Elt F) S2x512x512 .f32) :=
  ⟨Rect.unit (s := S2x512x512) ![0, 256, 0] S1x256x512.size inb_S2x512x512_S1x256x512_0_256_0,
    k0_pay231 k0_pay203 rows256 cols512 (rd256 rd (L3 rd A B) 0 256 inb_S2x512x512_S1x256x512_0_256_0)⟩ :: L3 rd A B
def L5 (rd : Reader F) (A B : FVec F S512x512 .f32) : List (View.Piece (Elt F) S2x512x512 .f32) :=
  ⟨Rect.unit (s := S2x512x512) ![1, 0, 0] S1x256x512.size inb_S2x512x512_S1x256x512_1_0_0,
    k0_pay234 rows256 cols512 (k0_pay232 k0_pay203) (k0_pay233 k0_pay203) 0#32 (rd256 rd (L4 rd A B) 1 0 inb_S2x512x512_S1x256x512_1_0_0)⟩ :: L4 rd A B
def L6 (rd : Reader F) (A B : FVec F S512x512 .f32) : List (View.Piece (Elt F) S2x512x512 .f32) :=
  ⟨Rect.unit (s := S2x512x512) ![1, 256, 0] S1x256x512.size inb_S2x512x512_S1x256x512_1_256_0,
    k0_pay236 (k0_pay235 k0_pay203 rows256 cols512 (rd256 rd (L5 rd A B) 1 256 inb_S2x512x512_S1x256x512_1_256_0))⟩ :: L5 rd A B

/-- Zero at the keys a query sees, the fill constant at the others; half `u` of the group. -/
def maskU (u : BitVec 32) (w : BitVec 32) : FVec F S256x512 .f32 :=
  select (broadcastTo S256x512 (shapeCast S1x512 (cmpi .eq k0_pay203 (broadcast S1x512 u)) shapeCasts_S1x512_S1x512) broadcasts_S1x512_S256x512)
    (select (cmpi .sle (addi rows256 (broadcast S256x512 w)) cols512) (broadcast S256x512 (Scalar.ofBits .f32 0x00000000#32)) (broadcast S256x512 neg))
    (broadcastTo S256x512 (shapeCast S1x512 (select (cmpi .sgt k0_pay203 (broadcast S1x512 u)) (broadcast S1x512 (Scalar.ofBits .f32 0x00000000#32)) (broadcast S1x512 neg)) shapeCasts_S1x512_S1x512) broadcasts_S1x512_S256x512)

/-- The masked scores of a half. -/
def dgU (A : FVec F S512x512 .f32) : FVec F S256x512 .f32 := addf (up A) (maskU 0#32 0#32)
def dgL (A : FVec F S512x512 .f32) : FVec F S256x512 .f32 := addf (lo A) (maskU 1#32 256#32)

theorem uncast256_apply (t : FVec F S256x512 .f32) (h) (a : Fin 1) (r : Fin 256) (c : Fin 512) : shapeCast S1x256x512 t h (ix3 a r c) = t (ix2 r c) := by
  pointwise

theorem dgU_of (A : FVec F S512x512 .f32) (z : FVec F S1x256x512 .f32) (r : Fin 256) (c : Fin 512) (h : z (ix3 0 r c) = A (ix2 ⟨r.val, by omega⟩ c)) :
    shapeCast S1x256x512 (addf (shapeCast S256x512 z shapeCasts_S1x256x512_S256x512) (maskU 0#32 0#32)) shapeCasts_S256x512_S1x256x512 (ix3 0 r c) = dgU A (ix2 r c) := by
  rw [uncast256_apply]
  unfold dgU
  show FloatOps.addf _ _ = FloatOps.addf _ _
  rw [cast256_apply, up_apply, h]
theorem dgL_of (A : FVec F S512x512 .f32) (z : FVec F S1x256x512 .f32) (r : Fin 256) (c : Fin 512) (h : z (ix3 0 r c) = A (ix2 ⟨256 + r.val, by omega⟩ c)) :
    shapeCast S1x256x512 (addf (shapeCast S256x512 z shapeCasts_S1x256x512_S256x512) (maskU 1#32 256#32)) shapeCasts_S256x512_S1x256x512 (ix3 0 r c) = dgL A (ix2 r c) := by
  rw [uncast256_apply]
  unfold dgL
  show FloatOps.addf _ _ = FloatOps.addf _ _
  rw [cast256_apply, lo_apply, h]

theorem pay230_apply (A : FVec F S512x512 .f32) (z : FVec F S1x256x512 .f32) (r : Fin 256) (c : Fin 512) (h : z (ix3 0 r c) = A (ix2 ⟨r.val, by omega⟩ c)) :
    k0_pay230 (k0_pay229 k0_pay203) z (ix3 0 r c) = dgU A (ix2 r c) := dgU_of A z r c h
theorem pay231_apply (A : FVec F S512x512 .f32) (z : FVec F S1x256x512 .f32) (r : Fin 256) (c : Fin 512) (h : z (ix3 0 r c) = A (ix2 ⟨256 + r.val, by omega⟩ c)) :
    k0_pay231 k0_pay203 rows256 cols512 z (ix3 0 r c) = dgL A (ix2 r c) := dgL_of A z r c h
theorem pay234_apply (A : FVec F S512x512 .f32) (z : FVec F S1x256x512 .f32) (r : Fin 256) (c : Fin 512) (h : z (ix3 0 r c) = A (ix2 ⟨r.val, by omega⟩ c)) :
    k0_pay234 rows256 cols512 (k0_pay232 k0_pay203) (k0_pay233 k0_pay203) 0#32 z (ix3 0 r c) = dgU A (ix2 r c) := dgU_of A z r c h
theorem pay236_apply (A : FVec F S512x512 .f32) (z : FVec F S1x256x512 .f32) (r : Fin 256) (c : Fin 512) (h : z (ix3 0 r c) = A (ix2 ⟨256 + r.val, by omega⟩ c)) :
    k0_pay236 (k0_pay235 k0_pay203 rows256 cols512 z) (ix3 0 r c) = dgL A (ix2 r c) := dgL_of A z r c h

/-- The scratch after the masking, at an index of each slab's halves. -/
theorem L6_0 (A B : FVec F S512x512 .f32) (r : Fin 512) (c : Fin 512) :
    View.canon (L6 rdC A B) (ix3 0 r c) = if h : r.val < 256 then dgU A (ix2 ⟨r.val, h⟩ c) else dgL A (ix2 ⟨r.val - 256, by omega⟩ c) := by
  unfold L6
  rw [miss256 1 256 0 r c (Or.inl (by decide))]
  unfold L5
  rw [miss256 1 0 0 r c (Or.inl (by decide))]
  unfold L4
  by_cases h : r.val < 256
  · rw [dif_pos h, miss256 0 256 0 r c (Or.inr (Or.inl h))]
    unfold L3
    refine (hit256 0 0 _ _ _ r c ⟨r.val, h⟩ (by simp)).trans (pay230_apply A _ _ _ ?_)
    rw [rd256C _ 0 0 rfl 0 _ _ _ r (by simp), pcs0]
  · rw [dif_neg h]
    refine (hit256 0 256 _ _ _ r c ⟨r.val - 256, by omega⟩ (by show _ = 256 + (r.val - 256); omega)).trans (pay231_apply A _ _ _ ?_)
    have e : r = ⟨256 + (r.val - 256), by omega⟩ := Fin.ext (by show _ = 256 + (r.val - 256); omega)
    rw [rd256C _ 0 0 rfl 256 _ _ _ r (by show _ = 256 + (r.val - 256); omega)]
    unfold L3
    rw [miss256 0 0 0 r c (Or.inr (Or.inr (by omega))), pcs0]
    exact congrArg (fun z => A (ix2 z c)) e
theorem L6_1 (A B : FVec F S512x512 .f32) (r : Fin 512) (c : Fin 512) :
    View.canon (L6 rdC A B) (ix3 1 r c) = if h : r.val < 256 then dgU B (ix2 ⟨r.val, h⟩ c) else dgL B (ix2 ⟨r.val - 256, by omega⟩ c) := by
  unfold L6
  by_cases h : r.val < 256
  · rw [dif_pos h, miss256 1 256 1 r c (Or.inr (Or.inl h))]
    unfold L5
    refine (hit256 1 0 _ _ _ r c ⟨r.val, h⟩ (by simp)).trans (pay234_apply B _ _ _ ?_)
    rw [rd256C _ 1 1 rfl 0 _ _ _ r (by simp)]
    unfold L4
    rw [miss256 0 256 1 r c (Or.inl (by decide))]
    unfold L3
    rw [miss256 0 0 1 r c (Or.inl (by decide)), pcs1]
  · rw [dif_neg h]
    refine (hit256 1 256 _ _ _ r c ⟨r.val - 256, by omega⟩ (by show _ = 256 + (r.val - 256); omega)).trans (pay236_apply B _ _ _ ?_)
    have e : r = ⟨256 + (r.val - 256), by omega⟩ := Fin.ext (by show _ = 256 + (r.val - 256); omega)
    rw [rd256C _ 1 1 rfl 256 _ _ _ r (by show _ = 256 + (r.val - 256); omega)]
    unfold L5
    rw [miss256 1 0 1 r c (Or.inr (Or.inr (by omega)))]
    unfold L4
    rw [miss256 0 256 1 r c (Or.inl (by decide))]
    unfold L3
    rw [miss256 0 0 1 r c (Or.inl (by decide)), pcs1]
    exact congrArg (fun z => B (ix2 z c)) e

end Cert.KernelIdeal.Hand
end
-- ==== Proof.KI.Body.lean ====
module

public import proofs.«01_k».proof.Proof.KI.Read
public import Idealize.ShloMosaic.Lib.VecWindow

@[expose] public section

set_option maxRecDepth 16384
noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

/-- Group `n` of the stored keys: two consecutive blocks. -/
def grp (K : FVec F S32x256x256 .bf16) (n : ℕ) : FVec F S2x256x256 .bf16 := fun y =>
  K (ix3 ⟨min (2 * n) 30 + (y 0).val, by have h : (y 0).val < 2 := (y 0).isLt; omega⟩ (y 1) (y 2))
/-- Block `b` of the stored values. -/
def vblk (V : FVec F S32x128x256 .bf16) (b : ℕ) : FVec F S1x128x256 .bf16 := fun y =>
  V (ix3 ⟨min b 31, by omega⟩ (y 1) (y 2))

theorem ld10_grp (arg10 : Memref sig .tc .vmem S32x256x256 .bf16) (X : BufTy.Contents (Elt F) arg10.view.ty) (off : Fin 3 → ℕ) (h)
    (K : FVec F S32x256x256 .bf16) (hK : arg10.view.read (Elt F) X = K) (n : ℕ) (ho : off = ![min (2 * n) 30, 0, 0]) :
    ld10 arg10 X off h = grp K n := by
  subst ho hK
  unfold ld10
  rw [View.readAt_eq_ld]
  funext y
  show arg10.view.read (Elt F) X _ = arg10.view.read (Elt F) X _
  congr 1
  funext a; apply Fin.ext
  show (![min (2 * n) 30, 0, 0] : Fin 3 → ℕ) a + 1 * (y a).val = _
  fin_cases a
  · show min (2 * n) 30 + 1 * (y 0).val = min (2 * n) 30 + (y 0).val; omega
  · show 0 + 1 * (y 1).val = (y 1).val; omega
  · show 0 + 1 * (y 2).val = (y 2).val; omega

theorem ld11_vblk (arg11 : Memref sig .tc .vmem S32x128x256 .bf16) (X : BufTy.Contents (Elt F) arg11.view.ty) (off : Fin 3 → ℕ) (h)
    (V : FVec F S32x128x256 .bf16) (hV : arg11.view.read (Elt F) X = V) (b : ℕ) (hb : b ≤ 31) (ho : off = ![b, 0, 0]) :
    ld11 arg11 X off h = vblk V b := by
  subst ho hV
  unfold ld11
  rw [View.readAt_eq_ld]
  funext y
  show arg11.view.read (Elt F) X _ = arg11.view.read (Elt F) X _
  congr 1
  funext a; apply Fin.ext
  show (![b, 0, 0] : Fin 3 → ℕ) a + 1 * (y a).val = _
  have h0 : (y 0).val < 1 := (y 0).isLt
  fin_cases a
  · show b + 1 * (y 0).val = min b 31; omega
  · show 0 + 1 * (y 1).val = (y 1).val; omega
  · show 0 + 1 * (y 2).val = (y 2).val; omega

/-- What the query tile's own group leaves: maximum and accumulator of one score half. -/
def ownM (rd : Reader F) (A B : FVec F S512x512 .f32) (e : ℕ) (inb : ∀ a, (![e, 0, 0] : Fin 3 → ℕ) a + S1x512x512.size a ≤ S2x512x512.size a)
    (sl : F .f32) (s : BitVec 32) : FVec F S1x512 .f32 :=
  maximumf (addf (rmax (up (shapeCast S512x512 (rd512 rd (L6 rd A B) e inb) shapeCasts_S1x512x512_S512x512))) (broadcast S1x512 (bias sl s s 0#32)))
    (addf (rmax (lo (shapeCast S512x512 (rd512 rd (L6 rd A B) e inb) shapeCasts_S1x512x512_S512x512))) (broadcast S1x512 (bias sl s s 1#32)))
def ownA (rd : Reader F) (A B : FVec F S512x512 .f32) (e : ℕ) (inb : ∀ a, (![e, 0, 0] : Fin 3 → ℕ) a + S1x512x512.size a ≤ S2x512x512.size a)
    (inb0 : ∀ a, (![e, 0, 0] : Fin 3 → ℕ) a + S1x256x512.size a ≤ S2x512x512.size a) (inb1 : ∀ a, (![e, 256, 0] : Fin 3 → ℕ) a + S1x256x512.size a ≤ S2x512x512.size a)
    (sl : F .f32) (s : BitVec 32) (v0 v1 : FVec F S1x128x256 .bf16) : FVec F S144x512 .f32 :=
  pv (ownM rd A B e inb sl s) (bias sl s s 0#32) (bias sl s s 1#32)
    (shapeCast S256x512 (rd256 rd (L6 rd A B) e 0 inb0) shapeCasts_S1x256x512_S256x512)
    (shapeCast S256x512 (rd256 rd (L6 rd A B) e 256 inb1) shapeCasts_S1x256x512_S256x512) v0 v1

/-- What the loop starts from. `kd`, `k0` are the keys of the own group and of group 0. -/
def init (rd : Reader F) (kd k0 : FVec F S2x256x256 .bf16) (v0 v1 : FVec F S1x128x256 .bf16) (s : BitVec 32) (sl0 : F .f32) (q0 : FVec F S256x512 .bf16)
    (sl1 : F .f32) (q1 : FVec F S256x512 .bf16) : Carry F :=
  (ownM rd (sc kd q0) (sc kd q1) 0 inb_S2x512x512_S1x512x512_0_0_0 sl0 s,
   ownA rd (sc kd q0) (sc kd q1) 0 inb_S2x512x512_S1x512x512_0_0_0 inb_S2x512x512_S1x256x512_0_0_0 inb_S2x512x512_S1x256x512_0_256_0 sl0 s v0 v1,
   ownM rd (sc kd q0) (sc kd q1) 1 inb_S2x512x512_S1x512x512_1_0_0 sl1 s,
   ownA rd (sc kd q0) (sc kd q1) 1 inb_S2x512x512_S1x512x512_1_0_0 inb_S2x512x512_S1x256x512_1_0_0 inb_S2x512x512_S1x256x512_1_256_0 sl1 s v0 v1,
   rmax (up (sc k0 q0)), rmax (lo (sc k0 q0)), rmax (up (sc k0 q1)), rmax (lo (sc k0 q1)))

/-- One trip over the stored keys and values. -/
def step (K : FVec F S32x256x256 .bf16) (V : FVec F S32x128x256 .bf16) (s : BitVec 32) (sl0 : F .f32) (q0 : FVec F S256x512 .bf16)
    (sl1 : F .f32) (q1 : FVec F S256x512 .bf16) (k : ℕ) (acc : Carry F) : Carry F :=
  let g : BitVec 32 := Scalar.muli 2#32 (Scf.iv 0#32 1#32 k)
  let g' : BitVec 32 := Scalar.addi (Scalar.muli 2#32 (Scf.iv 0#32 1#32 k)) 1#32
  let k0 := grp K (2 * k)
  let k1 := grp K (2 * k + 1)
  let k2 := grp K (2 * k + 2)
  (tripM acc.1 acc.2.2.2.2.1 acc.2.2.2.2.2.1 sl0 g g' s k1 q0,
   tripA acc.1 acc.2.2.2.2.1 acc.2.2.2.2.2.1 acc.2.1 (up (sc k0 q0)) (lo (sc k0 q0)) sl0 g g' s k1 q0
     (vblk V (4 * k)) (vblk V (4 * k + 1)) (vblk V (4 * k + 2)) (vblk V (4 * k + 3)) (up (sc k1 q0)) (lo (sc k1 q0)),
   tripM acc.2.2.1 acc.2.2.2.2.2.2.1 acc.2.2.2.2.2.2.2 sl1 g g' s k1 q1,
   tripA acc.2.2.1 acc.2.2.2.2.2.2.1 acc.2.2.2.2.2.2.2 acc.2.2.2.1 (up (sc k0 q1)) (lo (sc k0 q1)) sl1 g g' s k1 q1
     (vblk V (4 * k)) (vblk V (4 * k + 1)) (vblk V (4 * k + 2)) (vblk V (4 * k + 3)) (up (sc k1 q1)) (lo (sc k1 q1)),
   rmax (up (sc k2 q0)), rmax (lo (sc k2 q0)), rmax (up (sc k2 q1)), rmax (lo (sc k2 q1)))

/-- The carried values before trip `k`. -/
def accN (K : FVec F S32x256x256 .bf16) (V : FVec F S32x128x256 .bf16) (n : ℕ) (s : BitVec 32) (sl0 : F .f32) (q0 : FVec F S256x512 .bf16)
    (sl1 : F .f32) (q1 : FVec F S256x512 .bf16) : ℕ → Carry F
  | 0 => init rdC (grp K n) (grp K 0) (vblk V (2 * n)) (vblk V (2 * n + 1)) s sl0 q0 sl1 q1
  | k + 1 => step K V s sl0 q0 sl1 q1 k (accN K V n s sl0 q0 sl1 q1 k)

/-- The two query operands, from a query block and a head's slope. -/
def qop0 (q : FVec F S512x128 .f32) (sl : F .f32) : FVec F S256x512 .bf16 :=
  k0_pay206 (k0_pay201 q) (iota .tc S128x1 32 [0] iota_S128x1_d0_w32) (k0_pay204 sl) (Scalar.ofBits .f32 0x00000000#32) k0_pay205
def qop1 (q : FVec F S512x128 .f32) (sl : F .f32) : FVec F S256x512 .bf16 :=
  k0_pay214 (iota .tc S128x1 32 [0] iota_S128x1_d0_w32) (k0_pay208 (k0_pay201 q) k0_pay202) (k0_pay211 (iota .tc S128x1 32 [0] iota_S128x1_d0_w32) sl) (k0_pay212 sl) (k0_pay213 sl)

/-- A query tile's result. -/
def tileOut (i : grid0.Coords) (K : FVec F S32x256x256 .bf16) (V : FVec F S32x128x256 .bf16) (q : FVec F S512x128 .f32) (sl : F .f32)
    (lam : FVec F S1x1 .f32) (subln : FVec F S1x128 .f32) : FVec F S512x128 .f32 :=
  let r := accN K V (i 2).val (BitVec.ofNat 32 (i 2).val) (k0_pay204 sl) (qop0 q sl) (k0_pay207 sl) (qop1 q sl) (k0_t1_loop i).trips
  k0_pay3 r.2.1 r.2.2.2.1 lam subln

/-- A trip on buffers holding the stored keys and values. -/
theorem tripY_eq (i : grid0.Coords) (arg10 : Memref sig .tc .vmem S32x256x256 .bf16) (arg11 : Memref sig .tc .vmem S32x128x256 .bf16)
    (X10 : BufTy.Contents (Elt F) arg10.view.ty) (X11 : BufTy.Contents (Elt F) arg11.view.ty) (K V)
    (hK : arg10.view.read (Elt F) X10 = K) (hV : arg11.view.read (Elt F) X11 = V)
    (s : BitVec 32) (sl0 : F .f32) (q0 : FVec F S256x512 .bf16) (sl1 : F .f32) (q1 : FVec F S256x512 .bf16) (k : Fin (k0_t1_loop i).trips) (acc : Carry F) :
    tripY i arg10 arg11 X10 X11 (slab (sc (grp K (2 * k.val)) q0)) (slab (sc (grp K (2 * k.val)) q1)) s sl0 q0 sl1 q1 k acc
      = step K V s sl0 q0 sl1 q1 k.val acc := by
  have hk : k.val < 8 := by have := (k0_t1_abs i).2.1; have := k.isLt; omega
  unfold tripY step
  simp only [quarter00, quarter01, quarter10, quarter11]
  have e1 : ld10 arg10 X10 (k0_off5 i k 1#32) (k0_off5_inb i k 0) = grp K (2 * k.val + 1) :=
    ld10_grp arg10 X10 _ _ K hK _ ((k0_off5_eq i k 0).trans (congrArg (fun n : ℕ => (![n, 0, 0] : Fin 3 → ℕ)) (by show min (4 * k.val + 2 * 0 + 2) 30 = _; omega)))
  have e2 : ld10 arg10 X10 (k0_off5 i k 2#32) (k0_off5_inb i k 1) = grp K (2 * k.val + 2) :=
    ld10_grp arg10 X10 _ _ K hK _ ((k0_off5_eq i k 1).trans (congrArg (fun n : ℕ => (![n, 0, 0] : Fin 3 → ℕ)) (by show min (4 * k.val + 2 * 1 + 2) 30 = _; omega)))
  have f0 : ld11 arg11 X11 (k0_off6 i k 0#32) (k0_off6_inb i k 0) = vblk V (4 * k.val) := ld11_vblk arg11 X11 _ _ V hV _ (by omega) (k0_off6_eq i k 0)
  have f1 : ld11 arg11 X11 (k0_off6 i k 1#32) (k0_off6_inb i k 1) = vblk V (4 * k.val + 1) := ld11_vblk arg11 X11 _ _ V hV _ (by omega) (k0_off6_eq i k 1)
  have f2 : ld11 arg11 X11 (k0_off7 i k 0#32) (k0_off7_inb i k 0) = vblk V (4 * k.val + 2) := ld11_vblk arg11 X11 _ _ V hV _ (by omega) (k0_off7_eq i k 0)
  have f3 : ld11 arg11 X11 (k0_off7 i k 1#32) (k0_off7_inb i k 1) = vblk V (4 * k.val + 3) := ld11_vblk arg11 X11 _ _ V hV _ (by omega) (k0_off7_eq i k 1)
  rw [e1, e2, f0, f1, f2, f3]

/-- The keys of the group the trip prefetches. -/
theorem next_eq (i : grid0.Coords) (arg10 : Memref sig .tc .vmem S32x256x256 .bf16)
    (X10 : BufTy.Contents (Elt F) arg10.view.ty) (K) (hK : arg10.view.read (Elt F) X10 = K) (k : Fin (k0_t1_loop i).trips) :
    ld10 arg10 X10 (k0_off5 i k 2#32) (k0_off5_inb i k 1) = grp K (2 * (k.val + 1)) := by
  refine ld10_grp arg10 X10 _ _ K hK _ ((k0_off5_eq i k 1).trans (congrArg (fun n : ℕ => (![n, 0, 0] : Fin 3 → ℕ)) ?_))
  show min (4 * k.val + 2 * 1 + 2) 30 = _; omega

/-- The loop's initial values on buffers holding the stored keys and values. -/
theorem init_eq (i : grid0.Coords) (arg10 : Memref sig .tc .vmem S32x256x256 .bf16) (arg11 : Memref sig .tc .vmem S32x128x256 .bf16) (arg12 : Memref sig .tc .vmem S2x512x512 .f32)
    (X10 : BufTy.Contents (Elt F) arg10.view.ty) (X11 : BufTy.Contents (Elt F) arg11.view.ty) (K V)
    (hK : arg10.view.read (Elt F) X10 = K) (hV : arg11.view.read (Elt F) X11 = V)
    (s : BitVec 32) (sl0 : F .f32) (q0 : FVec F S256x512 .bf16) (sl1 : F .f32) (q1 : FVec F S256x512 .bf16) :
    init (rdM arg12) (ld10 arg10 X10 (k0_off2 i) (k0_off2_inb i)) (ld10 arg10 X10 k0_off3 k0_off3_inb)
      (ld11 arg11 X11 (k0_off4 i 0#32) (k0_off4_inb i 0)) (ld11 arg11 X11 (k0_off4 i 1#32) (k0_off4_inb i 1)) s sl0 q0 sl1 q1
      = accN K V (i 2).val s sl0 q0 sl1 q1 0 := by
  have hs : (i 2).val < 16 := (i 2).isLt
  have e1 : ld10 arg10 X10 (k0_off2 i) (k0_off2_inb i) = grp K (i 2).val :=
    ld10_grp arg10 X10 _ _ K hK _ ((k0_off2_eq i).trans (congrArg (fun n : ℕ => (![n, 0, 0] : Fin 3 → ℕ)) (by omega)))
  have e2 : ld10 arg10 X10 k0_off3 k0_off3_inb = grp K 0 := ld10_grp arg10 X10 _ _ K hK _ (k0_off3_eq)
  have f0 : ld11 arg11 X11 (k0_off4 i 0#32) (k0_off4_inb i 0) = vblk V (2 * (i 2).val) := ld11_vblk arg11 X11 _ _ V hV _ (by omega) (k0_off4_eq i 0)
  have f1 : ld11 arg11 X11 (k0_off4 i 1#32) (k0_off4_inb i 1) = vblk V (2 * (i 2).val + 1) := ld11_vblk arg11 X11 _ _ V hV _ (by omega) (k0_off4_eq i 1)
  rw [rdM_eq, e1, e2, f0, f1]
  rfl

theorem body (𝒱 : Variants) (c : Dev nD) (bd : Option 𝒱.V) (i : grid0.Coords) (arg3 : Memref sig .tc .smem S8 .f32) (harg3 : arg3.IsWhole) (arg4 : Memref sig .tc .vmem S1x1 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S1x128x8192 .f32) (harg7 : arg7.IsWhole) (arg8 : Memref sig .tc .vmem S1x128x8192 .f32) (harg8 : arg8.IsWhole) (arg9 : Memref sig .tc .vmem S512x128 .f32) (harg9 : arg9.IsWhole) (arg10 : Memref sig .tc .vmem S32x256x256 .bf16) (harg10 : arg10.IsWhole) (arg11 : Memref sig .tc .vmem S32x128x256 .bf16) (harg11 : arg11.IsWhole) (arg12 : Memref sig .tc .vmem S2x512x512 .f32) (harg12 : arg12.IsWhole) (arg13 : Memref sig .tc .vmem S2x512x512 .f32) (harg13 : arg13.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty)
    (E : Set ℕ) (k v : FVec F S1x128x8192 .f32) (hk : arg7.view.read (Elt F) X7 = k) (hv : arg8.view.read (Elt F) X8 = v)
    (hS : Stored i arg10 arg11 X10 X11 k v) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13)) : sProp 𝕄G)
    ⊢ wp frame (wpE (defs₀ (F := F)) 𝒱 (c : Thread nD τ) bd) E (cc0_diff_prompt (F := F) i arg3 harg3 arg4 harg4 arg5 harg5 arg6 harg6 arg7 harg7 arg8 harg8 arg9 harg9 arg10 harg10 arg11 harg11 arg12 harg12 arg13 harg13)
      (fun _ => (iprop(∃ Y9 : BufTy.Contents (Elt F) arg9.view.ty, ∃ Y10 : BufTy.Contents (Elt F) arg10.view.ty, ∃ Y11 : BufTy.Contents (Elt F) arg11.view.ty,
          ∃ Y12 : BufTy.Contents (Elt F) arg12.view.ty, ∃ Y13 : BufTy.Contents (Elt F) arg13.view.ty,
          ⌜arg9.view.read (Elt F) Y9 = tileOut i (KG k) (VG v) (ld6 arg6 X6) (slp i arg3 X3)
              (View.readAt (Elt F) arg4.view (Rect.unit (s := S1x1) ![0, 0] S1x1.size inb_S1x1_S1x1_0_0).toLoadRect X4)
              (View.readAt (Elt F) arg5.view (Rect.unit (s := S1x128) ![0, 0] S1x128.size inb_S1x128_S1x128_0_0).toLoadRect X5) ∧
            arg10.view.read (Elt F) Y10 = KG k ∧ arg11.view.read (Elt F) Y11 = VG v⌝ ∗
          (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} Y9) ∗ (arg10.view.loc (c : Thread nD τ) ↦[arg10.view.set]{fullShare} Y10) ∗ (arg11.view.loc (c : Thread nD τ) ↦[arg11.view.set]{fullShare} Y11) ∗ (arg12.view.loc (c : Thread nD τ) ↦[arg12.view.set]{fullShare} Y12) ∗ (arg13.view.loc (c : Thread nD τ) ↦[arg13.view.set]{fullShare} Y13)) : sProp 𝕄G)) := by
  rw [cc0_diff_prompt_eq_skeleton]; unfold cc0_diff_prompt_skel; rw [wp_bind]
  iintro ⟨H3, H4, H5, H6, H7, H8, H9, H10, H11, H12, H13⟩
  iapply (wp_wand_r _ _ _)
  isplitl [H3 H6 H7 H8 H10 H11]
  · iapply (part37 𝒱 c bd i arg3 harg3 arg4 harg4 arg5 harg5 arg6 harg6 arg7 harg7 arg8 harg8 arg9 harg9 arg10 harg10 arg11 harg11 arg12 harg12 arg13 harg13 X3 X6 X7 X8 X10 X11 E k v hk hv hS)
    isplitl [H3]; · iexact H3
    isplitl [H6]; · iexact H6
    isplitl [H7]; · iexact H7
    isplitl [H8]; · iexact H8
    isplitl [H10]; · iexact H10
    iexact H11
  · iintro %r ⟨%Y10, %Y11, %hr, H3, H6, H7, H8, H10, H11⟩
    obtain ⟨rfl, hK, hV⟩ := hr
    sl_exec
    sl_for (fun n acc => (iprop(∃ f12 : BufTy.Contents (Elt F) arg12.view.ty, ∃ f13 : BufTy.Contents (Elt F) arg13.view.ty,
      ⌜acc = accN (KG k) (VG v) (i 2).val (BitVec.ofNat 32 (i 2).val) (k0_pay204 (slp i arg3 X3)) (qop0 (ld6 arg6 X6) (slp i arg3 X3)) (k0_pay207 (slp i arg3 X3)) (qop1 (ld6 arg6 X6) (slp i arg3 X3)) n⌝ ∗ Bufs (F := F) c arg10 arg11 arg12 arg13 Y10 Y11 f12
        (arg13.view.writes (Elt F) f13 (pcs (slab (sc (grp (KG k) (2 * n)) (qop0 (ld6 arg6 X6) (slp i arg3 X3)))) (slab (sc (grp (KG k) (2 * n)) (qop1 (ld6 arg6 X6) (slp i arg3 X3))))))) : sProp 𝕄G)) $$ [H10 H11 H12 H13]
    case region =>
      intro n acc
      iintro ⟨%f12, %f13, %hacc, H⟩
      iapply (wp_wand_r _ _ _)
      isplitl [H]
      · iapply (trip 𝒱 c bd i arg3 harg3 arg4 harg4 arg5 harg5 arg6 harg6 arg7 harg7 arg8 harg8 arg9 harg9 arg10 harg10 arg11 harg11 arg12 harg12 arg13 harg13 (BitVec.ofNat 32 (i 2).val) (k0_pay204 (slp i arg3 X3)) (qop0 (ld6 arg6 X6) (slp i arg3 X3)) (k0_pay207 (slp i arg3 X3)) (qop1 (ld6 arg6 X6) (slp i arg3 X3)) Y10 Y11 n E acc f12 f13 _ _)
        iexact H
      · iintro %y ⟨%g12, %g13, %hy, H⟩
        iexists g12, g13
        isplitr
        · ipureintro
          rw [hy, tripY_eq i arg10 arg11 Y10 Y11 _ _ hK hV, hacc]; rfl
        · rw [← next_eq i arg10 Y10 _ hK n]; iexact H
    · iexists _, _
      isplitr; swap
      · isplitl [H10]; · iexact H10
        isplitl [H11]; · iexact H11
        isplitl [H12]; · iexact H12
        rw [← ld10_grp arg10 Y10 k0_off3 k0_off3_inb (KG k) hK (2 * 0) k0_off3_eq]
        iexact H13
      · ipureintro
        refine Eq.trans ?_ (init_eq i arg10 arg11 arg12 Y10 Y11 _ _ hK hV (BitVec.ofNat 32 (i 2).val) (k0_pay204 (slp i arg3 X3)) (qop0 (ld6 arg6 X6) (slp i arg3 X3)) (k0_pay207 (slp i arg3 X3)) (qop1 (ld6 arg6 X6) (slp i arg3 X3)))
        rfl
    iintro %r ⟨%f12, %f13, %hr, H⟩
    obtain ⟨v485_0, v485_1, v485_2, v485_3, v485_4, v485_5, v485_6, v485_7⟩ := r
    icases H with ⟨H10, H11, H12, H13⟩
    have htr : (k0_t2_loop i).trips = 0 := Nat.le_zero.mp (k0_t2_abs i).2.1
    sl_exec
    sl_step
    iexists _, Y10, Y11, _, _
    isplitr; swap
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · ipureintro
      refine ⟨?_, hK, hV⟩
      refine (View.read_writes_full arg9.view X9 inb_S512x128_S512x128_0_0 _ []).trans ?_
      have hr' : accN (KG k) (VG v) (i 2).val (BitVec.ofNat 32 (i 2).val) (k0_pay204 (slp i arg3 X3)) (qop0 (ld6 arg6 X6) (slp i arg3 X3))
        (k0_pay207 (slp i arg3 X3)) (qop1 (ld6 arg6 X6) (slp i arg3 X3)) (k0_t1_loop i).trips = (v485_0, v485_1, v485_2, v485_3, v485_4, v485_5, v485_6, v485_7) := hr.symm
      unfold tileOut
      rw [hr']

end Cert.KernelIdeal.Hand
end
-- ==== Proof.KI.Run.lean ====
module

public import proofs.«01_k».proof.Proof.KI.Body

@[expose] public section

/-! The run of the program: the proof data, the body's obligation at every point, the launch. -/

set_option maxRecDepth 16384
noncomputable section

namespace Cert.KernelIdeal.Hand
open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄G" => MT nD τ sig Unit (Elt F) ℕ (UR sig nD τ) ℕ
variable (m : (ℓ : Loc nD τ sig) → Buf (Elt F) ℓ) (ρ : Dev nD → PrngReg)

/-- The slope of the point's head, off the table of slopes. -/
def slopeAt (i : grid0.Coords) (x : FVec F S8 .f32) : F .f32 := x (ix1 (i 1))

theorem slp_eq (i : grid0.Coords) (arg3 : Memref sig .tc .smem S8 .f32) (X3 : BufTy.Contents (Elt F) arg3.view.ty) :
    slp i arg3 X3 = slopeAt i (arg3.view.read (Elt F) X3) := by
  unfold slp slopeAt
  rw [View.readAt_eq_ld]
  show arg3.view.read (Elt F) X3 _ = arg3.view.read (Elt F) X3 _
  congr 1
  funext a; apply Fin.ext
  have h := congrFun (k0_off1_eq i) a
  show (k0_off1 i) a + 1 * _ = _
  rw [h]
  fin_cases a
  rfl

theorem ld6_eq (arg6 : Memref sig .tc .vmem S512x128 .f32) (X6 : BufTy.Contents (Elt F) arg6.view.ty) : ld6 arg6 X6 = arg6.view.read (Elt F) X6 := by
  unfold ld6; rw [View.readAt_eq_ld]; exact View.ld_unit_lit _ _ (by decide)
theorem ld4_eq (arg4 : Memref sig .tc .vmem S1x1 .f32) (X4 : BufTy.Contents (Elt F) arg4.view.ty) :
    View.readAt (Elt F) arg4.view (Rect.unit (s := S1x1) ![0, 0] S1x1.size inb_S1x1_S1x1_0_0).toLoadRect X4 = arg4.view.read (Elt F) X4 := by
  rw [View.readAt_eq_ld]; exact View.ld_unit_lit _ _ (by decide)
theorem ld5_eq (arg5 : Memref sig .tc .vmem S1x128 .f32) (X5 : BufTy.Contents (Elt F) arg5.view.ty) :
    View.readAt (Elt F) arg5.view (Rect.unit (s := S1x128) ![0, 0] S1x128.size inb_S1x128_S1x128_0_0).toLoadRect X5 = arg5.view.read (Elt F) X5 := by
  rw [View.readAt_eq_ld]; exact View.ld_unit_lit _ _ (by decide)

/-- What a point leaves in the result's buffer, from its six input blocks. -/
def outT (i : grid0.Coords) (x0 : FVec F S8 .f32) (x1 : FVec F S1x1 .f32) (x2 : FVec F S1x128 .f32) (x3 : FVec F S512x128 .f32)
    (x4 x5 : FVec F S1x128x8192 .f32) : FVec F S512x128 .f32 :=
  tileOut i (KG x4) (VG x5) x3 (slopeAt i x0) x1 x2

/-- The stored keys and values at point `n`, where they are a (batch, head)'s not its first. -/
def Kept (c : Dev nD) (n : ℕ) (X10 : BufTy.Contents (Elt F) (Memref.whole cc0_scratch0).view.ty) (X11 : BufTy.Contents (Elt F) (Memref.whole cc0_scratch1).view.ty) : Prop :=
  ∀ h : n < cfg0.N, n % 16 ≠ 0 → (Memref.whole cc0_scratch0).view.read (Elt F) X10 = KG (iblk m c 4 ⟨n, h⟩) ∧ (Memref.whole cc0_scratch1).view.read (Elt F) X11 = VG (iblk m c 5 ⟨n, h⟩)

/-- The invariant before point `n`: the four scratch buffers, the keys and values as kept. -/
def PhiS (c : Dev nD) (n : ℕ) : sProp 𝕄G :=
  iprop((∃ X10 : BufTy.Contents (Elt F) (Memref.whole cc0_scratch0).view.ty, ∃ X11 : BufTy.Contents (Elt F) (Memref.whole cc0_scratch1).view.ty,
      ∃ X12 : BufTy.Contents (Elt F) (Memref.whole cc0_scratch2).view.ty, ∃ X13 : BufTy.Contents (Elt F) (Memref.whole cc0_scratch3).view.ty,
      ⌜Kept m c n X10 X11⌝ ∗ Bufs (F := F) c (Memref.whole cc0_scratch0) (Memref.whole cc0_scratch1) (Memref.whole cc0_scratch2) (Memref.whole cc0_scratch3) X10 X11 X12 X13)
    ∗ ∃ r, prngReg c r)

/-- The proof data. -/
def dats (_p : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => outT (grid0.coords t) (iblk m c 0 t) (iblk m c 1 t) (iblk m c 2 t) (iblk m c 3 t) (iblk m c 4 t) (iblk m c 5 t)
  Φ t := PhiS m c t.val
  q _ := fullShare
  owed _ := 0

theorem A_eq (c : Dev nD) (w : Fin cfg0.W) : (dats m 0 c).A w = V m c (Pipeline.arrRef spec0 w) := rfl

theorem first_of : ∀ t : Fin grid0.N, t.val % 16 = 0 → isFirst (grid0.coords t) := by
  unfold isFirst; decide +kernel

theorem stored_of (c : Dev nD) (t : Fin cfg0.N) (X10 : BufTy.Contents (Elt F) (Memref.whole cc0_scratch0).view.ty) (X11 : BufTy.Contents (Elt F) (Memref.whole cc0_scratch1).view.ty)
    (h : Kept m c t.val X10 X11) : Stored (grid0.coords t) (Memref.whole cc0_scratch0) (Memref.whole cc0_scratch1) X10 X11 (iblk m c 4 t) (iblk m c 5 t) :=
  fun hn => h t.isLt fun hz => hn (first_of t hz)

/-- Within a (batch, head) the key and value blocks stay. -/
theorem iblk4_succ (c : Dev nD) (t : Fin cfg0.N) (h : t.val + 1 < cfg0.N) (h16 : (t.val + 1) % 16 ≠ 0) :
    iblk m c 4 ⟨t.val + 1, h⟩ = iblk m c 4 t := by
  have hf : (cfg0.win 4).fetch ⟨t.val + 1, h⟩ = false := by
    rw [← Bool.not_eq_true]; exact fun hh => h16 ((fetch0_4 _).mp hh)
  have hb := before0_4_of m (dats m 0 c) rfl (fun _ => rfl) ⟨t.val + 1, h⟩ (iblk m c 4 t)
  rw [(dats m 0 c).before_unfetched_in 4 rfl _ hf (fun _ => rfl)] at hb
  exact hb.symm
theorem iblk5_succ (c : Dev nD) (t : Fin cfg0.N) (h : t.val + 1 < cfg0.N) (h16 : (t.val + 1) % 16 ≠ 0) :
    iblk m c 5 ⟨t.val + 1, h⟩ = iblk m c 5 t := by
  have hf : (cfg0.win 5).fetch ⟨t.val + 1, h⟩ = false := by
    rw [← Bool.not_eq_true]; exact fun hh => h16 ((fetch0_5 _).mp hh)
  have hb := before0_5_of m (dats m 0 c) rfl (fun _ => rfl) ⟨t.val + 1, h⟩ (iblk m c 5 t)
  rw [(dats m 0 c).before_unfetched_in 5 rfl _ hf (fun _ => rfl)] at hb
  exact hb.symm

theorem kept_succ (c : Dev nD) (t : Fin cfg0.N) (Y10 : BufTy.Contents (Elt F) (Memref.whole cc0_scratch0).view.ty) (Y11 : BufTy.Contents (Elt F) (Memref.whole cc0_scratch1).view.ty)
    (hK : (Memref.whole cc0_scratch0).view.read (Elt F) Y10 = KG (iblk m c 4 t)) (hV : (Memref.whole cc0_scratch1).view.read (Elt F) Y11 = VG (iblk m c 5 t)) :
    Kept m c (t.val + 1) Y10 Y11 := by
  intro h h16
  rw [iblk4_succ m c t h h16, iblk5_succ m c t h h16]
  exact ⟨hK, hV⟩

/-- What the body is handed at point `t`, and what it leaves. -/
def bodyPre (c : Dev nD) (t : Fin cfg0.N) : sProp 𝕄G :=
  iprop(PhiS m c t.val ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d)))
def bodyPost (c : Dev nD) (t : Fin cfg0.N) : sProp 𝕄G :=
  iprop(PhiS m c (t.val + 1) ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t))

set_option maxHeartbeats 2000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost PhiS
  unfold owns
  iintro ⟨⟨⟨%X10, %X11, %X12, %X13, %hkept, H10, H11, H12, H13⟩, Hp⟩, Ho, ⟨%d0, %X3, %h0, H3⟩, ⟨%d1, %X4, %h1, H4⟩, ⟨%d2, %X5, %h2, H5⟩, ⟨%d3, %X6, %h3, H6⟩, ⟨%d4, %X7, %h4, H7⟩, ⟨%d5, %X8, %h5, H8⟩, ⟨%d6, %X9, %h6, H9⟩⟩
  have e0 : _ = iblk m c 0 t := h0.trans (before0_0_of m (dats m 0 c) rfl (fun _ => rfl) t d0)
  have e1 : _ = iblk m c 1 t := h1.trans (before0_1_of m (dats m 0 c) rfl (fun _ => rfl) t d1)
  have e2 : _ = iblk m c 2 t := h2.trans (before0_2_of m (dats m 0 c) rfl (fun _ => rfl) t d2)
  have e3 : _ = iblk m c 3 t := h3.trans (before0_3_of m (dats m 0 c) rfl (fun _ => rfl) t d3)
  have e4 : _ = iblk m c 4 t := h4.trans (before0_4_of m (dats m 0 c) rfl (fun _ => rfl) t d4)
  have e5 : _ = iblk m c 5 t := h5.trans (before0_5_of m (dats m 0 c) rfl (fun _ => rfl) t d5)
  iapply (wp_wand_r _ _ _)
  isplitl [H3 H4 H5 H6 H7 H8 H9 H10 H11 H12 H13]
  · unfold bodyAt0
    iapply (body Variants.none c none (grid0.coords t) _ _ _ _ _ _ _ _ _ _ _ _ _ _ _ _ _ _ _ _ _ _ X3 X4 X5 X6 X7 X8 X9 X10 X11 X12 X13 Set.univ
      (iblk m c 4 t) (iblk m c 5 t) e4 e5 (stored_of m c t X10 X11 hkept))
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %r ⟨%Y9, %Y10, %Y11, %Y12, %Y13, %hY, H3, H4, H5, H6, H7, H8, H9, H10, H11, H12, H13⟩
    obtain ⟨hY9, hK, hV⟩ := hY
    isplitl [H10 H11 H12 H13 Hp]
    · isplitl [H10 H11 H12 H13]
      · iexists Y10, Y11, Y12, Y13
        isplitr; · ipureintro; exact kept_succ m c t Y10 Y11 hK hV
        isplitl [H10]; · iexact H10
        isplitl [H11]; · iexact H11
        isplitl [H12]; · iexact H12
        iexact H13
      · iexact Hp
    isplitl [Ho]; · iexact Ho
    isplitl [H3]; · iexists X3; isplitr; · (ipureintro; exact e0)
                    iexact H3
    isplitl [H4]; · iexists X4; isplitr; · (ipureintro; exact e1)
                    iexact H4
    isplitl [H5]; · iexists X5; isplitr; · (ipureintro; exact e2)
                    iexact H5
    isplitl [H6]; · iexists X6; isplitr; · (ipureintro; exact e3)
                    iexact H6
    isplitl [H7]; · iexists X7; isplitr; · (ipureintro; exact e4)
                    iexact H7
    isplitl [H8]; · iexists X8; isplitr; · (ipureintro; exact e5)
                    iexact H8
    iexists Y9; isplitr
    · ipureintro
      rw [hY9, slp_eq, ld6_eq, ld4_eq, ld5_eq, e0, e1, e2, e3]; rfl
    iexact H9

/-- The body table's row at point `t` is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_eq (c : Dev nD) (w : Fin cfg0.W) : (dats m 0 c).share w = fullShare := by
  unfold Dat.share; split <;> rfl

theorem hin (c : Dev nD) : (Pipeline.ΦA (Val := Elt F) (U := UR sig nD τ) spec0 c : sProp 𝕄G) ⊢ (dats m 0 c).Φ 0 := by
  show _ ⊢ PhiS m c 0
  unfold Pipeline.ΦA PhiS Bufs
  rw [scopedRest0_eq]
  simp only [Memref.view_whole, View.set_whole]
  iintro ⟨⟨⟨%f0, H0⟩, ⟨%f1, H1⟩, ⟨%f2, H2⟩, ⟨%f3, H3⟩⟩, Hp⟩
  isplitr [Hp]
  · iexists f0, f1, f2, f3
    isplitr; · ipureintro; exact fun _ h => absurd rfl h
    isplitl [H0]; · iexact H0
    isplitl [H1]; · iexact H1
    isplitl [H2]; · iexact H2
    iexact H3
  · iexact Hp

theorem hout (c : Dev nD) : (dats m 0 c).Φ (Fin.last cfg0.N) ⊢ (Pipeline.ΦA (Val := Elt F) (U := UR sig nD τ) spec0 c : sProp 𝕄G) := by
  show PhiS m c _ ⊢ _
  unfold Pipeline.ΦA PhiS Bufs
  rw [scopedRest0_eq]
  simp only [Memref.view_whole, View.set_whole]
  iintro ⟨⟨%f0, %f1, %f2, %f3, -, H0, H1, H2, H3⟩, Hp⟩
  isplitr [Hp]
  · isplitl [H0]; · iexists f0; iexact H0
    isplitl [H1]; · iexists f1; iexact H1
    isplitl [H2]; · iexists f2; iexact H2
    iexists f3; iexact H3
  · iexact Hp

set_option backward.isDefEq.respectTransparency.types false in
/-- From any memory with zero counters the program ends, every array at what the data compute, every counter at zero. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := share_eq m) (howed := fun _ _ => rfl) (V := V m)
    (hmain := hmain m Variants.none) (hA := A_eq m) (hin := hin m) (hout := hout m) (Q' := _) (hQ' := fun _ h => h)

end Cert.KernelIdeal.Hand
end
-- ==== Proof.KI.Weights.lean ====
/- A running softmax over the extended reals: weights of scores, and what one group of keys does to a column. -/
module

public import proofs.«01_k».proof.Proof.KI.Model
public import Idealize.ShloMosaic.Lib.Pointwise

@[expose] public section

noncomputable section

namespace Cert.KernelIdeal.Hand
open Cert.KernelIdeal Cert.KernelIdeal.Gen
open Idealize.ShloMosaic Idealize.ShloMosaic.TcCoe

/-- Two to a real power. -/
def two (x : ℝ) : ℝ := (2 : ℝ) ^ x

theorem two_pos (x : ℝ) : 0 < two x := Real.rpow_pos_of_pos (by norm_num) x
theorem two_add (x y : ℝ) : two (x + y) = two x * two y := Real.rpow_add (by norm_num) x y
theorem exp2_coe' (x : ℝ) : Ideal.exp2 (x : EReal) = (two x : EReal) := rfl

/-- The weight of a score: none for a masked key. -/
def wt (x : EReal) : ℝ := if x = ⊥ then 0 else two x.toReal

theorem wt_bot : wt ⊥ = 0 := if_pos rfl
theorem wt_coe (x : ℝ) : wt (x : EReal) = two x := by
  unfold wt; rw [if_neg (EReal.coe_ne_bot x), EReal.toReal_coe]

/-- The kernel's weight of a key of score `t` and bias `c`, at a maximum `μ`. -/
theorem exp2_shift (t c : EReal) (ht : t ≠ ⊤) (hc : c ≠ ⊤) (μ : ℝ) :
    Ideal.exp2 (t - ((μ : EReal) - c)) = ((wt (t + c) * two (-μ) : ℝ) : EReal) := by
  induction t using EReal.rec with
  | top => exact absurd rfl ht
  | bot =>
    rw [EReal.bot_sub, EReal.bot_add, wt_bot, zero_mul]; rfl
  | coe t =>
    induction c using EReal.rec with
    | top => exact absurd rfl hc
    | bot =>
      rw [EReal.add_bot, wt_bot, zero_mul, EReal.coe_sub_bot, EReal.sub_top]; rfl
    | coe c =>
      rw [← EReal.coe_add, wt_coe, ← two_add, ← EReal.coe_sub, ← EReal.coe_sub, exp2_coe']
      congr 2; ring

theorem exp2_sub (μ μ' : ℝ) : Ideal.exp2 ((μ : EReal) - (μ' : EReal)) = ((two μ * two (-μ') : ℝ) : EReal) := by
  rw [← EReal.coe_sub, exp2_coe', ← two_add, sub_eq_add_neg]

theorem real_of_bounds (x : EReal) (h0 : x ≠ ⊥) (h1 : x ≠ ⊤) : ∃ r : ℝ, x = (r : EReal) :=
  ⟨x.toReal, (EReal.coe_toReal h1 h0).symm⟩

theorem max_ne_top {x y : EReal} (hx : x ≠ ⊤) (hy : y ≠ ⊤) : max x y ≠ ⊤ := by
  rcases max_choice x y with h | h <;> rw [h] <;> assumption
theorem max_ne_bot_left {x y : EReal} (hx : x ≠ ⊥) : max x y ≠ ⊥ := fun h => hx (le_bot_iff.1 (h ▸ le_max_left x y))
theorem add_ne_top' {x y : EReal} (hx : x ≠ ⊤) (hy : y ≠ ⊤) : x + y ≠ ⊤ := EReal.add_ne_top hx hy

/-- A group moves a real maximum to a real maximum. -/
theorem max_real (μ : ℝ) (x y : EReal) (hx : x ≠ ⊤) (hy : y ≠ ⊤) : ∃ μ' : ℝ, max (max (μ : EReal) x) y = (μ' : EReal) :=
  real_of_bounds _ (max_ne_bot_left (max_ne_bot_left (EReal.coe_ne_bot μ))) (max_ne_top (max_ne_top (EReal.coe_ne_top μ) hx) hy)

theorem coe_sum' {ι : Type} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]

/-- A group's values, by row of the accumulator and key. -/
def VR (v0 v1 : FVec Ideal S1x128x256 .bf16) (r : Fin 144) (k : Fin 512) : EReal :=
  if h : r.val < 128 then if h' : k.val < 256 then v0 (ix3 0 ⟨r.val, h⟩ ⟨k.val, h'⟩) else v1 (ix3 0 ⟨r.val, h⟩ ⟨k.val - 256, by omega⟩) else 1

/-- A group's biased scores against one query. -/
def GT (t0 t1 : FVec Ideal S256x512 .f32) (c0 c1 : EReal) (c : Fin 512) (k : Fin 512) : EReal :=
  if h : k.val < 256 then t0 (ix2 ⟨k.val, h⟩ c) + c0 else t1 (ix2 ⟨k.val - 256, by omega⟩ c) + c1

theorem vrows_apply (v0 v1 : FVec Ideal S1x128x256 .bf16) (r : Fin 144) (k : Fin 512) : vrows v0 v1 (ix2 r k) = VR v0 v1 r k := by
  unfold vrows VR
  pointwise

theorem prob_apply (t : FVec Ideal S256x512 .f32) (m : FVec Ideal S1x512 .f32) (c : EReal) (r : Fin 256) (j : Fin 512) :
    prob (F := Ideal) t m c (ix2 r j) = Ideal.exp2 (t (ix2 r j) - (m (ix2 0 j) - c)) := by
  unfold prob
  pointwise
  rfl

theorem pv_apply (m : FVec Ideal S1x512 .f32) (c0 c1 : EReal) (t0 t1 : FVec Ideal S256x512 .f32) (v0 v1 : FVec Ideal S1x128x256 .bf16)
    (r : Fin 144) (c : Fin 512) :
    pv (F := Ideal) m c0 c1 t0 t1 v0 v1 (ix2 r c) = ∑ k : Fin 512, VR v0 v1 r k *
      (if h : k.val < 256 then prob (F := Ideal) t0 m c0 (ix2 ⟨k.val, h⟩ c) else prob (F := Ideal) t1 m c1 (ix2 ⟨k.val - 256, by omega⟩ c)) := by
  unfold pv
  simp only [← vrows_apply]
  pointwise

theorem newA_apply (m : FVec Ideal S1x512 .f32) (acc : FVec Ideal S144x512 .f32) (m' : FVec Ideal S1x512 .f32) (c0 c1 : EReal)
    (t0 t1 : FVec Ideal S256x512 .f32) (v0 v1 : FVec Ideal S1x128x256 .bf16) (r : Fin 144) (c : Fin 512) :
    newA (F := Ideal) m acc m' c0 c1 t0 t1 v0 v1 (ix2 r c)
      = Ideal.exp2 (m (ix2 0 c) - m' (ix2 0 c)) * acc (ix2 r c) + pv (F := Ideal) m' c0 c1 t0 t1 v0 v1 (ix2 r c) := by
  unfold newA
  pointwise
  rfl

theorem newM_apply (m b0 b1 : FVec Ideal S1x512 .f32) (c0 c1 : EReal) (c : Fin 512) :
    newM (F := Ideal) m b0 b1 c0 c1 (ix2 0 c) = max (max (m (ix2 0 c)) (b0 (ix2 0 c) + c0)) (b1 (ix2 0 c) + c1) := by
  unfold newM
  pointwise

/-- What a group adds to the weighted sums of a column, its maximum divided out. -/
theorem pv_real (m : FVec Ideal S1x512 .f32) (c0 c1 : EReal) (t0 t1 : FVec Ideal S256x512 .f32) (v0 v1 : FVec Ideal S1x128x256 .bf16)
    (r : Fin 144) (c : Fin 512) (μ : ℝ) (hm : m (ix2 0 c) = (μ : EReal)) (W : Fin 512 → ℝ) (hW : ∀ k, VR v0 v1 r k = (W k : EReal))
    (h0 : ∀ k, t0 (ix2 k c) ≠ ⊤) (h1 : ∀ k, t1 (ix2 k c) ≠ ⊤) (hc0 : c0 ≠ ⊤) (hc1 : c1 ≠ ⊤) :
    pv (F := Ideal) m c0 c1 t0 t1 v0 v1 (ix2 r c) = (((∑ k : Fin 512, W k * wt (GT t0 t1 c0 c1 c k)) * two (-μ) : ℝ) : EReal) := by
  rw [pv_apply, Finset.sum_mul, ← coe_sum']
  refine Finset.sum_congr rfl fun k _ => ?_
  rw [hW k, mul_assoc, EReal.coe_mul]
  congr 1
  unfold GT
  by_cases h : k.val < 256
  · rw [dif_pos h, dif_pos h, prob_apply, hm, exp2_shift _ _ (h0 _) hc0]
  · rw [dif_neg h, dif_neg h, prob_apply, hm, exp2_shift _ _ (h1 _) hc1]

/-- A group added to a running sum. -/
theorem newA_real (m : FVec Ideal S1x512 .f32) (acc : FVec Ideal S144x512 .f32) (m' : FVec Ideal S1x512 .f32) (c0 c1 : EReal)
    (t0 t1 : FVec Ideal S256x512 .f32) (v0 v1 : FVec Ideal S1x128x256 .bf16) (r : Fin 144) (c : Fin 512)
    (μ μ' : ℝ) (hm : m (ix2 0 c) = (μ : EReal)) (hm' : m' (ix2 0 c) = (μ' : EReal)) (W : Fin 512 → ℝ) (hW : ∀ k, VR v0 v1 r k = (W k : EReal))
    (h0 : ∀ k, t0 (ix2 k c) ≠ ⊤) (h1 : ∀ k, t1 (ix2 k c) ≠ ⊤) (hc0 : c0 ≠ ⊤) (hc1 : c1 ≠ ⊤)
    (S : ℝ) (hacc : acc (ix2 r c) = ((S * two (-μ) : ℝ) : EReal)) :
    newA (F := Ideal) m acc m' c0 c1 t0 t1 v0 v1 (ix2 r c)
      = (((S + ∑ k : Fin 512, W k * wt (GT t0 t1 c0 c1 c k)) * two (-μ') : ℝ) : EReal) := by
  rw [newA_apply, pv_real m' c0 c1 t0 t1 v0 v1 r c μ' hm' W hW h0 h1 hc0 hc1, hm, hm', exp2_sub, hacc, ← EReal.coe_mul, ← EReal.coe_add]
  congr 1
  have e : two μ * two (-μ) = 1 := by rw [← two_add]; unfold two; simp
  rw [add_mul]
  congr 1
  calc two μ * two (-μ') * (S * two (-μ)) = (two μ * two (-μ)) * (S * two (-μ')) := by ring
    _ = S * two (-μ') := by rw [e, one_mul]

theorem ofBits_bot : Ideal.ofBits .f32 0xFF800000#32 = ⊥ := by
  simp [Ideal.ofBits, Ideal.ieee]

theorem rmax_ne_top (t : FVec Ideal S256x512 .f32) (c : Fin 512) (h : ∀ k, t (ix2 k c) ≠ ⊤) : rmax (F := Ideal) t (ix2 0 c) ≠ ⊤ := by
  rw [← lt_top_iff_ne_top]
  unfold rmax
  pointwise
  rw [Finset.fold_max_lt]
  refine ⟨by rw [ofBits_bot]; exact bot_lt_top, fun x _ => ?_⟩
  have h' : ∀ k, t (ix2 k c) < ⊤ := fun k => lt_top_iff_ne_top.2 (h k)
  simp only [max_lt_iff, h', and_self]

theorem le_rmax (t : FVec Ideal S256x512 .f32) (c : Fin 512) : t (ix2 0 c) ≤ rmax (F := Ideal) t (ix2 0 c) := by
  unfold rmax
  pointwise
  rw [Finset.le_fold_max]
  refine Or.inr ⟨0, Finset.mem_univ _, ?_⟩
  repeat' refine le_trans ?_ (le_max_left _ _)
  exact le_of_eq rfl

end Cert.KernelIdeal.Hand
end
-- ==== Proof.KI.Scores.lean ====
/- The scores of a stored key group against a query tile, over the reals. -/
module

public import proofs.«01_k».proof.Proof.KI.Weights
public import proofs.«01_k».proof.Proof.KI.Body

@[expose] public section

noncomputable section

namespace Cert.KernelIdeal.Hand
open Cert.KernelIdeal Cert.KernelIdeal.Gen
open Idealize.ShloMosaic Idealize.ShloMosaic.TcCoe

/-- The logarithm to base two of e. -/
def lg : ℝ := (Real.log 2)⁻¹

theorem neg_bot : neg (F := Ideal) = ⊥ := IdealRules.named_const.ideal_named_scalar κ "mask" _ _ rfl
theorem log2e_eq : (Named.named (F := Ideal) (φ := .f32) κ "log2e" 0x3FB8AA3B#32 : EReal) = (lg : EReal) :=
  IdealRules.named_const.ideal_named_scalar κ "log2e" _ _ rfl
theorem scale_eq : (Named.named (F := Ideal) (φ := .f32) κ "scale" 0x3E38AA3B#32 : EReal) = ((1 / 8 * lg : ℝ) : EReal) :=
  IdealRules.named_const.ideal_named_scalar κ "scale" _ _ rfl

/-- A query operand of score half `e`. -/
def QO (e : ℕ) (qr : Fin 512 → Fin 128 → ℝ) (slr : ℝ) (r : Fin 256) (c : Fin 512) : ℝ :=
  if h : r.val < 128 then (if r.val / 64 = e then qr c ⟨r.val, h⟩ * (1 / 8 * lg) else 0) else if r.val = 128 then slr * lg else 0

theorem pay204_real (slr : ℝ) : k0_pay204 (F := Ideal) (slr : EReal) = ((slr * lg : ℝ) : EReal) := by
  unfold k0_pay204
  rw [log2e_eq]; rfl
theorem pay207_real (slr : ℝ) : k0_pay207 (F := Ideal) (slr : EReal) = ((slr * lg : ℝ) : EReal) := by
  unfold k0_pay207
  rw [log2e_eq]; rfl

theorem sel_of {b : BitVec 1} {p : Prop} [Decidable p] (h : b = 1#1 ↔ p) {α : Type} (x y : α) : Scalar.select b x y = if p then x else y := by
  by_cases hp : p
  · rw [if_pos hp]; exact if_pos (h.2 hp)
  · rw [if_neg hp]; exact if_neg (fun e => hp (h.1 e))
theorem sel_slt (r : ℕ) (hr : r < 128) {α : Type} (x y : α) :
    Scalar.select (IntOp.cmpi CmpIPredicate.slt (BitVec.ofNat 32 r) 64#32) x y = if r < 64 then x else y :=
  sel_of (((by decide : ∀ r : Fin 128, IntOp.cmpi CmpIPredicate.slt (BitVec.ofNat 32 r.val) 64#32 = 1#1 ↔ r.val < 64) ⟨r, hr⟩)) x y
theorem sel_sge (r : ℕ) (hr : r < 128) {α : Type} (x y : α) :
    Scalar.select (IntOp.cmpi CmpIPredicate.sge (BitVec.ofNat 32 r) 64#32) x y = if 64 ≤ r then x else y :=
  sel_of (((by decide : ∀ r : Fin 128, IntOp.cmpi CmpIPredicate.sge (BitVec.ofNat 32 r.val) 64#32 = 1#1 ↔ 64 ≤ r.val) ⟨r, hr⟩)) x y
theorem sel_eq0 (r : ℕ) (hr : r < 128) {α : Type} (x y : α) :
    Scalar.select (IntOp.cmpi CmpIPredicate.eq (BitVec.ofNat 32 r) 0#32) x y = if r = 0 then x else y :=
  sel_of (((by decide : ∀ r : Fin 128, IntOp.cmpi CmpIPredicate.eq (BitVec.ofNat 32 r.val) 0#32 = 1#1 ↔ r.val = 0) ⟨r, hr⟩)) x y
theorem sel_eq1 (r : ℕ) (hr : r < 128) {α : Type} (x y : α) :
    Scalar.select (IntOp.cmpi CmpIPredicate.eq (BitVec.ofNat 32 r) 1#32) x y = if r = 1 then x else y :=
  sel_of (((by decide : ∀ r : Fin 128, IntOp.cmpi CmpIPredicate.eq (BitVec.ofNat 32 r.val) 1#32 = 1#1 ↔ r.val = 1) ⟨r, hr⟩)) x y
theorem sel_eq2 (r : ℕ) (hr : r < 128) {α : Type} (x y : α) :
    Scalar.select (IntOp.cmpi CmpIPredicate.eq (BitVec.ofNat 32 r) 2#32) x y = if r = 2 then x else y :=
  sel_of (((by decide : ∀ r : Fin 128, IntOp.cmpi CmpIPredicate.eq (BitVec.ofNat 32 r.val) 2#32 = 1#1 ↔ r.val = 2) ⟨r, hr⟩)) x y
theorem sel_lt3 (r : ℕ) (hr : r < 128) {α : Type} (x y : α) :
    Scalar.select (IntOp.cmpi CmpIPredicate.slt (BitVec.ofNat 32 r) 3#32) x y = if r < 3 then x else y :=
  sel_of (((by decide : ∀ r : Fin 128, IntOp.cmpi CmpIPredicate.slt (BitVec.ofNat 32 r.val) 3#32 = 1#1 ↔ r.val < 3) ⟨r, hr⟩)) x y

theorem qop0_real (q : FVec Ideal S512x128 .f32) (qr : Fin 512 → Fin 128 → ℝ) (hq : ∀ c r, q (ix2 c r) = (qr c r : EReal)) (slr : ℝ)
    (r : Fin 256) (c : Fin 512) : qop0 (F := Ideal) q (slr : EReal) (ix2 r c) = (QO 0 qr slr r c : EReal) := by
  unfold qop0
  rw [pay204_real]
  pointwise [k0_pay206, k0_pay201, k0_pay205]
  by_cases h : r.val < 128
  · rw [dif_pos h, sel_slt r.val h]
    unfold QO
    rw [dif_pos h, hq, scale_eq, ← EReal.coe_mul]
    by_cases h' : r.val < 64
    · rw [if_pos h', if_pos (by omega)]
    · rw [if_neg h', if_neg (by omega)]; rfl
  · rw [dif_neg h, sel_eq2 (r.val - 128) (by omega), sel_eq1 (r.val - 128) (by omega), sel_eq0 (r.val - 128) (by omega)]
    unfold QO
    rw [dif_neg h]
    simp only [← EReal.coe_sub, sub_self]
    by_cases h' : r.val = 128
    · rw [if_pos h', if_neg (by show ¬ r.val - 128 = 2; omega), if_neg (by show ¬ r.val - 128 = 1; omega), if_pos (by show r.val - 128 = 0; omega)]
    · rw [if_neg (c := r.val - 128 = 0) (by omega), if_neg h']
      simp

theorem qop1_real (q : FVec Ideal S512x128 .f32) (qr : Fin 512 → Fin 128 → ℝ) (hq : ∀ c r, q (ix2 c r) = (qr c r : EReal)) (slr : ℝ)
    (r : Fin 256) (c : Fin 512) : qop1 (F := Ideal) q (slr : EReal) (ix2 r c) = (QO 1 qr slr r c : EReal) := by
  unfold qop1
  pointwise [k0_pay214, k0_pay208, k0_pay211, k0_pay212, k0_pay213, k0_pay209, k0_pay210, k0_pay201, k0_pay202, pay207_real]
  by_cases h : r.val < 128
  · rw [dif_pos h, sel_sge r.val h]
    unfold QO
    rw [dif_pos h, hq, scale_eq, ← EReal.coe_mul]
    by_cases h' : 64 ≤ r.val
    · rw [if_pos h', if_pos (by omega)]
    · rw [if_neg h', if_neg (by omega)]; rfl
  · rw [dif_neg h, sel_eq2 (r.val - 128) (by omega), sel_eq1 (r.val - 128) (by omega), sel_eq0 (r.val - 128) (by omega)]
    unfold QO
    rw [dif_neg h]
    simp only [← EReal.coe_sub, sub_self]
    by_cases h' : r.val = 128
    · rw [if_pos h', if_neg (by show ¬ r.val - 128 = 2; omega), if_neg (by show ¬ r.val - 128 = 1; omega), if_pos (by show r.val - 128 = 0; omega)]
    · rw [if_neg (c := r.val - 128 = 0) (by omega), if_neg h']
      simp

/-- A stored key block. -/
theorem KG_apply (k : FVec Ideal S1x128x8192 .f32) (kr : Fin 128 → ℕ → ℝ) (hk : ∀ r (p : Fin 8192), k (ix3 0 r p) = (kr r p.val : EReal))
    (b : Fin 32) (j r : Fin 256) :
    KG (F := Ideal) k (ix3 b j r) = ((if h : r.val < 128 then kr ⟨r.val, h⟩ (256 * b.val + j.val) else if r.val < 131 then (j.val : ℝ) else 0 : ℝ) : EReal) := by
  unfold KG
  show (if h : r.val < 128 then _ else _) = _
  by_cases h : r.val < 128
  · rw [dif_pos h, dif_pos h]
    refine Eq.trans ?_ (hk ⟨r.val, h⟩ ⟨256 * b.val + j.val, by omega⟩)
    pointwise [k0_pay5]
  · rw [dif_neg h, dif_neg h]
    pointwise [k0_pay6, k0_pay4]
    rw [sel_lt3 (r.val - 128) (by omega)]
    by_cases h' : r.val < 131
    · rw [if_pos h', if_pos (by omega)]
      have e : (BitVec.ofNat 32 j.val).toInt = (j.val : ℤ) := WordCmp.toInt_ofNat_of_lt (w := 32) (by omega)
      show (((BitVec.ofNat 32 j.val).toInt : ℝ) : EReal) = _
      rw [e]; simp
    · rw [if_neg h', if_neg (by omega)]
      show (((0#32 : BitVec 32).toInt : ℝ) : EReal) = _
      simp

theorem VG_apply (v : FVec Ideal S1x128x8192 .f32) (b : Fin 32) (r : Fin 128) (j : Fin 256) :
    VG (F := Ideal) v (ix3 b r j) = v (ix3 0 r ⟨256 * b.val + j.val, by omega⟩) := by
  unfold VG
  pointwise [k0_pay7]

theorem sc_apply (kg : FVec Ideal S2x256x256 .bf16) (q : FVec Ideal S256x512 .bf16) (n c : Fin 512) :
    sc (F := Ideal) kg q (ix2 n c) = ∑ r : Fin 256, kg (ix3 ⟨n.val / 256, by omega⟩ ⟨n.val % 256, by omega⟩ r) * q (ix2 r c) := by
  unfold sc
  pointwise

/-- The product of query and key `p` over the 64 lanes of half `e`. -/
def dotE (e : Fin 2) (kr : Fin 128 → ℕ → ℝ) (qr : Fin 512 → Fin 128 → ℝ) (p : ℕ) (c : Fin 512) : ℝ :=
  ∑ d : Fin 64, kr ⟨64 * e.val + d.val, by omega⟩ p * qr c ⟨64 * e.val + d.val, by omega⟩

theorem sum_half (e : Fin 2) (f : Fin 128 → ℝ) :
    (∑ r : Fin 128, if r.val / 64 = e.val then f r else 0) = ∑ d : Fin 64, f ⟨64 * e.val + d.val, by omega⟩ := by
  rw [← Finset.sum_filter]
  symm
  refine Finset.sum_bij (fun d _ => ⟨64 * e.val + d.val, by omega⟩) ?_ ?_ ?_ ?_
  · intro d _; rw [Finset.mem_filter]; exact ⟨Finset.mem_univ _, by show (64 * e.val + d.val) / 64 = e.val; omega⟩
  · intro a _ b _ h; have := congrArg Fin.val h; apply Fin.ext; simp only at this; omega
  · intro r hr
    rw [Finset.mem_filter] at hr
    exact ⟨⟨r.val - 64 * e.val, by have := hr.2; omega⟩, Finset.mem_univ _, Fin.ext (by show 64 * e.val + (r.val - 64 * e.val) = r.val; have := hr.2; omega)⟩
  · intro d _; rfl

/-- A score, of half `e`, of row `n` of group `g`. -/
theorem sc_real (k : FVec Ideal S1x128x8192 .f32) (kr : Fin 128 → ℕ → ℝ) (hk : ∀ r (p : Fin 8192), k (ix3 0 r p) = (kr r p.val : EReal))
    (e : Fin 2) (qr : Fin 512 → Fin 128 → ℝ) (slr : ℝ) (Q : FVec Ideal S256x512 .bf16) (hQ : ∀ r c, Q (ix2 r c) = (QO e.val qr slr r c : EReal))
    (g : ℕ) (n c : Fin 512) :
    sc (F := Ideal) (grp (KG k) g) Q (ix2 n c)
      = ((dotE e kr qr (256 * min (2 * g) 30 + n.val) c * (1 / 8 * lg) + (n.val % 256 : ℕ) * (slr * lg) : ℝ) : EReal) := by
  rw [sc_apply]
  have hb : min (2 * g) 30 + n.val / 256 < 32 := by omega
  have hs : ∀ r : Fin 256, grp (F := Ideal) (KG k) g (ix3 ⟨n.val / 256, by omega⟩ ⟨n.val % 256, by omega⟩ r) * Q (ix2 r c)
      = (((if h : r.val < 128 then kr ⟨r.val, h⟩ (256 * min (2 * g) 30 + n.val) else if r.val < 131 then ((n.val % 256 : ℕ) : ℝ) else 0) * QO e.val qr slr r c : ℝ) : EReal) := by
    intro r
    have hg : grp (F := Ideal) (KG k) g (ix3 ⟨n.val / 256, by omega⟩ ⟨n.val % 256, by omega⟩ r)
        = KG (F := Ideal) k (ix3 ⟨min (2 * g) 30 + n.val / 256, hb⟩ ⟨n.val % 256, by omega⟩ r) := rfl
    rw [hg, KG_apply k kr hk, hQ, EReal.coe_mul]
    congr 3
    have e1 : 256 * (min (2 * g) 30 + n.val / 256) + n.val % 256 = 256 * min (2 * g) 30 + n.val := by omega
    simp only [e1]
  rw [Finset.sum_congr rfl (fun r _ => hs r), coe_sum']
  congr 1
  have hsplit := Fin.sum_univ_add (a := 128) (b := 128) (fun r : Fin (128 + 128) =>
    (if h : r.val < 128 then kr ⟨r.val, h⟩ (256 * min (2 * g) 30 + n.val) else if r.val < 131 then ((n.val % 256 : ℕ) : ℝ) else 0) * QO e.val qr slr r c)
  refine hsplit.trans ?_
  congr 1
  · have : ∀ r : Fin 128, (if h : (Fin.castAdd 128 r).val < 128 then kr ⟨(Fin.castAdd 128 r).val, h⟩ (256 * min (2 * g) 30 + n.val)
        else if (Fin.castAdd 128 r).val < 131 then ((n.val % 256 : ℕ) : ℝ) else 0) * QO e.val qr slr (Fin.castAdd 128 r) c
        = if r.val / 64 = e.val then kr r (256 * min (2 * g) 30 + n.val) * qr c r * (1 / 8 * lg) else 0 := by
      intro r
      have hr : (Fin.castAdd 128 r).val < 128 := r.isLt
      rw [dif_pos hr]
      unfold QO
      rw [dif_pos hr]
      show kr r _ * (if r.val / 64 = e.val then qr c r * (1 / 8 * lg) else 0) = _
      split_ifs <;> ring
    rw [Finset.sum_congr rfl (fun r _ => this r), sum_half e (fun r => kr r (256 * min (2 * g) 30 + n.val) * qr c r * (1 / 8 * lg))]
    unfold dotE
    rw [Finset.sum_mul]
  · rw [Finset.sum_eq_single (0 : Fin 128)]
    · unfold QO
      have h0 : (Fin.natAdd 128 (0 : Fin 128)).val = 128 := rfl
      rw [dif_neg (by omega), dif_neg (by omega), if_pos (by omega), if_pos h0]
    · intro r _ hr
      have h0 : (Fin.natAdd 128 r).val = 128 + r.val := rfl
      have h1 : r.val ≠ 0 := fun h => hr (Fin.ext h)
      have hq0 : QO e.val qr slr (Fin.natAdd 128 r) c = 0 := by
        unfold QO
        rw [dif_neg (by omega), if_neg (by omega)]
      rw [hq0, mul_zero]
    · intro h; exact absurd (Finset.mem_univ _) h

theorem blockcol (c : Fin 512) : k0_pay203 (ix2 0 c) = BitVec.ofNat 32 (c.val / 256) := by
  pointwise [k0_pay203]
  revert c
  decide +kernel

theorem sel_cmp {p : CmpIPredicate} {x y : BitVec 32} {P : Prop} [Decidable P] (h : IntOp.cmpi p x y = 1#1 ↔ P) {α : Type} (a b : α) :
    Scalar.select (IntOp.cmpi p x y) a b = if P then a else b := sel_of h a b

theorem addi_ofNat (a b : ℕ) : IntOp.addi (BitVec.ofNat 32 a) (BitVec.ofNat 32 b) = BitVec.ofNat 32 (a + b) := (BitVec.ofNat_add a b).symm

theorem maskU0 (r : Fin 256) (c : Fin 512) : maskU (F := Ideal) 0#32 0#32 (ix2 r c) = if r.val ≤ c.val then 0 else ⊥ := by
  unfold maskU
  pointwise [rows256, cols512, blockcol]
  rw [addi_ofNat r.val 0, sel_cmp (WordCmp.cmpi_eq_ofNat_eq_one_iff (by omega) (by omega)), sel_cmp (WordCmp.cmpi_sle_ofNat_eq_one_iff (by omega) (by omega)),
    sel_cmp (WordCmp.cmpi_sgt_ofNat_eq_one_iff (by omega) (by omega)), neg_bot]
  split_ifs <;> first | rfl | omega

theorem maskU1 (r : Fin 256) (c : Fin 512) : maskU (F := Ideal) 1#32 256#32 (ix2 r c) = if r.val + 256 ≤ c.val then 0 else ⊥ := by
  unfold maskU
  pointwise [rows256, cols512, blockcol]
  rw [addi_ofNat r.val 256, sel_cmp (WordCmp.cmpi_eq_ofNat_eq_one_iff (by omega) (by omega)), sel_cmp (WordCmp.cmpi_sle_ofNat_eq_one_iff (by omega) (by omega)),
    sel_cmp (WordCmp.cmpi_sgt_ofNat_eq_one_iff (by omega) (by omega)), neg_bot]
  split_ifs <;> first | rfl | omega

/-! ### The bias of a group -/

theorem bias_real (a : ℝ) (g s u : ℕ) (hg : g < 64) (hs : s < 16) (hu : u < 2) :
    bias (F := Ideal) (a : EReal) (BitVec.ofNat 32 g) (BitVec.ofNat 32 s) (BitVec.ofNat 32 u)
      = ((a * (256 * (2 * ((g : ℝ) - (s : ℝ)) + (u : ℝ))) : ℝ) : EReal) := by
  have h : ∀ (g : Fin 64) (s : Fin 16) (u : Fin 2),
      (Scalar.muli (Scalar.addi (Scalar.muli (Scalar.subi (BitVec.ofNat 32 g.val) (BitVec.ofNat 32 s.val)) 2#32) (BitVec.ofNat 32 u.val)) 256#32).toInt
        = 256 * (2 * ((g.val : ℤ) - (s.val : ℤ)) + (u.val : ℤ)) := by decide +kernel
  unfold bias
  show (a : EReal) * (((_ : BitVec 32).toInt : ℝ) : EReal) = _
  rw [h ⟨g, hg⟩ ⟨s, hs⟩ ⟨u, hu⟩, ← EReal.coe_mul]
  congr 2
  push_cast
  rfl

theorem biasM_real (a : ℝ) (g s u : ℕ) (hg : g < 64) (hs : s < 16) (hu : u < 2) :
    biasM (F := Ideal) (a : EReal) (BitVec.ofNat 32 g) (BitVec.ofNat 32 s) (BitVec.ofNat 32 u)
      = if g < s then ((a * (256 * (2 * ((g : ℝ) - (s : ℝ)) + (u : ℝ))) : ℝ) : EReal) else ⊥ := by
  unfold biasM
  rw [bias_real a g s u hg hs hu, neg_bot]
  exact sel_cmp (WordCmp.cmpi_slt_ofNat_eq_one_iff (by omega) (by omega)) _ _

theorem iv_even (k : Fin 8) : Scalar.muli 2#32 (Scf.iv 0#32 1#32 k.val) = BitVec.ofNat 32 (2 * k.val) := by
  revert k; decide +kernel
theorem iv_odd (k : Fin 8) : Scalar.addi (Scalar.muli 2#32 (Scf.iv 0#32 1#32 k.val)) 1#32 = BitVec.ofNat 32 (2 * k.val + 1) := by
  revert k; decide +kernel

/-! ### A group's scores, and its values -/

/-- The exponent of key `p` for query column `c` of tile `s`. -/
def TT (e : Fin 2) (kr : Fin 128 → ℕ → ℝ) (qr : Fin 512 → Fin 128 → ℝ) (slr : ℝ) (s : ℕ) (p : ℕ) (c : Fin 512) : ℝ :=
  dotE e kr qr p c * (1 / 8 * lg) + slr * lg * ((p : ℝ) - 512 * (s : ℝ))

/-- The weight of key `p`: none for a key after the query. -/
def PW (e : Fin 2) (kr : Fin 128 → ℕ → ℝ) (qr : Fin 512 → Fin 128 → ℝ) (slr : ℝ) (s : ℕ) (p : ℕ) (c : Fin 512) : ℝ :=
  if p ≤ 512 * s + c.val then two (TT e kr qr slr s p c) else 0

/-- A row of the stored values: the value's coordinate, or one. -/
def WR (vr : Fin 128 → ℕ → ℝ) (r : Fin 144) (p : ℕ) : ℝ := if h : r.val < 128 then vr ⟨r.val, h⟩ p else 1

theorem VR_real (v : FVec Ideal S1x128x8192 .f32) (vr : Fin 128 → ℕ → ℝ) (hv : ∀ r (p : Fin 8192), v (ix3 0 r p) = (vr r p.val : EReal))
    (g : ℕ) (hg : g < 16) (r : Fin 144) (n : Fin 512) :
    VR (vblk (VG v) (2 * g)) (vblk (VG v) (2 * g + 1)) r n = (WR vr r (512 * g + n.val) : EReal) := by
  unfold VR WR
  by_cases h : r.val < 128
  · rw [dif_pos h, dif_pos h]
    by_cases h' : n.val < 256
    · rw [dif_pos h']
      have e : vblk (F := Ideal) (VG v) (2 * g) (ix3 0 ⟨r.val, h⟩ ⟨n.val, h'⟩) = VG (F := Ideal) v (ix3 ⟨min (2 * g) 31, by omega⟩ ⟨r.val, h⟩ ⟨n.val, h'⟩) := rfl
      rw [e, VG_apply, hv]
      congr 2; show 256 * min (2 * g) 31 + n.val = _; omega
    · rw [dif_neg h']
      have e : vblk (F := Ideal) (VG v) (2 * g + 1) (ix3 0 ⟨r.val, h⟩ ⟨n.val - 256, by omega⟩) = VG (F := Ideal) v (ix3 ⟨min (2 * g + 1) 31, by omega⟩ ⟨r.val, h⟩ ⟨n.val - 256, by omega⟩) := rfl
      rw [e, VG_apply, hv]
      congr 2; show 256 * min (2 * g + 1) 31 + (n.val - 256) = _; omega
  · rw [dif_neg h, dif_neg h]; rfl

section group
variable (k : FVec Ideal S1x128x8192 .f32) (kr : Fin 128 → ℕ → ℝ) (hk : ∀ r (p : Fin 8192), k (ix3 0 r p) = (kr r p.val : EReal))
    (e : Fin 2) (qr : Fin 512 → Fin 128 → ℝ) (slr : ℝ) (Q : FVec Ideal S256x512 .bf16) (hQ : ∀ r c, Q (ix2 r c) = (QO e.val qr slr r c : EReal))
include hk hQ

theorem up_real (g : ℕ) (n : Fin 256) (c : Fin 512) : up (F := Ideal) (sc (grp (KG k) g) Q) (ix2 n c)
    = ((dotE e kr qr (256 * min (2 * g) 30 + n.val) c * (1 / 8 * lg) + (n.val : ℝ) * (slr * lg) : ℝ) : EReal) := by
  rw [up_apply, sc_real k kr hk e qr slr Q hQ g ⟨n.val, by omega⟩ c]
  have : n.val % 256 = n.val := by omega
  simp only [this]

theorem lo_real (g : ℕ) (n : Fin 256) (c : Fin 512) : lo (F := Ideal) (sc (grp (KG k) g) Q) (ix2 n c)
    = ((dotE e kr qr (256 * min (2 * g) 30 + (256 + n.val)) c * (1 / 8 * lg) + (n.val : ℝ) * (slr * lg) : ℝ) : EReal) := by
  rw [lo_apply, sc_real k kr hk e qr slr Q hQ g ⟨256 + n.val, by omega⟩ c]
  have : (256 + n.val) % 256 = n.val := by omega
  simp only [this]

/-- The weights of a group of the loop: those of the keys before the query tile, else none. -/
theorem wt_loop (g s : ℕ) (hg : g < 16) (hs : s < 16) (n c : Fin 512) :
    wt (GT (up (sc (grp (KG k) g) Q)) (lo (sc (grp (KG k) g) Q))
      (biasM (F := Ideal) ((slr * lg : ℝ) : EReal) (BitVec.ofNat 32 g) (BitVec.ofNat 32 s) 0#32)
      (biasM (F := Ideal) ((slr * lg : ℝ) : EReal) (BitVec.ofNat 32 g) (BitVec.ofNat 32 s) 1#32) c n)
      = if g < s then PW e kr qr slr s (512 * g + n.val) c else 0 := by
  rw [biasM_real _ g s 0 (by omega) hs (by omega), biasM_real _ g s 1 (by omega) hs (by omega)]
  unfold GT
  by_cases h : g < s
  · rw [if_pos h, if_pos h, if_pos h]
    unfold PW
    rw [if_pos (by omega)]
    by_cases hn : n.val < 256
    · rw [dif_pos hn, up_real k kr hk e qr slr Q hQ, ← EReal.coe_add, wt_coe]
      unfold TT
      have e1 : 256 * min (2 * g) 30 + n.val = 512 * g + n.val := by omega
      simp only [e1]
      congr 1; push_cast; ring
    · rw [dif_neg hn, lo_real k kr hk e qr slr Q hQ, ← EReal.coe_add, wt_coe]
      unfold TT
      have e1 : 256 * min (2 * g) 30 + (256 + (n.val - 256)) = 512 * g + n.val := by omega
      have e2 : ((n.val - 256 : ℕ) : ℝ) = (n.val : ℝ) - 256 := by rw [Nat.cast_sub (by omega)]; norm_num
      simp only [e1, e2]
      congr 1; push_cast; ring
  · rw [if_neg h, if_neg h, if_neg h]
    by_cases hn : n.val < 256
    · rw [dif_pos hn, EReal.add_bot, wt_bot]
    · rw [dif_neg hn, EReal.add_bot, wt_bot]

/-- The weights of the query tile's own group. -/
theorem wt_own (s : ℕ) (hs : s < 16) (n c : Fin 512) :
    wt (GT (dgU (sc (grp (KG k) s) Q)) (dgL (sc (grp (KG k) s) Q))
      (bias (F := Ideal) ((slr * lg : ℝ) : EReal) (BitVec.ofNat 32 s) (BitVec.ofNat 32 s) 0#32)
      (bias (F := Ideal) ((slr * lg : ℝ) : EReal) (BitVec.ofNat 32 s) (BitVec.ofNat 32 s) 1#32) c n)
      = PW e kr qr slr s (512 * s + n.val) c := by
  rw [bias_real _ s s 0 (by omega) hs (by omega), bias_real _ s s 1 (by omega) hs (by omega)]
  unfold GT PW
  by_cases hn : n.val < 256
  · rw [dif_pos hn]
    show wt ((up (F := Ideal) (sc (grp (KG k) s) Q) (ix2 _ c) + maskU (F := Ideal) 0#32 0#32 (ix2 _ c)) + _) = _
    rw [maskU0, up_real k kr hk e qr slr Q hQ]
    by_cases hc : n.val ≤ c.val
    · rw [if_pos hc, if_pos (by omega), add_zero, ← EReal.coe_add, wt_coe]
      unfold TT
      have e1 : 256 * min (2 * s) 30 + n.val = 512 * s + n.val := by omega
      simp only [e1]
      congr 1; push_cast; ring
    · rw [if_neg hc, if_neg (by omega), EReal.add_bot, EReal.bot_add, wt_bot]
  · rw [dif_neg hn]
    show wt ((lo (F := Ideal) (sc (grp (KG k) s) Q) (ix2 _ c) + maskU (F := Ideal) 1#32 256#32 (ix2 _ c)) + _) = _
    rw [maskU1, lo_real k kr hk e qr slr Q hQ]
    by_cases hc : n.val ≤ c.val
    · rw [if_pos (by show n.val - 256 + 256 ≤ c.val; omega), if_pos (by omega), add_zero, ← EReal.coe_add, wt_coe]
      unfold TT
      have e1 : 256 * min (2 * s) 30 + (256 + (n.val - 256)) = 512 * s + n.val := by omega
      have e2 : ((n.val - 256 : ℕ) : ℝ) = (n.val : ℝ) - 256 := by rw [Nat.cast_sub (by omega)]; norm_num
      simp only [e1, e2]
      congr 1; push_cast; ring
    · rw [if_neg (by show ¬ n.val - 256 + 256 ≤ c.val; omega), if_neg (by omega), EReal.add_bot, EReal.bot_add, wt_bot]
end group

end Cert.KernelIdeal.Hand
end
-- ==== Proof.Ref.lean ====
/- The reference's result, in layers. -/
module

public import proofs.«01_k».proof.Proof.Gen.ReferenceIdeal.Run
public import proofs.«01_k».proof.Proof.KI.Scores

@[expose] public section

noncomputable section

namespace Cert.ReferenceIdeal.Hand
open Cert.ReferenceIdeal Cert.ReferenceIdeal.Gen Cert.ReferenceIdeal.Value
open Idealize.ShloMosaic Idealize.ShloMosaic.TcCoe Idealize.SL.Sem

section layers
variable {F : FTy → Type} [FloatOps F]

/-- A query's position less a key's. -/
def dist : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The heads' slopes. -/
def slopes : FVec F S8 .f32 :=
  Host.powf (broadcastInDim S8 ![] bcast_S_S8 (constant S_ .f32 0x40000000#32)) (Host.divf (mulf (broadcastInDim S8 ![] bcast_S_S8 (constant S_ .f32 0xC1000000#32)) (addf (broadcastInDim S8 ![] bcast_S_S8 (constant S_ .f32 0x3F800000#32)) (sitofp .f32 (iotaInDim S8 32 0)))) (broadcastInDim S8 ![] bcast_S_S8 (constant S_ .f32 0x41000000#32)))

/-- The masked scores. -/
def scores (q k : FVec F S2x8192x8x2x64 .f32) : FVec F S2x8x2x8192x8192 .f32 :=
  select (broadcastInDim S2x8x2x8192x8192 ![3, 4] bcast_S8192x8192_S2x8x2x8192x8192_3_4 (cmpi .sge dist (broadcastInDim S8192x8192 ![] bcast_S_S8192x8192 (constantI S_ 32 0#32))))
    (subf (mulf (Host.dotGeneral dot_S2x8192x8x2x64_S2x8192x8x2x64_S2x8x2x8192x8192_4_4_1_1_023_023 none q k) (broadcastInDim S2x8x2x8192x8192 ![] bcast_S_S2x8x2x8192x8192 (constant S_ .f32 0x3E000000#32)))
      (broadcastInDim S2x8x2x8192x8192 ![0, 1, 2, 3, 4] bcast_S1x8x1x8192x8192_S2x8x2x8192x8192_0_1_2_3_4 (mulf (broadcastInDim S1x8x1x8192x8192 ![0, 1, 2, 3, 4] bcast_S1x8x1x1x1_S1x8x1x8192x8192_0_1_2_3_4 (broadcastInDim S1x8x1x1x1 ![1] bcast_S8_S1x8x1x1x1_1 slopes))
        (broadcastInDim S1x8x1x8192x8192 ![0, 1, 2, 3, 4] bcast_S1x1x1x8192x8192_S1x8x1x8192x8192_0_1_2_3_4 (broadcastInDim S1x1x1x8192x8192 ![3, 4] bcast_S8192x8192_S1x1x1x8192x8192_3_4 (sitofp .f32 dist))))))
    (broadcastInDim S2x8x2x8192x8192 ![] bcast_S_S2x8x2x8192x8192 (id (constant S_ .f32 0xFF800000#32)))

/-- The scores' row maxima. -/
def rmx (s : FVec F S2x8x2x8192x8192 .f32) : FVec F S2x8x2x8192 .f32 :=
  maximumf (broadcastInDim S2x8x2x8192 ![] bcast_S_S2x8x2x8192 (constant S_ .f32 0xFF800000#32)) (Host.reduce FloatOps.maximumf s (constant S_ .f32 0xFF800000#32) reducesTo_S2x8x2x8192x8192_S2x8x2x8192_d4 h_S_)

/-- The exponentials of the scores less their row's maximum. -/
def ex (s : FVec F S2x8x2x8192x8192 .f32) : FVec F S2x8x2x8192x8192 .f32 :=
  Host.exp (subf s (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (rmx s))))

/-- The row softmax. -/
def soft (x : FVec F S2x8x2x8192x8192 .f32) : FVec F S2x8x2x8192x8192 .f32 :=
  Host.divf x (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3
    (Host.reduceAdd x (constant S_ .f32 0x00000000#32) reducesTo_S2x8x2x8192x8192_S2x8x2x8192_d4 h_S_)))

/-- The two softmaxes' difference applied to the values. -/
def att (p : FVec F S2x8x2x8192x8192 .f32) (v : FVec F S2x8192x8x128 .f32) (lam : FVec F S1x1 .f32) : FVec F S2x8192x8x128 .f32 :=
  transpose S2x8192x8x128 [0, 3, 1, 2] (Host.dotGeneral dot_S2x8192x8x128_S2x8x8192x8192_S2x8x128x8192_1_3_3_2_02_01 none v
    (subf (shapeCast S2x8x8192x8192 (extractStridedSlice S2x8x1x8192x8192 ![0, 0, 0, 0, 0] p slices_S2x8x2x8192x8192_S2x8x1x8192x8192_0_0_0_0_0) shapeCasts_S2x8x1x8192x8192_S2x8x8192x8192)
      (mulf (broadcastInDim S2x8x8192x8192 ![] bcast_S_S2x8x8192x8192 (shapeCast S_ lam shapeCasts_S1x1_S_))
        (shapeCast S2x8x8192x8192 (extractStridedSlice S2x8x1x8192x8192 ![0, 0, 1, 0, 0] p slices_S2x8x2x8192x8192_S2x8x1x8192x8192_0_0_1_0_0) shapeCasts_S2x8x1x8192x8192_S2x8x8192x8192))))
    transposes_S2x8x128x8192_S2x8192x8x128_0_3_1_2

/-- The norm over a head's features. -/
def norm (o : FVec F S2x8192x8x128 .f32) (w : FVec F S128 .f32) : FVec F S16384x1024 .f32 :=
  shapeCast S16384x1024 (mulf (mulf (mulf o (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf o o) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32))))))
    (broadcastInDim S2x8192x8x128 ![0, 1, 2, 3] bcast_S1x1x1x128_S2x8192x8x128_0_1_2_3 (broadcastInDim S1x1x1x128 ![3] bcast_S128_S1x1x1x128_3 w)))
    (broadcastInDim S2x8192x8x128 ![] bcast_S_S2x8192x8x128 (constant S_ .f32 0x3F24FD5C#32))) shapeCasts_S2x8192x8x128_S16384x1024

/-- The whole reference. -/
def whole (q k : FVec F S2x8192x8x2x64 .f32) (v : FVec F S2x8192x8x128 .f32) (lam : FVec F S1x1 .f32) (w : FVec F S128 .f32) : FVec F S16384x1024 .f32 :=
  norm (att (soft (ex (scores q k))) v lam) w

theorem res_eq (m : (ℓ : Loc nD τ sig) → Buf (Elt F) ℓ) (c : Dev nD) :
    res_main_v65 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end layers

/-! ### The layers at an index -/

/-- The norm of the vector `x`, its weight `w`, at feature `r`. -/
def fin (x : Fin 128 → EReal) (w : EReal) (r : Fin 128) : EReal :=
  x r * Ideal.rsqrt (Ideal.div (∑ y, x y * x y) (Ideal.ofBits .f32 0x43000000#32) + Ideal.ofBits .f32 0x358637BD#32) * w * Ideal.ofBits .f32 0x3F24FD5C#32

theorem norm_apply (o : FVec Ideal S2x8192x8x128 .f32) (w : FVec Ideal S128 .f32) (b : Fin 2) (Q : Fin 8192) (h : Fin 8) (e : Fin 128) (R : Fin 16384) (C : Fin 1024)
    (hR : R.val = 8192 * b.val + Q.val) (hC : C.val = 128 * h.val + e.val) :
    norm o w (ix2 R C) = fin (fun e => o (ix4 b Q h e)) (w (ix1 e)) e := by
  have h1 : (⟨R.val / 8192, by omega⟩ : Fin 2) = b := Fin.ext (by show R.val / 8192 = b.val; omega)
  have h2 : (⟨R.val % 8192, by omega⟩ : Fin 8192) = Q := Fin.ext (by show R.val % 8192 = Q.val; omega)
  have h3 : (⟨C.val / 128, by omega⟩ : Fin 8) = h := Fin.ext (by show C.val / 128 = h.val; omega)
  have h4 : (⟨C.val % 128, by omega⟩ : Fin 128) = e := Fin.ext (by show C.val % 128 = e.val; omega)
  unfold norm fin
  pointwise
  rw [h1, h2, h3, h4]

theorem att_apply (p : FVec Ideal S2x8x2x8192x8192 .f32) (v : FVec Ideal S2x8192x8x128 .f32) (lam : FVec Ideal S1x1 .f32) (b : Fin 2) (Q : Fin 8192) (h : Fin 8) (e : Fin 128) :
    att p v lam (ix4 b Q h e) = ∑ x : Fin 8192, v (ix4 b x h e) * (p (ix5 b h 0 Q x) - lam (ix2 0 0) * p (ix5 b h 1 Q x)) := by
  unfold att
  pointwise

theorem soft_apply (x : FVec Ideal S2x8x2x8192x8192 .f32) (b : Fin 2) (h : Fin 8) (j : Fin 2) (Q p : Fin 8192) :
    soft x (ix5 b h j Q p) = Ideal.div (x (ix5 b h j Q p)) (∑ y : Fin 8192, x (ix5 b h j Q y)) := by
  unfold soft
  pointwise

theorem red_apply (x : FVec Ideal S2x8x2x8192x8192 .f32) (b : Fin 2) (h : Fin 8) (j : Fin 2) (Q : Fin 8192) :
    Host.reduce (FloatOps.maximumf (F := Ideal) (φ := .f32)) x (constant S_ .f32 0xFF800000#32) reducesTo_S2x8x2x8192x8192_S2x8x2x8192_d4 h_S_ (ix4 b h j Q) = Finset.fold max (Ideal.ofBits .f32 0xFF800000#32) (fun p => x (ix5 b h j Q p)) Finset.univ := by
  pointwise

theorem max_bits (r : FVec Ideal S2x8x2x8192 .f32) (i : S2x8x2x8192.Idx) :
    maximumf (broadcastInDim S2x8x2x8192 ![] bcast_S_S2x8x2x8192 (constant S_ .f32 0xFF800000#32)) r i = max (Ideal.ofBits .f32 0xFF800000#32) (r i) := by
  pointwise

theorem rmx_real (s : FVec Ideal S2x8x2x8192x8192 .f32) (b : Fin 2) (h : Fin 8) (j : Fin 2) (Q : Fin 8192) (h1 : ∀ p, s (ix5 b h j Q p) ≠ ⊤)
    (h0 : s (ix5 b h j Q 0) ≠ ⊥) : ∃ μ : ℝ, rmx s (ix4 b h j Q) = (μ : EReal) := by
  unfold rmx
  rw [max_bits, red_apply, KernelIdeal.Hand.ofBits_bot, max_eq_right bot_le]
  refine KernelIdeal.Hand.real_of_bounds _ (fun hb => h0 ?_) ?_
  · have : s (ix5 b h j Q 0) ≤ Finset.fold max ⊥ (fun p => s (ix5 b h j Q p)) Finset.univ :=
      (Finset.le_fold_max _).2 (.inr ⟨0, Finset.mem_univ _, le_rfl⟩)
    rw [hb] at this
    exact le_bot_iff.1 this
  · refine ne_of_lt ((Finset.fold_max_lt _).2 ⟨bot_lt_top, fun x _ => lt_top_iff_ne_top.2 (h1 x)⟩)

theorem ex_gen (x : FVec Ideal S2x8x2x8192x8192 .f32) (y : FVec Ideal S2x8x2x8192 .f32) (b : Fin 2) (h : Fin 8) (j : Fin 2) (Q p : Fin 8192) :
    Host.exp (subf x (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 y))) (ix5 b h j Q p)
      = Ideal.exp (x (ix5 b h j Q p) - y (ix4 b h j Q)) := by
  pointwise

theorem ex_apply (x : FVec Ideal S2x8x2x8192x8192 .f32) (b : Fin 2) (h : Fin 8) (j : Fin 2) (Q p : Fin 8192) :
    ex x (ix5 b h j Q p) = Ideal.exp (x (ix5 b h j Q p) - rmx x (ix4 b h j Q)) := by
  unfold ex
  rw [ex_gen]

/-- Head `h`'s slope. -/
def slope (h : Fin 8) : ℝ := Real.rpow 2 (-8 * (1 + (h.val : ℝ)) * (1 / 8))

theorem bits_two : Ideal.ofBits .f32 0x40000000#32 = ((2 : ℝ) : EReal) := by
  simp [Ideal.ofBits, Ideal.ieee]; rw [← EReal.coe_mul]; norm_num
theorem bits_m8 : Ideal.ofBits .f32 0xC1000000#32 = ((-8 : ℝ) : EReal) := by
  simp [Ideal.ofBits, Ideal.ieee]; rw [← EReal.coe_mul]; norm_num
theorem bits_8 : Ideal.ofBits .f32 0x41000000#32 = ((8 : ℝ) : EReal) := by
  simp [Ideal.ofBits, Ideal.ieee]; rw [← EReal.coe_mul]; norm_num
theorem bits_8th : Ideal.ofBits .f32 0x3E000000#32 = ((1 / 8 : ℝ) : EReal) := by
  simp [Ideal.ofBits, Ideal.ieee]; rw [← EReal.coe_mul]; norm_num

theorem slopes_apply (h : Fin 8) : slopes (F := Ideal) (ix1 h) = (slope h : EReal) := by
  unfold slopes
  pointwise
  rw [bits_two, bits_m8, bits_8, Ideal.div_coe (by norm_num)]
  have hh : (BitVec.ofNat 32 h.val).toInt = (h.val : ℤ) := by revert h; decide +kernel
  have : FloatOps.sitofp (F := Ideal) .f32 (BitVec.ofNat 32 h.val) = ((h.val : ℝ) : EReal) := by
    show (((BitVec.ofNat 32 h.val).toInt : ℝ) : EReal) = _
    rw [hh]; rfl
  rw [this, ← EReal.coe_one, ← EReal.coe_add, ← EReal.coe_mul, ← EReal.coe_mul]
  rfl

section real
variable (q k : FVec Ideal S2x8192x8x2x64 .f32) (qf kf : S2x8192x8x2x64.Idx → ℝ) (hq : ∀ i, q i = (qf i : EReal)) (hk : ∀ i, k i = (kf i : EReal))

/-- The unmasked score of query `Q` and key `p`. -/
def SR (qf kf : S2x8192x8x2x64.Idx → ℝ) (b : Fin 2) (h : Fin 8) (j : Fin 2) (Q p : Fin 8192) : ℝ :=
  (∑ x : Fin 64, qf (ix5 b Q h j x) * kf (ix5 b p h j x)) * (1 / 8) - slope h * ((Q.val : ℝ) - (p.val : ℝ))

theorem scores_raw (b : Fin 2) (h : Fin 8) (j : Fin 2) (Q p : Fin 8192) :
    scores q k (ix5 b h j Q p) = Scalar.select (IntOp.cmpi CmpIPredicate.sge (IntOp.subi (BitVec.ofNat 32 Q.val) (BitVec.ofNat 32 p.val)) 0#32)
      ((∑ x : Fin 64, q (ix5 b Q h j x) * k (ix5 b p h j x)) * Ideal.ofBits .f32 0x3E000000#32 -
        slopes (F := Ideal) (ix1 h) * FloatOps.sitofp .f32 (IntOp.subi (BitVec.ofNat 32 Q.val) (BitVec.ofNat 32 p.val)))
      (Ideal.ofBits .f32 0xFF800000#32) := by
  unfold scores dist
  pointwise
  rfl

theorem sub_toInt (Q p : Fin 8192) : (IntOp.subi (BitVec.ofNat 32 Q.val) (BitVec.ofNat 32 p.val)).toInt = (Q.val : ℤ) - (p.val : ℤ) := by
  have h1 := Q.isLt
  have h2 := p.isLt
  show (BitVec.ofNat 32 Q.val - BitVec.ofNat 32 p.val).toInt = _
  rw [BitVec.toInt_sub, WordCmp.toInt_ofNat_of_lt (by omega), WordCmp.toInt_ofNat_of_lt (by omega)]
  exact Int.bmod_eq_of_le (by omega) (by omega)

include hq hk in
theorem scores_real (b : Fin 2) (h : Fin 8) (j : Fin 2) (Q p : Fin 8192) :
    scores q k (ix5 b h j Q p) = if p.val ≤ Q.val then (SR qf kf b h j Q p : EReal) else ⊥ := by
  rw [scores_raw, slopes_apply, bits_8th, KernelIdeal.Hand.ofBits_bot]
  have e1 : FloatOps.sitofp (F := Ideal) .f32 (IntOp.subi (BitVec.ofNat 32 Q.val) (BitVec.ofNat 32 p.val)) = (((Q.val : ℝ) - (p.val : ℝ) : ℝ) : EReal) := by
    show (((IntOp.subi (BitVec.ofNat 32 Q.val) (BitVec.ofNat 32 p.val)).toInt : ℝ) : EReal) = _
    rw [sub_toInt]; push_cast; rfl
  have e2 : (IntOp.cmpi CmpIPredicate.sge (IntOp.subi (BitVec.ofNat 32 Q.val) (BitVec.ofNat 32 p.val)) 0#32 = 1#1) ↔ p.val ≤ Q.val := by
    show BitVec.ofBool (decide ((0#32 : BitVec 32).toInt ≤ (IntOp.subi (BitVec.ofNat 32 Q.val) (BitVec.ofNat 32 p.val)).toInt)) = 1#1 ↔ _
    rw [sub_toInt]
    by_cases hp : p.val ≤ Q.val
    · simp [hp]
    · simp [hp]
  rw [e1, KernelIdeal.Hand.sel_of e2]
  simp only [hq, hk, ← EReal.coe_mul]
  rw [KernelIdeal.Hand.coe_sum', ← EReal.coe_mul, ← EReal.coe_sub]
  rfl

/-- The exponential of a score less a maximum. -/
def EX (qf kf : S2x8192x8x2x64.Idx → ℝ) (b : Fin 2) (h : Fin 8) (j : Fin 2) (Q : Fin 8192) (μ : ℝ) (p : Fin 8192) : ℝ :=
  if p.val ≤ Q.val then Real.exp (SR qf kf b h j Q p - μ) else 0

include hq hk in
theorem ex_real (b : Fin 2) (h : Fin 8) (j : Fin 2) (Q : Fin 8192) :
    ∃ μ : ℝ, ∀ p, ex (scores q k) (ix5 b h j Q p) = (EX qf kf b h j Q μ p : EReal) := by
  have hs := scores_real q k qf kf hq hk b h j Q
  obtain ⟨μ, hμ⟩ := rmx_real (scores q k) b h j Q (fun p => by rw [hs]; split_ifs <;> simp) (by rw [hs, if_pos (show (0 : Fin 8192).val ≤ Q.val from Nat.zero_le _)]; exact EReal.coe_ne_bot _)
  refine ⟨μ, fun p => ?_⟩
  rw [ex_apply, hs, hμ]
  unfold EX
  split_ifs with hp
  · rw [← EReal.coe_sub, Ideal.exp_coe]
  · rw [EReal.bot_sub]; rfl

theorem EX_sum_pos (b : Fin 2) (h : Fin 8) (j : Fin 2) (Q : Fin 8192) (μ : ℝ) : 0 < ∑ p, EX qf kf b h j Q μ p := by
  refine Finset.sum_pos' (fun p _ => ?_) ⟨Q, Finset.mem_univ _, ?_⟩
  · unfold EX; split_ifs
    · exact (Real.exp_pos _).le
    · exact le_rfl
  · unfold EX; rw [if_pos le_rfl]; exact Real.exp_pos _

variable (v : FVec Ideal S2x8192x8x128 .f32) (vf : S2x8192x8x128.Idx → ℝ) (hv : ∀ i, v i = (vf i : EReal)) (lam : FVec Ideal S1x1 .f32) (l : ℝ) (hl : lam (ix2 0 0) = (l : EReal))

include hq hk hv hl in
theorem att_real (b : Fin 2) (Q : Fin 8192) (h : Fin 8) :
    ∃ μ0 μ1 : ℝ, ∀ e, att (soft (ex (scores q k))) v lam (ix4 b Q h e)
      = (((∑ p, vf (ix4 b p h e) * EX qf kf b h 0 Q μ0 p) / (∑ p, EX qf kf b h 0 Q μ0 p)
          - l * ((∑ p, vf (ix4 b p h e) * EX qf kf b h 1 Q μ1 p) / (∑ p, EX qf kf b h 1 Q μ1 p)) : ℝ) : EReal) := by
  obtain ⟨μ0, h0⟩ := ex_real q k qf kf hq hk b h 0 Q
  obtain ⟨μ1, h1⟩ := ex_real q k qf kf hq hk b h 1 Q
  refine ⟨μ0, μ1, fun e => ?_⟩
  have s0 := (EX_sum_pos qf kf b h 0 Q μ0).ne'
  have s1 := (EX_sum_pos qf kf b h 1 Q μ1).ne'
  rw [att_apply]
  simp only [soft_apply, h0, h1, hv, hl, KernelIdeal.Hand.coe_sum', Ideal.div_coe s0, Ideal.div_coe s1, ← EReal.coe_mul, ← EReal.coe_sub]
  refine congrArg Real.toEReal ?_
  rw [Finset.sum_div, Finset.sum_div, Finset.mul_sum, ← Finset.sum_sub_distrib]
  refine Finset.sum_congr rfl fun p _ => ?_
  ring

end real

end Cert.ReferenceIdeal.Hand
end
-- ==== Proof.KI.Blocks.lean ====
/- The blocks a grid point reads, as entries of the program's arguments. -/
module

public import proofs.«01_k».proof.Proof.KI.Run
public import proofs.«01_k».proof.Proof.Ref
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand
open Cert.KernelIdeal Cert.KernelIdeal.Gen
open Idealize.ShloMosaic Idealize.ShloMosaic.TcCoe Idealize.SL.Sem

theorem index3 : ∀ t : Fin cfg0.N, (cfg0.win 3).index t = ![16 * (grid0.coords t 0).val + (grid0.coords t 2).val, (grid0.coords t 1).val] := by decide +kernel
theorem index4 : ∀ t : Fin cfg0.N, (cfg0.win 4).index t = ![(grid0.coords t 0).val, (grid0.coords t 1).val, 0] := by decide +kernel
theorem index5 : ∀ t : Fin cfg0.N, (cfg0.win 5).index t = ![(grid0.coords t 0).val, (grid0.coords t 1).val, 0] := by decide +kernel
theorem index6 : ∀ t : Fin cfg0.N, (cfg0.win 6).index t = ![16 * (grid0.coords t 0).val + (grid0.coords t 2).val, (grid0.coords t 1).val] := by decide +kernel
theorem index0 : ∀ t : Fin cfg0.N, (cfg0.win 0).index t = ![0] := by decide +kernel
theorem index1 : ∀ t : Fin cfg0.N, (cfg0.win 1).index t = ![0, 0] := by decide +kernel
theorem index2 : ∀ t : Fin cfg0.N, (cfg0.win 2).index t = ![0, 0] := by decide +kernel

variable (m : (ℓ : Loc nD τ sig) → Buf (Elt Ideal) ℓ) (c : Dev nD)

theorem Vq : V m c main_v4 = shapeCast S16384x1024 (m ((c.tc : Thread nD τ).loc main_arg0)) shapeCasts_S2x8192x8x2x64_S16384x1024 := by
  entry_read
  rfl
theorem Vk : V m c main_v1 = transpose S2x1024x8192 [0, 2, 1] (shapeCast S2x8192x1024 (m ((c.tc : Thread nD τ).loc main_arg1)) shapeCasts_S2x8192x8x2x64_S2x8192x1024) transposes_S2x8192x1024_S2x1024x8192_0_2_1 := by
  entry_read
  rfl
theorem Vv : V m c main_v3 = transpose S2x1024x8192 [0, 2, 1] (shapeCast S2x8192x1024 (m ((c.tc : Thread nD τ).loc main_arg2)) shapeCasts_S2x8192x8x128_S2x8192x1024) transposes_S2x8192x1024_S2x1024x8192_0_2_1 := by
  entry_read
  rfl
theorem Vs : V m c main_v13 = ReferenceIdeal.Hand.slopes (F := Ideal) := by
  entry_read
  rfl
theorem Vw : V m c main_v14 = shapeCast S1x128 (m ((c.tc : Thread nD τ).loc main_arg4)) shapeCasts_S128_S1x128 := by
  entry_read
  rfl

theorem emb3 (t : Fin cfg0.N) (a : Fin 512) (r : Fin 128) (R : Fin 16384) (C : Fin 1024)
    (hR : R.val = (16 * (grid0.coords t 0).val + (grid0.coords t 2).val) * 512 + a.val) (hC : C.val = (grid0.coords t 1).val * 128 + r.val) :
    ((cfg0.win 3).blk t).view.emb (ix2 a r) = ix2 R C := by
  refine funext fun x => Fin.ext ?_
  match x with
  | 0 => exact (Pipeline.Window.rect_emb_val (cfg0.win 3) t (ix2 a r) 0).trans (by rw [index3]; exact hR.symm)
  | 1 => exact (Pipeline.Window.rect_emb_val (cfg0.win 3) t (ix2 a r) 1).trans (by rw [index3]; exact hC.symm)

theorem emb6 (t : Fin cfg0.N) (a : Fin 512) (r : Fin 128) (R : Fin 16384) (C : Fin 1024)
    (hR : R.val = (16 * (grid0.coords t 0).val + (grid0.coords t 2).val) * 512 + a.val) (hC : C.val = (grid0.coords t 1).val * 128 + r.val) :
    ((cfg0.win 6).blk t).view.emb (ix2 a r) = ix2 R C := by
  refine funext fun x => Fin.ext ?_
  match x with
  | 0 => exact (Pipeline.Window.rect_emb_val (cfg0.win 6) t (ix2 a r) 0).trans (by rw [index6]; exact hR.symm)
  | 1 => exact (Pipeline.Window.rect_emb_val (cfg0.win 6) t (ix2 a r) 1).trans (by rw [index6]; exact hC.symm)

theorem emb4 (t : Fin cfg0.N) (r : Fin 128) (p : Fin 8192) (b : Fin 2) (C : Fin 1024)
    (hb : b.val = (grid0.coords t 0).val) (hC : C.val = (grid0.coords t 1).val * 128 + r.val) :
    ((cfg0.win 4).blk t).view.emb (ix3 0 r p) = ix3 b C p := by
  refine funext fun x => Fin.ext ?_
  match x with
  | 0 => exact (Pipeline.Window.rect_emb_val (cfg0.win 4) t (ix3 0 r p) 0).trans (by rw [index4]; show (grid0.coords t 0).val * 1 + 0 = b.val; omega)
  | 1 => exact (Pipeline.Window.rect_emb_val (cfg0.win 4) t (ix3 0 r p) 1).trans (by rw [index4]; exact hC.symm)
  | 2 => exact (Pipeline.Window.rect_emb_val (cfg0.win 4) t (ix3 0 r p) 2).trans (by rw [index4]; show 0 * 8192 + p.val = p.val; omega)

theorem emb5 (t : Fin cfg0.N) (r : Fin 128) (p : Fin 8192) (b : Fin 2) (C : Fin 1024)
    (hb : b.val = (grid0.coords t 0).val) (hC : C.val = (grid0.coords t 1).val * 128 + r.val) :
    ((cfg0.win 5).blk t).view.emb (ix3 0 r p) = ix3 b C p := by
  refine funext fun x => Fin.ext ?_
  match x with
  | 0 => exact (Pipeline.Window.rect_emb_val (cfg0.win 5) t (ix3 0 r p) 0).trans (by rw [index5]; show (grid0.coords t 0).val * 1 + 0 = b.val; omega)
  | 1 => exact (Pipeline.Window.rect_emb_val (cfg0.win 5) t (ix3 0 r p) 1).trans (by rw [index5]; exact hC.symm)
  | 2 => exact (Pipeline.Window.rect_emb_val (cfg0.win 5) t (ix3 0 r p) 2).trans (by rw [index5]; show 0 * 8192 + p.val = p.val; omega)

theorem emb0 (t : Fin cfg0.N) (h : Fin 8) : ((cfg0.win 0).blk t).view.emb (ix1 h) = ix1 h := by
  refine funext fun x => Fin.ext ?_
  match x with
  | 0 => exact (Pipeline.Window.rect_emb_val (cfg0.win 0) t (ix1 h) 0).trans (by rw [index0]; show 0 * 8 + h.val = h.val; omega)

theorem emb1 (t : Fin cfg0.N) : ((cfg0.win 1).blk t).view.emb (ix2 0 0) = ix2 0 0 := by
  refine funext fun x => Fin.ext ?_
  match x with
  | 0 => exact (Pipeline.Window.rect_emb_val (cfg0.win 1) t (ix2 0 0) 0).trans (by rw [index1]; rfl)
  | 1 => exact (Pipeline.Window.rect_emb_val (cfg0.win 1) t (ix2 0 0) 1).trans (by rw [index1]; rfl)

theorem emb2 (t : Fin cfg0.N) (r : Fin 128) : ((cfg0.win 2).blk t).view.emb (ix2 0 r) = ix2 0 r := by
  refine funext fun x => Fin.ext ?_
  match x with
  | 0 => exact (Pipeline.Window.rect_emb_val (cfg0.win 2) t (ix2 0 r) 0).trans (by rw [index2]; rfl)
  | 1 => exact (Pipeline.Window.rect_emb_val (cfg0.win 2) t (ix2 0 r) 1).trans (by rw [index2]; show 0 * 128 + r.val = r.val; omega)

theorem castq (x : FVec Ideal S2x8192x8x2x64 .f32) (R : Fin 16384) (C : Fin 1024) (b : Fin 2) (Q : Fin 8192) (h : Fin 8) (j : Fin 2) (d : Fin 64)
    (hR : R.val = 8192 * b.val + Q.val) (hC : C.val = 128 * h.val + 64 * j.val + d.val) :
    shapeCast S16384x1024 x shapeCasts_S2x8192x8x2x64_S16384x1024 (ix2 R C) = x (ix5 b Q h j d) := by
  pointwise
  congr 1
  ext1 y; apply Fin.ext
  match y with
  | 0 => show R.val / 8192 = b.val; omega
  | 1 => show R.val % 8192 = Q.val; omega
  | 2 => show C.val / 128 = h.val; omega
  | 3 => show C.val / 64 % 2 = j.val; omega
  | 4 => show C.val % 64 = d.val; omega

theorem castk (x : FVec Ideal S2x8192x8x2x64 .f32) (p : Fin 8192) (C : Fin 1024) (b : Fin 2) (h : Fin 8) (j : Fin 2) (d : Fin 64)
    (hC : C.val = 128 * h.val + 64 * j.val + d.val) :
    transpose S2x1024x8192 [0, 2, 1] (shapeCast S2x8192x1024 x shapeCasts_S2x8192x8x2x64_S2x8192x1024) transposes_S2x8192x1024_S2x1024x8192_0_2_1 (ix3 b C p) = x (ix5 b p h j d) := by
  pointwise
  congr 1
  ext1 y; apply Fin.ext
  match y with
  | 0 => rfl
  | 1 => rfl
  | 2 => show C.val / 128 = h.val; omega
  | 3 => show C.val / 64 % 2 = j.val; omega
  | 4 => show C.val % 64 = d.val; omega

theorem castv (x : FVec Ideal S2x8192x8x128 .f32) (p : Fin 8192) (C : Fin 1024) (b : Fin 2) (h : Fin 8) (r : Fin 128)
    (hC : C.val = 128 * h.val + r.val) :
    transpose S2x1024x8192 [0, 2, 1] (shapeCast S2x8192x1024 x shapeCasts_S2x8192x8x128_S2x8192x1024) transposes_S2x8192x1024_S2x1024x8192_0_2_1 (ix3 b C p) = x (ix4 b p h r) := by
  pointwise
  congr 1
  ext1 y; apply Fin.ext
  match y with
  | 0 => rfl
  | 1 => rfl
  | 2 => show C.val / 128 = h.val; omega
  | 3 => show C.val % 128 = r.val; omega

theorem castw (x : FVec Ideal S128 .f32) (r : Fin 128) : shapeCast S1x128 x shapeCasts_S128_S1x128 (ix2 0 r) = x (ix1 r) := by
  pointwise

theorem blk3 (t : Fin cfg0.N) (a : Fin 512) (r : Fin 128) (b : Fin 2) (Q : Fin 8192) (h : Fin 8) (j : Fin 2) (d : Fin 64)
    (hb : b.val = (grid0.coords t 0).val) (hQ : Q.val = 512 * (grid0.coords t 2).val + a.val) (hh : h.val = (grid0.coords t 1).val) (hr : r.val = 64 * j.val + d.val) :
    iblk m c 3 t (ix2 a r) = m ((c.tc : Thread nD τ).loc main_arg0) (ix5 b Q h j d) := by
  show V m c main_v4 (((cfg0.win 3).blk t).view.emb (ix2 a r)) = _
  rw [emb3 t a r ⟨8192 * b.val + Q.val, by omega⟩ ⟨128 * h.val + r.val, by omega⟩ (by show 8192 * b.val + Q.val = _; omega) (by show 128 * h.val + r.val = _; omega), Vq]
  exact castq _ _ _ b Q h j d rfl (by show 128 * h.val + r.val = _; omega)

theorem blk4 (t : Fin cfg0.N) (r : Fin 128) (p : Fin 8192) (b : Fin 2) (h : Fin 8) (j : Fin 2) (d : Fin 64)
    (hb : b.val = (grid0.coords t 0).val) (hh : h.val = (grid0.coords t 1).val) (hr : r.val = 64 * j.val + d.val) :
    iblk m c 4 t (ix3 0 r p) = m ((c.tc : Thread nD τ).loc main_arg1) (ix5 b p h j d) := by
  show V m c main_v1 (((cfg0.win 4).blk t).view.emb (ix3 0 r p)) = _
  rw [emb4 t r p b ⟨128 * h.val + r.val, by omega⟩ hb (by show 128 * h.val + r.val = _; omega), Vk]
  exact castk _ p _ b h j d (by show 128 * h.val + r.val = _; omega)

theorem blk5 (t : Fin cfg0.N) (r : Fin 128) (p : Fin 8192) (b : Fin 2) (h : Fin 8)
    (hb : b.val = (grid0.coords t 0).val) (hh : h.val = (grid0.coords t 1).val) :
    iblk m c 5 t (ix3 0 r p) = m ((c.tc : Thread nD τ).loc main_arg2) (ix4 b p h r) := by
  show V m c main_v3 (((cfg0.win 5).blk t).view.emb (ix3 0 r p)) = _
  rw [emb5 t r p b ⟨128 * h.val + r.val, by omega⟩ hb (by show 128 * h.val + r.val = _; omega), Vv]
  exact castv _ p _ b h r rfl

theorem blk0 (t : Fin cfg0.N) (h : Fin 8) : iblk m c 0 t (ix1 h) = (ReferenceIdeal.Hand.slope h : EReal) := by
  show V m c main_v13 (((cfg0.win 0).blk t).view.emb (ix1 h)) = _
  rw [emb0, Vs, ReferenceIdeal.Hand.slopes_apply]

theorem blk1 (t : Fin cfg0.N) : iblk m c 1 t (ix2 0 0) = m ((c.tc : Thread nD τ).loc main_arg3) (ix2 0 0) := by
  show V m c main_arg3 (((cfg0.win 1).blk t).view.emb (ix2 0 0)) = _
  rw [emb1, V_main_arg3]

theorem blk2 (t : Fin cfg0.N) (r : Fin 128) : iblk m c 2 t (ix2 0 r) = m ((c.tc : Thread nD τ).loc main_arg4) (ix1 r) := by
  show V m c main_v14 (((cfg0.win 2).blk t).view.emb (ix2 0 r)) = _
  rw [emb2, Vw]
  exact castw _ r

end Cert.KernelIdeal.Hand
end
-- ==== Proof.KI.Tile.lean ====
/- A query tile's accumulators as weighted sums over all keys, and the tile's result. -/
module

public import proofs.«01_k».proof.Proof.KI.Scores

@[expose] public section

noncomputable section

namespace Cert.KernelIdeal.Hand
open Cert.KernelIdeal Cert.KernelIdeal.Gen
open Idealize.ShloMosaic Idealize.ShloMosaic.TcCoe

theorem trips_eq (i : grid0.Coords) : (k0_t1_loop i).trips = ((i 2).val + 1) / 2 := by
  have h : ∀ s : Fin 16, Scf.trips 0#32 (Scalar.addi 0#32 (Scalar.muli (Scalar.divsi (Scalar.subi (Scalar.divsi (Scalar.addi (BitVec.ofNat 32 s.val) 1#32) 2#32) 0#32) 1#32) 1#32)) 1#32 = (s.val + 1) / 2 := by decide +kernel
  exact h (i 2)

/-- The biased scores of the own group, as the scratch gives them back. -/
theorem own512 (A B : FVec Ideal S512x512 .f32) (n : ℕ) (e : Fin 2) (he : e.val = n) (inb) (r c : Fin 512) :
    shapeCast S512x512 (rd512 (F := Ideal) rdC (L6 rdC A B) n inb) shapeCasts_S1x512x512_S512x512 (ix2 r c)
      = if h : r.val < 256 then dgU (if e = 0 then A else B) (ix2 ⟨r.val, h⟩ c) else dgL (if e = 0 then A else B) (ix2 ⟨r.val - 256, by omega⟩ c) := by
  have h1 : shapeCast S512x512 (rd512 (F := Ideal) rdC (L6 rdC A B) n inb) shapeCasts_S1x512x512_S512x512 (ix2 r c) = rd512 (F := Ideal) rdC (L6 rdC A B) n inb (ix3 0 r c) := by
    pointwise
  rw [h1, rd512C _ n e he]
  rcases (by omega : e = 0 ∨ e = 1) with rfl | rfl
  · exact L6_0 A B r c
  · exact L6_1 A B r c

theorem own256 (A B : FVec Ideal S512x512 .f32) (n : ℕ) (e : Fin 2) (he : e.val = n) (u : ℕ) (hu : u + 256 ≤ 512) (inb) (r : Fin 256) (c : Fin 512) :
    shapeCast S256x512 (rd256 (F := Ideal) rdC (L6 rdC A B) n u inb) shapeCasts_S1x256x512_S256x512 (ix2 r c)
      = if h : u + r.val < 256 then dgU (if e = 0 then A else B) (ix2 ⟨u + r.val, h⟩ c) else dgL (if e = 0 then A else B) (ix2 ⟨u + r.val - 256, by omega⟩ c) := by
  rw [cast256_apply, rd256C _ n e he u inb r c ⟨u + r.val, by omega⟩ rfl]
  rcases (by omega : e = 0 ∨ e = 1) with rfl | rfl
  · exact L6_0 A B _ c
  · exact L6_1 A B _ c

theorem ownM_apply (A B : FVec Ideal S512x512 .f32) (n : ℕ) (inb) (sl : EReal) (s : BitVec 32) (c : Fin 512) :
    ownM (F := Ideal) rdC A B n inb sl s (ix2 0 c)
      = max (rmax (F := Ideal) (up (shapeCast S512x512 (rd512 rdC (L6 rdC A B) n inb) shapeCasts_S1x512x512_S512x512)) (ix2 0 c) + bias (F := Ideal) sl s s 0#32)
          (rmax (F := Ideal) (lo (shapeCast S512x512 (rd512 rdC (L6 rdC A B) n inb) shapeCasts_S1x512x512_S512x512)) (ix2 0 c) + bias (F := Ideal) sl s s 1#32) := rfl

section column
variable (k v : FVec Ideal S1x128x8192 .f32) (kr vr : Fin 128 → ℕ → ℝ) (hk : ∀ r (p : Fin 8192), k (ix3 0 r p) = (kr r p.val : EReal))
    (hv : ∀ r (p : Fin 8192), v (ix3 0 r p) = (vr r p.val : EReal))
    (e : Fin 2) (qr : Fin 512 → Fin 128 → ℝ) (slr : ℝ) (Q : FVec Ideal S256x512 .bf16) (hQ : ∀ r c, Q (ix2 r c) = (QO e.val qr slr r c : EReal))

/-- The weighted values of group `g`. -/
def GS (vr kr : Fin 128 → ℕ → ℝ) (e : Fin 2) (qr : Fin 512 → Fin 128 → ℝ) (slr : ℝ) (s : ℕ) (r : Fin 144) (c : Fin 512) (g : ℕ) : ℝ :=
  ∑ n : Fin 512, WR vr r (512 * g + n.val) * PW e kr qr slr s (512 * g + n.val) c

/-- The same for a group of the loop: nothing from the query tile's own on. -/
def GLoop (vr kr : Fin 128 → ℕ → ℝ) (e : Fin 2) (qr : Fin 512 → Fin 128 → ℝ) (slr : ℝ) (s : ℕ) (r : Fin 144) (c : Fin 512) (g : ℕ) : ℝ :=
  if g < s then GS vr kr e qr slr s r c g else 0

/-- A column's state: maximum, accumulator and next maxima of one score half, the sums being `S`. -/
structure Col (M : FVec Ideal S1x512 .f32) (A : FVec Ideal S144x512 .f32) (b0 b1 : FVec Ideal S1x512 .f32) (S : Fin 144 → ℝ) (c : Fin 512) : Prop where
  mx : ∃ μ : ℝ, M (ix2 0 c) = (μ : EReal) ∧ ∀ r, A (ix2 r c) = ((S r * two (-μ) : ℝ) : EReal)
  b0 : b0 (ix2 0 c) ≠ ⊤
  b1 : b1 (ix2 0 c) ≠ ⊤

include hk hQ

theorem rmax_up_ne (g : ℕ) (c : Fin 512) : rmax (F := Ideal) (up (sc (grp (KG k) g) Q)) (ix2 0 c) ≠ ⊤ :=
  rmax_ne_top _ c fun n => by rw [up_real k kr hk e qr slr Q hQ]; exact EReal.coe_ne_top _
theorem rmax_lo_ne (g : ℕ) (c : Fin 512) : rmax (F := Ideal) (lo (sc (grp (KG k) g) Q)) (ix2 0 c) ≠ ⊤ :=
  rmax_ne_top _ c fun n => by rw [lo_real k kr hk e qr slr Q hQ]; exact EReal.coe_ne_top _

omit hk hQ in
theorem biasM_ne (a : ℝ) (g s u : ℕ) (hg : g < 64) (hs : s < 16) (hu : u < 2) :
    biasM (F := Ideal) (a : EReal) (BitVec.ofNat 32 g) (BitVec.ofNat 32 s) (BitVec.ofNat 32 u) ≠ ⊤ := by
  rw [biasM_real a g s u hg hs hu]
  split_ifs
  · exact EReal.coe_ne_top _
  · exact bot_ne_top

include hv

/-- One group of the loop. -/
theorem group_step (g s : ℕ) (hg : g < 16) (hs : s < 16) (c : Fin 512) (M : FVec Ideal S1x512 .f32) (A : FVec Ideal S144x512 .f32)
    (b0 b1 : FVec Ideal S1x512 .f32) (hb0 : b0 (ix2 0 c) ≠ ⊤) (hb1 : b1 (ix2 0 c) ≠ ⊤) (S : Fin 144 → ℝ)
    (h : ∃ μ : ℝ, M (ix2 0 c) = (μ : EReal) ∧ ∀ r, A (ix2 r c) = ((S r * two (-μ) : ℝ) : EReal)) :
    let c0 := biasM (F := Ideal) ((slr * lg : ℝ) : EReal) (BitVec.ofNat 32 g) (BitVec.ofNat 32 s) 0#32
    let c1 := biasM (F := Ideal) ((slr * lg : ℝ) : EReal) (BitVec.ofNat 32 g) (BitVec.ofNat 32 s) 1#32
    ∃ μ' : ℝ, newM (F := Ideal) M b0 b1 c0 c1 (ix2 0 c) = (μ' : EReal) ∧ ∀ r,
      newA (F := Ideal) M A (newM M b0 b1 c0 c1) c0 c1 (up (sc (grp (KG k) g) Q)) (lo (sc (grp (KG k) g) Q)) (vblk (VG v) (2 * g)) (vblk (VG v) (2 * g + 1)) (ix2 r c)
        = (((S r + GLoop vr kr e qr slr s r c g) * two (-μ') : ℝ) : EReal) := by
  intro c0 c1
  have hc0 : c0 ≠ ⊤ := biasM_ne _ g s 0 (by omega) hs (by omega)
  have hc1 : c1 ≠ ⊤ := biasM_ne _ g s 1 (by omega) hs (by omega)
  obtain ⟨μ, hM, hA⟩ := h
  obtain ⟨μ', hμ'⟩ := max_real μ (b0 (ix2 0 c) + c0) (b1 (ix2 0 c) + c1) (add_ne_top' hb0 hc0) (add_ne_top' hb1 hc1)
  have hM' : newM (F := Ideal) M b0 b1 c0 c1 (ix2 0 c) = (μ' : EReal) := by rw [newM_apply, hM, hμ']
  refine ⟨μ', hM', fun r => ?_⟩
  rw [newA_real M A _ c0 c1 _ _ _ _ r c μ μ' hM hM' (fun n => WR vr r (512 * g + n.val)) (fun n => VR_real v vr hv g hg r n)
    (fun n => by rw [up_real k kr hk e qr slr Q hQ]; exact EReal.coe_ne_top _)
    (fun n => by rw [lo_real k kr hk e qr slr Q hQ]; exact EReal.coe_ne_top _) hc0 hc1 (S r) (hA r)]
  congr 3
  unfold GLoop GS
  rw [Finset.sum_congr rfl (fun n _ => congrArg (_ * ·) (wt_loop k kr hk e qr slr Q hQ g s hg hs n c))]
  split_ifs with h
  · rfl
  · simp

set_option maxHeartbeats 1000000 in
/-- The own group. -/
theorem own_col (A B : FVec Ideal S512x512 .f32) (s : ℕ) (hs : s < 16) (n : ℕ) (he : e.val = n) (hAB : (if e = 0 then A else B) = sc (grp (KG k) s) Q) (inb inb0 inb1) (c : Fin 512) :
    ∃ μ : ℝ, ownM (F := Ideal) rdC A B n inb ((slr * lg : ℝ) : EReal) (BitVec.ofNat 32 s) (ix2 0 c) = (μ : EReal) ∧ ∀ r,
      ownA (F := Ideal) rdC A B n inb inb0 inb1 ((slr * lg : ℝ) : EReal) (BitVec.ofNat 32 s) (vblk (VG v) (2 * s)) (vblk (VG v) (2 * s + 1)) (ix2 r c)
        = ((GS vr kr e qr slr s r c s * two (-μ) : ℝ) : EReal) := by
  have hc0 := bias_real (slr * lg) s s 0 (by omega) hs (by omega)
  have hc1 := bias_real (slr * lg) s s 1 (by omega) hs (by omega)
  have hU : ∀ n, dgU (sc (grp (KG k) s) Q) (ix2 n c) ≠ ⊤ := by
    intro n
    show (up (F := Ideal) (sc (grp (KG k) s) Q) (ix2 n c) + maskU (F := Ideal) 0#32 0#32 (ix2 n c)) ≠ ⊤
    rw [maskU0, up_real k kr hk e qr slr Q hQ]
    refine add_ne_top' (EReal.coe_ne_top _) ?_
    split_ifs <;> simp
  have hL : ∀ n, dgL (sc (grp (KG k) s) Q) (ix2 n c) ≠ ⊤ := by
    intro n
    show (lo (F := Ideal) (sc (grp (KG k) s) Q) (ix2 n c) + maskU (F := Ideal) 1#32 256#32 (ix2 n c)) ≠ ⊤
    rw [maskU1, lo_real k kr hk e qr slr Q hQ]
    refine add_ne_top' (EReal.coe_ne_top _) ?_
    split_ifs <;> simp
  have hU0 : dgU (sc (grp (KG k) s) Q) (ix2 0 c) ≠ ⊥ := by
    show (up (F := Ideal) (sc (grp (KG k) s) Q) (ix2 0 c) + maskU (F := Ideal) 0#32 0#32 (ix2 0 c)) ≠ ⊥
    rw [maskU0, up_real k kr hk e qr slr Q hQ, if_pos (show (0 : Fin 256).val ≤ c.val from Nat.zero_le _), add_zero]
    exact EReal.coe_ne_bot _
  have e512 : ∀ r : Fin 512, shapeCast S512x512 (rd512 (F := Ideal) rdC (L6 rdC A B) n inb) shapeCasts_S1x512x512_S512x512 (ix2 r c)
      = if h : r.val < 256 then dgU (sc (grp (KG k) s) Q) (ix2 ⟨r.val, h⟩ c) else dgL (sc (grp (KG k) s) Q) (ix2 ⟨r.val - 256, by omega⟩ c) := by
    intro r; rw [own512 A B n e he, hAB]
  have eu : ∀ r : Fin 256, up (F := Ideal) (shapeCast S512x512 (rd512 rdC (L6 rdC A B) n inb) shapeCasts_S1x512x512_S512x512) (ix2 r c) = dgU (sc (grp (KG k) s) Q) (ix2 r c) := by
    intro r; rw [up_apply, e512, dif_pos (by show r.val < 256; omega)]
  have el : ∀ r : Fin 256, lo (F := Ideal) (shapeCast S512x512 (rd512 rdC (L6 rdC A B) n inb) shapeCasts_S1x512x512_S512x512) (ix2 r c) = dgL (sc (grp (KG k) s) Q) (ix2 r c) := by
    intro r; rw [lo_apply, e512, dif_neg (by show ¬ 256 + r.val < 256; omega)]
    congr 2; apply Fin.ext; show 256 + r.val - 256 = r.val; omega
  have e0 : ∀ r : Fin 256, shapeCast S256x512 (rd256 (F := Ideal) rdC (L6 rdC A B) n 0 inb0) shapeCasts_S1x256x512_S256x512 (ix2 r c) = dgU (sc (grp (KG k) s) Q) (ix2 r c) := by
    intro r; rw [own256 A B n e he 0 (by omega), hAB, dif_pos (by omega)]
    congr 2; apply Fin.ext; show 0 + r.val = r.val; omega
  have e1 : ∀ r : Fin 256, shapeCast S256x512 (rd256 (F := Ideal) rdC (L6 rdC A B) n 256 inb1) shapeCasts_S1x256x512_S256x512 (ix2 r c) = dgL (sc (grp (KG k) s) Q) (ix2 r c) := by
    intro r; rw [own256 A B n e he 256 (by omega), hAB, dif_neg (by omega)]
    congr 2; apply Fin.ext; show 256 + r.val - 256 = r.val; omega
  have hMx : ∃ μ : ℝ, ownM (F := Ideal) rdC A B n inb ((slr * lg : ℝ) : EReal) (BitVec.ofNat 32 s) (ix2 0 c) = (μ : EReal) := by
    rw [ownM_apply]
    refine real_of_bounds _ (max_ne_bot_left ?_) (max_ne_top (add_ne_top' (rmax_ne_top _ c fun n => by rw [eu]; exact hU n) ?_) (add_ne_top' (rmax_ne_top _ c fun n => by rw [el]; exact hL n) ?_))
    · rw [hc0]
      intro hb
      rcases EReal.add_eq_bot_iff.1 hb with hb | hb
      · have := le_rmax (up (F := Ideal) (shapeCast S512x512 (rd512 rdC (L6 rdC A B) n inb) shapeCasts_S1x512x512_S512x512)) c
        rw [hb, eu] at this
        exact hU0 (le_bot_iff.1 this)
      · exact EReal.coe_ne_bot _ hb
    · rw [hc0]; exact EReal.coe_ne_top _
    · rw [hc1]; exact EReal.coe_ne_top _
  obtain ⟨μ, hμ⟩ := hMx
  refine ⟨μ, hμ, fun r => ?_⟩
  unfold ownA
  rw [pv_real _ _ _ _ _ _ _ r c μ hμ (fun n => WR vr r (512 * s + n.val)) (fun n => VR_real v vr hv s hs r n)
    (fun n => by rw [e0]; exact hU n) (fun n => by rw [e1]; exact hL n) (by rw [hc0]; exact EReal.coe_ne_top _) (by rw [hc1]; exact EReal.coe_ne_top _)]
  congr 2
  unfold GS
  refine Finset.sum_congr rfl fun n _ => ?_
  rw [← wt_own k kr hk e qr slr Q hQ s hs n c]
  unfold GT
  simp only [e0, e1]

/-- A trip over two groups. -/
theorem trip_col (κ s : ℕ) (hκ : κ < 8) (hs : s < 16) (c : Fin 512) (M : FVec Ideal S1x512 .f32) (A : FVec Ideal S144x512 .f32)
    (b0 b1 : FVec Ideal S1x512 .f32) (S : Fin 144 → ℝ) (h : Col M A b0 b1 S c) :
    Col (tripM (F := Ideal) M b0 b1 ((slr * lg : ℝ) : EReal) (Scalar.muli 2#32 (Scf.iv 0#32 1#32 κ)) (Scalar.addi (Scalar.muli 2#32 (Scf.iv 0#32 1#32 κ)) 1#32) (BitVec.ofNat 32 s) (grp (KG k) (2 * κ + 1)) Q)
      (tripA (F := Ideal) M b0 b1 A (up (sc (grp (KG k) (2 * κ)) Q)) (lo (sc (grp (KG k) (2 * κ)) Q)) ((slr * lg : ℝ) : EReal) (Scalar.muli 2#32 (Scf.iv 0#32 1#32 κ))
        (Scalar.addi (Scalar.muli 2#32 (Scf.iv 0#32 1#32 κ)) 1#32) (BitVec.ofNat 32 s) (grp (KG k) (2 * κ + 1)) Q
        (vblk (VG v) (4 * κ)) (vblk (VG v) (4 * κ + 1)) (vblk (VG v) (4 * κ + 2)) (vblk (VG v) (4 * κ + 3)) (up (sc (grp (KG k) (2 * κ + 1)) Q)) (lo (sc (grp (KG k) (2 * κ + 1)) Q)))
      (rmax (up (sc (grp (KG k) (2 * κ + 2)) Q))) (rmax (lo (sc (grp (KG k) (2 * κ + 2)) Q)))
      (fun r => S r + GLoop vr kr e qr slr s r c (2 * κ) + GLoop vr kr e qr slr s r c (2 * κ + 1)) c := by
  refine ⟨?_, rmax_up_ne k kr hk e qr slr Q hQ _ c, rmax_lo_ne k kr hk e qr slr Q hQ _ c⟩
  have e0 : Scalar.muli 2#32 (Scf.iv 0#32 1#32 κ) = BitVec.ofNat 32 (2 * κ) := iv_even ⟨κ, hκ⟩
  have e1 : Scalar.addi (Scalar.muli 2#32 (Scf.iv 0#32 1#32 κ)) 1#32 = BitVec.ofNat 32 (2 * κ + 1) := iv_odd ⟨κ, hκ⟩
  have h1 := group_step k v kr vr hk hv e qr slr Q hQ (2 * κ) s (by omega) hs c M A b0 b1 h.b0 h.b1 S h.mx
  have h2 := group_step k v kr vr hk hv e qr slr Q hQ (2 * κ + 1) s (by omega) hs c _ _ _ _
    (rmax_up_ne k kr hk e qr slr Q hQ (2 * κ + 1) c) (rmax_lo_ne k kr hk e qr slr Q hQ (2 * κ + 1) c) _ h1
  rw [e1, e0, (by omega : 4 * κ = 2 * (2 * κ))]
  exact h2

end column

/-- The sums after `n` trips. -/
def SN (vr kr : Fin 128 → ℕ → ℝ) (e : Fin 2) (qr : Fin 512 → Fin 128 → ℝ) (slr : ℝ) (s : ℕ) (c : Fin 512) (n : ℕ) (r : Fin 144) : ℝ :=
  GS vr kr e qr slr s r c s + ∑ j ∈ Finset.range (2 * n), GLoop vr kr e qr slr s r c j

theorem SN_succ (vr kr : Fin 128 → ℕ → ℝ) (e : Fin 2) (qr : Fin 512 → Fin 128 → ℝ) (slr : ℝ) (s : ℕ) (c : Fin 512) (n : ℕ) :
    (fun r => SN vr kr e qr slr s c n r + GLoop vr kr e qr slr s r c (2 * n) + GLoop vr kr e qr slr s r c (2 * n + 1)) = SN vr kr e qr slr s c (n + 1) := by
  funext r
  unfold SN
  rw [(by omega : 2 * (n + 1) = 2 * n + 1 + 1), Finset.sum_range_succ, Finset.sum_range_succ]
  ring

theorem SN_zero (vr kr : Fin 128 → ℕ → ℝ) (e : Fin 2) (qr : Fin 512 → Fin 128 → ℝ) (slr : ℝ) (s : ℕ) (c : Fin 512) :
    (fun r => GS vr kr e qr slr s r c s) = SN vr kr e qr slr s c 0 := by
  funext r
  simp [SN]

theorem sum_blocks (f : ℕ → ℝ) (N : ℕ) : ∑ j ∈ Finset.range N, ∑ n : Fin 512, f (512 * j + n.val) = ∑ p ∈ Finset.range (512 * N), f p := by
  induction N with
  | zero => simp
  | succ N ih =>
    rw [Finset.sum_range_succ, ih, Nat.mul_succ, Finset.sum_range_add, Finset.sum_range (n := 512)]

/-- The weighted values over all keys. -/
def Tot (vr kr : Fin 128 → ℕ → ℝ) (e : Fin 2) (qr : Fin 512 → Fin 128 → ℝ) (slr : ℝ) (s : ℕ) (c : Fin 512) (r : Fin 144) : ℝ :=
  ∑ p ∈ Finset.range 8192, WR vr r p * PW e kr qr slr s p c

theorem GS_late (vr kr : Fin 128 → ℕ → ℝ) (e : Fin 2) (qr : Fin 512 → Fin 128 → ℝ) (slr : ℝ) (s : ℕ) (r : Fin 144) (c : Fin 512) (g : ℕ) (h : s < g) :
    GS vr kr e qr slr s r c g = 0 := by
  unfold GS PW
  refine Finset.sum_eq_zero fun n _ => ?_
  rw [if_neg (by have := c.isLt; omega), mul_zero]

theorem SN_total (vr kr : Fin 128 → ℕ → ℝ) (e : Fin 2) (qr : Fin 512 → Fin 128 → ℝ) (slr : ℝ) (s : ℕ) (hs : s < 16) (c : Fin 512) :
    SN vr kr e qr slr s c ((s + 1) / 2) = Tot vr kr e qr slr s c := by
  funext r
  have h1 : Tot vr kr e qr slr s c r = ∑ j ∈ Finset.range 16, GS vr kr e qr slr s r c j := by
    unfold Tot GS
    exact (sum_blocks (fun p => WR vr r p * PW e kr qr slr s p c) 16).symm
  have h2 : ∑ j ∈ Finset.range 16, GS vr kr e qr slr s r c j = ∑ j ∈ Finset.range (s + 1), GS vr kr e qr slr s r c j := by
    refine (Finset.sum_subset (Finset.range_subset_range.2 (by omega)) fun j _ hj => ?_).symm
    exact GS_late _ _ _ _ _ _ _ _ _ (by simpa using hj)
  have h3 : ∑ j ∈ Finset.range (2 * ((s + 1) / 2)), GLoop vr kr e qr slr s r c j = ∑ j ∈ Finset.range s, GS vr kr e qr slr s r c j := by
    rw [← Finset.sum_subset (s₁ := Finset.range s) (Finset.range_subset_range.2 (by omega)) fun j _ hj => ?_]
    · refine Finset.sum_congr rfl fun j hj => ?_
      exact if_pos (Finset.mem_range.1 hj)
    · exact if_neg (fun h => hj (Finset.mem_range.2 h))
  rw [h1, h2, Finset.sum_range_succ, SN, h3, add_comm]

section tile
variable (k v : FVec Ideal S1x128x8192 .f32) (kr vr : Fin 128 → ℕ → ℝ) (hk : ∀ r (p : Fin 8192), k (ix3 0 r p) = (kr r p.val : EReal))
    (hv : ∀ r (p : Fin 8192), v (ix3 0 r p) = (vr r p.val : EReal))
    (q : FVec Ideal S512x128 .f32) (qr : Fin 512 → Fin 128 → ℝ) (hq : ∀ c r, q (ix2 c r) = (qr c r : EReal)) (slr : ℝ)
include hk hv hq

/-- What the loop carries after `n` trips. -/
theorem accN_col (s : ℕ) (hs : s < 16) (c : Fin 512) (n : ℕ) (hn : n ≤ 8) :
    let r := accN (F := Ideal) (KG k) (VG v) s (BitVec.ofNat 32 s) ((slr * lg : ℝ) : EReal) (qop0 q (slr : EReal)) ((slr * lg : ℝ) : EReal) (qop1 q (slr : EReal)) n
    Col r.1 r.2.1 r.2.2.2.2.1 r.2.2.2.2.2.1 (SN vr kr 0 qr slr s c n) c ∧ Col r.2.2.1 r.2.2.2.1 r.2.2.2.2.2.2.1 r.2.2.2.2.2.2.2 (SN vr kr 1 qr slr s c n) c := by
  have q0 : ∀ r c, qop0 (F := Ideal) q (slr : EReal) (ix2 r c) = (QO (0 : Fin 2).val qr slr r c : EReal) := qop0_real q qr hq slr
  have q1 : ∀ r c, qop1 (F := Ideal) q (slr : EReal) (ix2 r c) = (QO (1 : Fin 2).val qr slr r c : EReal) := qop1_real q qr hq slr
  induction n with
  | zero =>
    rw [← SN_zero, ← SN_zero]
    exact ⟨⟨own_col k v kr vr hk hv 0 qr slr _ q0 _ _ s hs 0 rfl (if_pos rfl) _ _ _ c, rmax_up_ne k kr hk 0 qr slr _ q0 0 c, rmax_lo_ne k kr hk 0 qr slr _ q0 0 c⟩,
      ⟨own_col k v kr vr hk hv 1 qr slr _ q1 _ _ s hs 1 rfl (if_neg (by decide)) _ _ _ c, rmax_up_ne k kr hk 1 qr slr _ q1 0 c, rmax_lo_ne k kr hk 1 qr slr _ q1 0 c⟩⟩
  | succ n ih =>
    have ih := ih (by omega)
    rw [← SN_succ, ← SN_succ]
    exact ⟨trip_col k v kr vr hk hv 0 qr slr _ q0 n s (by omega) hs c _ _ _ _ _ ih.1, trip_col k v kr vr hk hv 1 qr slr _ q1 n s (by omega) hs c _ _ _ _ _ ih.2⟩

end tile

end Cert.KernelIdeal.Hand
end
-- ==== Proof.KI.Out.lean ====
/- A query tile's result over the reals. -/
module

public import proofs.«01_k».proof.Proof.KI.Tile
public import proofs.«01_k».proof.Proof.Ref

@[expose] public section

noncomputable section

namespace Cert.KernelIdeal.Hand
open Cert.KernelIdeal Cert.KernelIdeal.Gen
open Idealize.ShloMosaic Idealize.ShloMosaic.TcCoe
open Cert.ReferenceIdeal.Hand (fin)

theorem pay3_apply (A0 A1 : FVec Ideal S144x512 .f32) (lam : FVec Ideal S1x1 .f32) (w : FVec Ideal S1x128 .f32) (c : Fin 512) (r : Fin 128) :
    k0_pay3 (F := Ideal) A0 A1 lam w (ix2 c r) = fin (fun x => Ideal.div (A0 (ix2 ⟨x.val, by omega⟩ c)) (A0 (ix2 128 c)) - lam (ix2 0 0) * Ideal.div (A1 (ix2 ⟨x.val, by omega⟩ c)) (A1 (ix2 128 c))) (w (ix2 0 r)) r := by
  unfold k0_pay3 fin
  pointwise

theorem Tot_pos (vr kr : Fin 128 → ℕ → ℝ) (e : Fin 2) (qr : Fin 512 → Fin 128 → ℝ) (slr : ℝ) (s : ℕ) (hs : s < 16) (c : Fin 512) :
    0 < Tot vr kr e qr slr s c 128 := by
  have hW : ∀ p, WR vr 128 p = 1 := fun p => dif_neg (by decide)
  unfold Tot
  refine Finset.sum_pos' (fun p _ => ?_) ⟨512 * s + c.val, Finset.mem_range.2 (by omega), ?_⟩
  · rw [hW, one_mul]; unfold PW; split_ifs
    · exact (two_pos _).le
    · exact le_rfl
  · rw [hW, one_mul]; unfold PW; rw [if_pos le_rfl]; exact two_pos _

/-- A ratio of two accumulator entries is that of the sums. -/
theorem ratio (x y t : ℝ) (hy : 0 < y) (ht : 0 < t) : Ideal.div ((x * t : ℝ) : EReal) ((y * t : ℝ) : EReal) = ((x / y : ℝ) : EReal) := by
  rw [Ideal.div_coe (mul_pos hy ht).ne', ← EReal.coe_mul]
  refine congrArg Real.toEReal ?_
  field_simp

/-- The two halves' averages, one less `l` times the other. -/
def mix (vr kr : Fin 128 → ℕ → ℝ) (qr : Fin 512 → Fin 128 → ℝ) (slr l : ℝ) (s : ℕ) (c : Fin 512) (x : Fin 128) : ℝ :=
  Tot vr kr 0 qr slr s c ⟨x.val, by omega⟩ / Tot vr kr 0 qr slr s c 128 - l * (Tot vr kr 1 qr slr s c ⟨x.val, by omega⟩ / Tot vr kr 1 qr slr s c 128)

theorem tileOut_real (k v : FVec Ideal S1x128x8192 .f32) (kr vr : Fin 128 → ℕ → ℝ) (hk : ∀ r (p : Fin 8192), k (ix3 0 r p) = (kr r p.val : EReal))
    (hv : ∀ r (p : Fin 8192), v (ix3 0 r p) = (vr r p.val : EReal))
    (q : FVec Ideal S512x128 .f32) (qr : Fin 512 → Fin 128 → ℝ) (hq : ∀ c r, q (ix2 c r) = (qr c r : EReal)) (slr : ℝ)
    (lam : FVec Ideal S1x1 .f32) (l : ℝ) (hl : lam (ix2 0 0) = (l : EReal)) (w : FVec Ideal S1x128 .f32) (i : grid0.Coords) (c : Fin 512) (r : Fin 128) :
    tileOut (F := Ideal) i (KG k) (VG v) q (slr : EReal) lam w (ix2 c r) = fin (fun x => (mix vr kr qr slr l (i 2).val c x : EReal)) (w (ix2 0 r)) r := by
  have hs : (i 2).val < 16 := (i 2).isLt
  unfold tileOut
  rw [pay204_real, pay207_real, trips_eq, pay3_apply]
  obtain ⟨⟨⟨μ0, -, h0⟩, -, -⟩, ⟨⟨μ1, -, h1⟩, -, -⟩⟩ := accN_col k v kr vr hk hv q qr hq slr (i 2).val hs c (((i 2).val + 1) / 2) (by omega)
  rw [SN_total _ _ _ _ _ _ hs] at h0 h1
  refine congrArg (fun f => fin f (w (ix2 0 r)) r) (funext fun x => ?_)
  rw [h0, h0, h1, h1, ratio _ _ _ (Tot_pos vr kr 0 qr slr _ hs c) (two_pos _), ratio _ _ _ (Tot_pos vr kr 1 qr slr _ hs c) (two_pos _), hl, ← EReal.coe_mul, ← EReal.coe_sub]
  rfl

end Cert.KernelIdeal.Hand
end
-- ==== Proof.Tie.lean ====
/- A query tile's result is the reference's. -/
module

public import proofs.«01_k».proof.Proof.KI.Out
public import proofs.«01_k».proof.Proof.Ref

@[expose] public section

noncomputable section

namespace Cert.Tie
open Idealize.ShloMosaic Idealize.ShloMosaic.TcCoe
open Cert.ReferenceIdeal.Hand Cert.KernelIdeal.Hand
open Cert.ReferenceIdeal (S2x8192x8x2x64 S2x8192x8x128 S1x1 S128)

/-- A lane's half and its place there. -/
def hd (r : Fin 128) : Fin 2 := ⟨r.val / 64, by omega⟩
def ln (r : Fin 128) : Fin 64 := ⟨r.val % 64, by omega⟩

/-- A head's keys, values and a tile's queries, lane by lane. -/
def KR (kf : S2x8192x8x2x64.Idx → ℝ) (b : Fin 2) (h : Fin 8) (r : Fin 128) (p : ℕ) : ℝ := if hp : p < 8192 then kf (ix5 b ⟨p, hp⟩ h (hd r) (ln r)) else 0
def VF (vf : S2x8192x8x128.Idx → ℝ) (b : Fin 2) (h : Fin 8) (r : Fin 128) (p : ℕ) : ℝ := if hp : p < 8192 then vf (ix4 b ⟨p, hp⟩ h r) else 0
def QR (qf : S2x8192x8x2x64.Idx → ℝ) (b : Fin 2) (h : Fin 8) (s : Fin 16) (a : Fin 512) (r : Fin 128) : ℝ := qf (ix5 b ⟨512 * s.val + a.val, by omega⟩ h (hd r) (ln r))

theorem two_lg (x : ℝ) : two (x * lg) = Real.exp x := by
  unfold two lg
  rw [Real.rpow_def_of_pos (by norm_num)]
  have : Real.log 2 ≠ 0 := (Real.log_pos (by norm_num)).ne'
  field_simp

section tie
variable (qf kf : S2x8192x8x2x64.Idx → ℝ) (vf : S2x8192x8x128.Idx → ℝ) (b : Fin 2) (h : Fin 8) (s : Fin 16) (a : Fin 512)

theorem dot_eq (e : Fin 2) (p : Fin 8192) :
    dotE e (KR kf b h) (QR qf b h s) p.val a = ∑ x : Fin 64, qf (ix5 b ⟨512 * s.val + a.val, by omega⟩ h e x) * kf (ix5 b p h e x) := by
  unfold dotE
  refine Finset.sum_congr rfl fun d _ => ?_
  have h1 : hd ⟨64 * e.val + d.val, by omega⟩ = e := Fin.ext (by show (64 * e.val + d.val) / 64 = e.val; omega)
  have h2 : ln ⟨64 * e.val + d.val, by omega⟩ = d := Fin.ext (by show (64 * e.val + d.val) % 64 = d.val; omega)
  unfold KR QR
  rw [dif_pos p.isLt, h1, h2, mul_comm]

/-- A weight of the kernel is the reference's, up to a factor that only the query knows. -/
theorem PW_EX (e : Fin 2) (μ : ℝ) (p : Fin 8192) :
    PW e (KR kf b h) (QR qf b h s) (slope h) s.val p.val a = EX qf kf b h e ⟨512 * s.val + a.val, by omega⟩ μ p * Real.exp (μ + slope h * a.val) := by
  unfold PW EX
  by_cases hp : p.val ≤ 512 * s.val + a.val
  · rw [if_pos hp, if_pos hp, ← Real.exp_add]
    unfold TT
    rw [dot_eq, (fun x => by ring : ∀ x : ℝ, x * (1 / 8 * lg) + slope h * lg * ((p.val : ℝ) - 512 * (s.val : ℝ)) = (x * (1 / 8) + slope h * ((p.val : ℝ) - 512 * (s.val : ℝ))) * lg), two_lg]
    unfold SR
    congr 1
    push_cast
    ring
  · rw [if_neg hp, if_neg hp, zero_mul]

/-- The kernel's average over a half is the reference's. -/
theorem avg_eq (e : Fin 2) (μ : ℝ) (x : Fin 128) :
    Tot (VF vf b h) (KR kf b h) e (QR qf b h s) (slope h) s.val a ⟨x.val, by omega⟩ / Tot (VF vf b h) (KR kf b h) e (QR qf b h s) (slope h) s.val a 128
      = (∑ p, vf (ix4 b p h x) * EX qf kf b h e ⟨512 * s.val + a.val, by omega⟩ μ p) / ∑ p, EX qf kf b h e ⟨512 * s.val + a.val, by omega⟩ μ p := by
  have h1 : Tot (VF vf b h) (KR kf b h) e (QR qf b h s) (slope h) s.val a ⟨x.val, by omega⟩
      = (∑ p, vf (ix4 b p h x) * EX qf kf b h e ⟨512 * s.val + a.val, by omega⟩ μ p) * Real.exp (μ + slope h * a.val) := by
    unfold Tot
    rw [Finset.sum_range, Finset.sum_mul]
    refine Finset.sum_congr rfl fun p _ => ?_
    rw [PW_EX qf kf b h s a e μ p]
    have : WR (VF vf b h) ⟨x.val, by omega⟩ p.val = vf (ix4 b p h x) := by
      unfold WR VF; rw [dif_pos x.isLt, dif_pos p.isLt]
    rw [this, mul_assoc]
  have h2 : Tot (VF vf b h) (KR kf b h) e (QR qf b h s) (slope h) s.val a 128
      = (∑ p, EX qf kf b h e ⟨512 * s.val + a.val, by omega⟩ μ p) * Real.exp (μ + slope h * a.val) := by
    unfold Tot
    rw [Finset.sum_range, Finset.sum_mul]
    refine Finset.sum_congr rfl fun p _ => ?_
    have : WR (VF vf b h) 128 p.val = 1 := dif_neg (by decide)
    rw [PW_EX qf kf b h s a e μ p, this, one_mul]
  rw [h1, h2, mul_div_mul_right _ _ (Real.exp_pos _).ne']

end tie

/-- The reference at a tile's entry. -/
theorem whole_at (q k : FVec Ideal S2x8192x8x2x64 .f32) (v : FVec Ideal S2x8192x8x128 .f32) (lam : FVec Ideal S1x1 .f32) (w : FVec Ideal S128 .f32)
    (qf kf : S2x8192x8x2x64.Idx → ℝ) (vf : S2x8192x8x128.Idx → ℝ) (l : ℝ) (hq : ∀ i, q i = (qf i : EReal)) (hk : ∀ i, k i = (kf i : EReal))
    (hv : ∀ i, v i = (vf i : EReal)) (hl : lam (ix2 0 0) = (l : EReal)) (b : Fin 2) (h : Fin 8) (s : Fin 16) (a : Fin 512) (r : Fin 128) (R : Fin 16384) (C : Fin 1024)
    (hR : R.val = 8192 * b.val + (512 * s.val + a.val)) (hC : C.val = 128 * h.val + r.val) :
    whole q k v lam w (ix2 R C) = fin (fun x => (mix (VF vf b h) (KR kf b h) (QR qf b h s) (slope h) l s.val a x : EReal)) (w (ix1 r)) r := by
  unfold whole
  rw [norm_apply _ _ b ⟨512 * s.val + a.val, by omega⟩ h r R C hR hC]
  obtain ⟨μ0, μ1, hA⟩ := att_real q k qf kf hq hk v vf hv lam l hl b ⟨512 * s.val + a.val, by omega⟩ h
  refine congrArg (fun f => fin f (w (ix1 r)) r) (funext fun x => ?_)
  rw [hA]
  unfold mix
  rw [avg_eq qf kf vf b h s a 0 μ0 x, avg_eq qf kf vf b h s a 1 μ1 x]

end Cert.Tie
end
-- ==== Proof.Pre.lean ====
/- What the precondition says: queries, keys, values and the mixing weight are real. -/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Pre_finite.Hand
open Idealize.ShloMosaic Cert.Pre_finite Cert.Pre_finite.Facts

theorem inf_bits : Ideal.ofBits .f32 0x7F800000#32 = (⊤ : EReal) := by simp [Ideal.ofBits, Ideal.ieee]

theorem real_of_lt (x : EReal) (h : Ideal.cmp .olt (max x (-x)) ⊤ = 1#1) : x = (x.toReal : EReal) := by
  induction x using EReal.rec with
  | coe x => rfl
  | bot => exact absurd h (by simp [Ideal.cmp])
  | top => exact absurd h (by simp [Ideal.cmp])

instance : Subsingleton S_.Idx := ⟨fun a b => funext fun x => x.elim0⟩

/-- An array whose test of all entries succeeds is real. -/
theorem real_of_all {s : Shape} (x : FVec Ideal s .f32) {axes : List (Fin s.rank)} (hr : s.ReducesTo axes S_) (hb : S_.BroadcastsInDim s (![] : Fin 0 → Fin s.rank)) (h0 : 0 < S_.numel)
    (e : Host.reduce IntOp.andi (cmpf .olt (Host.absf x) (broadcastInDim s ![] hb (constant (F := Ideal) S_ .f32 0x7F800000#32))) (constantI S_ 1 1#1) hr h0 (fun y => y.elim0) = 1#1)
    (i : s.Idx) : x i = ((x i).toReal : EReal) := by
  have h := Host.reduce_andi_all _ _ hr h0 _ e i
  refine real_of_lt _ ?_
  rw [← inf_bits]
  exact h

theorem reals (q k : FVec Ideal S2x8192x8x2x64 .f32) (v : FVec Ideal S2x8192x8x128 .f32) (lam : FVec Ideal S1x1 .f32) (w : FVec Ideal S128 .f32)
    (e : fn (F := Ideal) q k v lam w = fun _ => 1#1) :
    (∀ i, q i = ((q i).toReal : EReal)) ∧ (∀ i, k i = ((k i).toReal : EReal)) ∧ (∀ i, v i = ((v i).toReal : EReal)) ∧ ∀ i, lam i = ((lam i).toReal : EReal) := by
  have e0 := congrFun e (fun y => y.elim0)
  obtain ⟨e1, h3⟩ := IntOp.andi_eq_one.1 e0
  obtain ⟨e2, h2⟩ := IntOp.andi_eq_one.1 e1
  obtain ⟨h0, h1⟩ := IntOp.andi_eq_one.1 e2
  exact ⟨real_of_all q _ _ _ h0, real_of_all k _ _ _ h1, real_of_all v _ _ _ h2, real_of_all lam _ _ _ h3⟩

end Cert.Pre_finite.Hand
end
-- ==== Proof.Frames.lean ====
/- The runs of the programs, stated as the frames and the table of constants of the certificate. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.KI.Run
public import Idealize.ShloMosaic.Lib.Pipeline.Quiescent

@[expose] public section

noncomputable section

namespace Cert.Frames

open Idealize.ShloMosaic Idealize.SL.Sem

/-- The kernel terminates and leaves its arguments and counters as they were. -/
theorem kernel : Cert.quiescent_Kernel (hKernel := Cert.Kernel.Gen.facts) := fun m ρ _ =>
  θ_run_with_sems (Cert.Kernel.Gen.frame_of m ρ (Cert.Kernel.Hand.dats m) (Cert.Kernel.Hand.A_eq m))
    (Cert.Kernel.Hand.run_main m ρ)

/-- The same of its idealization, at any memory. -/
theorem kernelIdeal : Cert.quiescent_KernelIdeal (hKernelIdeal := Cert.KernelIdeal.Gen.facts) := fun m ρ _ =>
  θ_run_with_sems (Cert.KernelIdeal.Gen.frame_of m ρ (Cert.KernelIdeal.Hand.dats m) (Cert.KernelIdeal.Hand.A_eq m))
    (Cert.KernelIdeal.Hand.run_main m ρ)

/-- The reference terminates and leaves its arguments and counters as they were. -/
theorem referenceIdeal : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The three named constants have their values. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Frames

end
-- ==== Proof.Value.lean ====
/- The kernel's result is the reference's, at real queries, keys, values and mixing weight. -/
module

public import proofs.«01_k».proof.Proof.KI.Blocks
public import proofs.«01_k».proof.Proof.Tie
public import proofs.«01_k».proof.Proof.Pre
public import proofs.«01_k».proof.Proof.Frames

@[expose] public section

set_option maxRecDepth 16384

noncomputable section

namespace Cert.KernelIdeal.Hand
open Cert.KernelIdeal Cert.KernelIdeal.Gen
open Idealize.ShloMosaic Idealize.ShloMosaic.TcCoe Idealize.SL.Sem
open Cert.ReferenceIdeal.Hand (whole slope fin)
open Cert.Tie

variable (m : (ℓ : Loc nD τ sig) → Buf (Elt Ideal) ℓ) (c : Dev nD)

/-- The arguments of a device. -/
abbrev argq : FVec Ideal S2x8192x8x2x64 .f32 := m ((c.tc : Thread nD τ).loc main_arg0)
abbrev argk : FVec Ideal S2x8192x8x2x64 .f32 := m ((c.tc : Thread nD τ).loc main_arg1)
abbrev argv : FVec Ideal S2x8192x8x128 .f32 := m ((c.tc : Thread nD τ).loc main_arg2)
abbrev argl : FVec Ideal S1x1 .f32 := m ((c.tc : Thread nD τ).loc main_arg3)
abbrev argw : FVec Ideal S128 .f32 := m ((c.tc : Thread nD τ).loc main_arg4)

/-- Queries, keys, values and the mixing weight are real. -/
def Reals : Prop :=
  (∀ i, argq m c i = ((argq m c i).toReal : EReal)) ∧ (∀ i, argk m c i = ((argk m c i).toReal : EReal))
    ∧ (∀ i, argv m c i = ((argv m c i).toReal : EReal)) ∧ ∀ i, argl m c i = ((argl m c i).toReal : EReal)

/-- A grid point's block of the result. -/
theorem point (hr : Reals m c) (t : Fin cfg0.N) (a : Fin 512) (r : Fin 128) (R : Fin 16384) (C : Fin 1024)
    (hR : R.val = (16 * (grid0.coords t 0).val + (grid0.coords t 2).val) * 512 + a.val) (hC : C.val = (grid0.coords t 1).val * 128 + r.val) :
    outT (grid0.coords t) (iblk m c 0 t) (iblk m c 1 t) (iblk m c 2 t) (iblk m c 3 t) (iblk m c 4 t) (iblk m c 5 t) (ix2 a r)
      = whole (argq m c) (argk m c) (argv m c) (argl m c) (argw m c) (ix2 R C) := by
  obtain ⟨hq, hk, hv, hl⟩ := hr
  obtain ⟨b, hb⟩ : ∃ b : Fin 2, b.val = (grid0.coords t 0).val := ⟨⟨_, (grid0.coords t 0).isLt⟩, rfl⟩
  obtain ⟨h, hh⟩ : ∃ h : Fin 8, h.val = (grid0.coords t 1).val := ⟨⟨_, (grid0.coords t 1).isLt⟩, rfl⟩
  obtain ⟨s, hs⟩ : ∃ s : Fin 16, s.val = (grid0.coords t 2).val := ⟨⟨_, (grid0.coords t 2).isLt⟩, rfl⟩
  have e2 : argw m c (ix1 r) = iblk m c 2 t (ix2 0 r) := (blk2 m c t r).symm
  rw [whole_at _ _ _ _ _ _ _ _ _ hq hk hv (hl _) b h s a r R C (by omega) (by omega), hs, e2]
  have hsl : slopeAt (F := Ideal) (grid0.coords t) (iblk m c 0 t) = (slope h : EReal) := by
    rw [← blk0 m c t h]
    exact congrArg (fun h : Fin 8 => iblk m c 0 t (ix1 h)) (Fin.ext hh.symm)
  unfold outT
  rw [hsl]
  refine tileOut_real _ _ (KR _ b h) (VF _ b h) (fun r p => ?_) (fun r p => ?_) _ (QR _ b h s) (fun a r => ?_) _ _ _ ?_ _ _ a r
  · rw [blk4 m c t r p b h (hd r) (ln r) hb hh (by show r.val = 64 * (r.val / 64) + r.val % 64; omega)]
    unfold KR
    rw [dif_pos p.isLt]
    exact hk _
  · rw [blk5 m c t r p b h hb hh]
    unfold VF
    rw [dif_pos p.isLt]
    exact hv _
  · rw [blk3 m c t a r b ⟨512 * s.val + a.val, by omega⟩ h (hd r) (ln r) hb (by show 512 * s.val + a.val = _; omega) hh (by show r.val = 64 * (r.val / 64) + r.val % 64; omega)]
    exact hq _
  · rw [blk1]
    exact hl _

/-- What a grid point leaves in its block of the result. -/
theorem after6 (t : Fin cfg0.N) : (dats m 0 c).after 6 t = outT (F := Ideal) (grid0.coords t) (iblk m c 0 t) (iblk m c 1 t) (iblk m c 2 t) (iblk m c 3 t) (iblk m c 4 t) (iblk m c 5 t) := by
  dsimp only [dats]

/-- The result array after all grid points. -/
theorem result (hr : Reals m c) :
    (dats m 0 c).arrAt 6 cfg0.N = whole (argq m c) (argk m c) (argv m c) (argl m c) (argw m c) := by
  refine (dats m 0 c).arrAt_eq_of_covers 6 _ (by decide +kernel) fun t hf y => ?_
  blk_simp
  obtain ⟨a, r, rfl⟩ : ∃ (a : Fin 512) (r : Fin 128), y = ix2 a r := ⟨y 0, y 1, eq_ix2 y⟩
  have h0 := (grid0.coords t 0).isLt
  have h1 := (grid0.coords t 1).isLt
  have h2 := (grid0.coords t 2).isLt
  have hR : (16 * (grid0.coords t 0).val + (grid0.coords t 2).val) * 512 + a.val < 16384 := by
    have : (grid0.coords t 0).val < 2 := h0
    have : (grid0.coords t 2).val < 16 := h2
    omega
  have hC : (grid0.coords t 1).val * 128 + r.val < 1024 := by
    have : (grid0.coords t 1).val < 8 := h1
    omega
  have e6 := emb6 t a r ⟨_, hR⟩ ⟨_, hC⟩ rfl rfl
  have hp := point m c hr t a r ⟨_, hR⟩ ⟨_, hC⟩ rfl rfl
  rw [e6, after6]
  exact hp

end Cert.KernelIdeal.Hand

namespace Cert.Value
open Idealize.ShloMosaic Idealize.SL.Sem
open Cert.KernelIdeal.Hand

/-- At real queries, keys, values and mixing weight the kernel and the reference end with equal results. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hag
  refine ⟨fun c => Cert.ReferenceIdeal.Hand.whole (argq m c) (argk m c) (argv m c) (argl m c) (argw m c), ?_, ?_⟩
  · refine (θ_run _ _ _).mono (fun r h c => ⟨?_, h.2 c⟩) (θ_run_and (Cert.KernelIdeal.Hand.run_main m g)
      (Cert.KernelIdeal.Gen.frame_of m g (dats m) (A_eq m) ((θ_run _ _ _).mono (fun _ h => h.1) (Cert.KernelIdeal.Hand.run_main m g))))
    exact (Pipeline.FramePost.out_eq h.1.1 c 6).trans (result m c (Cert.Pre_finite.Hand.reals _ _ _ _ _ (hpre c)))
  · refine (θ_run _ _ _).mono (fun r h c => ⟨(h c).1.trans ?_, (h c).2⟩) (Cert.ReferenceIdeal.Value.run (F := Ideal) m' g')
    obtain ⟨e0, e1, e2, e3, e4⟩ := hag c
    rw [Cert.ReferenceIdeal.Hand.res_eq, e0, e1, e2, e3, e4]

end Cert.Value
end
-- ==== Proof.Proj.lean ====
/- The norm over a row of features, and the branch a gate lets through, over the extended reals. -/
module

public import Idealize.ShloMosaic.Lib.Claim
public import Idealize.ShloMosaic.Lib.IdealHost
public import Idealize.ShloMosaic.Lib.Pointwise

@[expose] public section

noncomputable section

namespace Cert.Proj
open Idealize.ShloMosaic

/-- The norm of the row `x`, its weight `g`, at feature `k`. -/
def rms (x g : Fin 1024 → EReal) (k : Fin 1024) : EReal :=
  x k * Ideal.rsqrt (Ideal.div (∑ y, x y * x y) (Ideal.ofBits .f32 0x44800000#32) + Ideal.ofBits .f32 0x358637BD#32) * g k

/-- The exponential is not negative. -/
theorem exp_nonneg (x : EReal) : 0 ≤ Ideal.exp x := by
  induction x using EReal.rec with
  | bot => simp
  | top => simp
  | coe r => rw [Ideal.exp_coe]; exact_mod_cast (Real.exp_pos r).le

/-- The gate's denominator is not zero. -/
theorem gate_ne (z : EReal) : (1 : EReal) + Ideal.exp (-z) ≠ 0 :=
  (lt_of_lt_of_le zero_lt_one (le_add_of_nonneg_right (exp_nonneg _))).ne'

/-- The stream `x` and the branch that the gate `z` lets through of `o`, its weight `w`, at feature `n`. -/
def mix (o z x : Fin 1024 → EReal) (w : Fin 1024 → Fin 1024 → EReal) (n : Fin 1024) : EReal :=
  x n + ∑ k, o k * Ideal.div (z k) (1 + Ideal.exp (-(z k))) * w k n

/-- Column `n` of part 0 of the projected rows. -/
abbrev part0 (n : Fin 1024) : Fin 4096 := ⟨n.val, by omega⟩

/-- Column `n` of part 1 of the projected rows. -/
abbrev part1 (n : Fin 1024) : Fin 4096 := ⟨1024 + n.val, by omega⟩

/-- Column `n` of part 2 of the projected rows. -/
abbrev part2 (n : Fin 1024) : Fin 4096 := ⟨2048 + n.val, by omega⟩

/-- Column `n` of part 3 of the projected rows. -/
abbrev part3 (n : Fin 1024) : Fin 4096 := ⟨3072 + n.val, by omega⟩

end Cert.Proj
-- ==== Proof.Proj2.lean ====
/- The first layer's input projection over the reals: the run's arrays are the reference's. -/
module

public import proofs.«01_k».proof.Proof.Proj
public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Claim
public import Idealize.ShloMosaic.Lib.Pointwise

@[expose] public section

set_option maxRecDepth 16384

noncomputable section

namespace Cert.Reference2Ideal.Hand
open Cert.Reference2Ideal Cert.Reference2Ideal.Gen Cert.Reference2Ideal.Value
open Idealize.ShloMosaic Idealize.ShloMosaic.TcCoe Idealize.SL.Sem

/-- The projected rows, the four parts side by side. -/
def proj {F : FTy → Type} [FloatOps F] (x : FVec F S2x8192x1024 .f32) (g : FVec F S1x1024 .f32) (w : FVec F S1x1024x4096 .f32) : FVec F S2x8192x4096 .f32 :=
  Host.dotGeneral dot_S2x8192x1024_S1024x4096_S2x8192x4096_2_0_01_1_n_n none
    (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 (shapeCast S1024 g shapeCasts_S1x1024_S1024))))
    (shapeCast S1024x4096 w shapeCasts_S1x1024x4096_S1024x4096)

theorem proj_apply (x : FVec Ideal S2x8192x1024 .f32) (g : FVec Ideal S1x1024 .f32) (w : FVec Ideal S1x1024x4096 .f32) (b : Fin 2) (p : Fin 8192) (n : Fin 4096) :
    proj x g w (ix3 b p n) = ∑ k, Proj.rms (fun k => x (ix3 b p k)) (fun k => g (ix2 0 k)) k * w (ix3 0 k n) := by
  unfold proj Proj.rms
  pointwise

/-- The queries' rows. -/
def outQ {F : FTy → Type} [FloatOps F] (y : FVec F S2x8192x4096 .f32) : FVec F S16384x1024 .f32 :=
  shapeCast S16384x1024 (extractStridedSlice S2x8192x1024 ![0, 0, 0] y slices_S2x8192x4096_S2x8192x1024_0_0_0) shapeCasts_S2x8192x1024_S16384x1024
/-- The keys, layer by layer, per head. -/
def outK {F : FTy → Type} [FloatOps F] (y : FVec F S2x8192x4096 .f32) : FVec F S1x2x8192x16x64 .f32 :=
  broadcastInDim S1x2x8192x16x64 ![1, 2, 3, 4] bcast_S2x8192x16x64_S1x2x8192x16x64_1_2_3_4 (shapeCast S2x8192x16x64 (extractStridedSlice S2x8192x1024 ![0, 0, 1024] y slices_S2x8192x4096_S2x8192x1024_0_0_1024) shapeCasts_S2x8192x1024_S2x8192x16x64)
/-- The values, layer by layer, per head. -/
def outV {F : FTy → Type} [FloatOps F] (y : FVec F S2x8192x4096 .f32) : FVec F S1x2x8192x16x64 .f32 :=
  broadcastInDim S1x2x8192x16x64 ![1, 2, 3, 4] bcast_S2x8192x16x64_S1x2x8192x16x64_1_2_3_4 (shapeCast S2x8192x16x64 (extractStridedSlice S2x8192x1024 ![0, 0, 2048] y slices_S2x8192x4096_S2x8192x1024_0_0_2048) shapeCasts_S2x8192x1024_S2x8192x16x64)
/-- The gates' rows. -/
def outZ {F : FTy → Type} [FloatOps F] (y : FVec F S2x8192x4096 .f32) : FVec F S16384x1024 .f32 :=
  shapeCast S16384x1024 (extractStridedSlice S2x8192x1024 ![0, 0, 3072] y slices_S2x8192x4096_S2x8192x1024_0_0_3072) shapeCasts_S2x8192x1024_S16384x1024

section points
variable (y : FVec Ideal S2x8192x4096 .f32) (b : Fin 2) (p : Fin 8192) (n : Fin 1024)

theorem outQ_apply (R : Fin 16384) (hR : R.val = 8192 * b.val + p.val) : outQ y (ix2 R n) = y (ix3 b p ⟨n.val, by omega⟩) := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  unfold outQ
  pointwise
  rw [h1, h2]
theorem outZ_apply (R : Fin 16384) (hR : R.val = 8192 * b.val + p.val) : outZ y (ix2 R n) = y (ix3 b p ⟨3072 + n.val, by omega⟩) := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  unfold outZ
  pointwise
  rw [h1, h2]
theorem outK_apply (h : Fin 16) (d : Fin 64) : outK y (ix5 0 b p h d) = y (ix3 b p ⟨1024 + (h.val * 64 + d.val), by omega⟩) := by
  unfold outK
  pointwise
theorem outV_apply (h : Fin 16) (d : Fin 64) : outV y (ix5 0 b p h d) = y (ix3 b p ⟨2048 + (h.val * 64 + d.val), by omega⟩) := by
  unfold outV
  pointwise
end points

end Cert.Reference2Ideal.Hand

namespace Cert.Kernel2Ideal.Hand
open Cert.Kernel2Ideal Cert.Kernel2Ideal.Gen
open Idealize.ShloMosaic Idealize.ShloMosaic.TcCoe Idealize.SL.Sem

theorem pay2_apply (x : Vec Ideal S256x1024 .f32) (g : Vec Ideal S1x1024 .f32) (a : Fin 256) (k : Fin 1024) :
    k0_pay2 x g (ix2 a k) = Proj.rms (fun k => x (ix2 a k)) (fun k => g (ix2 0 k)) k := by
  unfold Proj.rms
  pointwise [k0_pay2]

theorem pay3_apply (x : Vec Ideal S256x1024 .f32) (g : Vec Ideal S1x1024 .f32) (w : Vec Ideal S1024x1024 .bf16) (a : Fin 256) (n : Fin 1024) :
    k0_pay3 x g w (ix2 a n) = ∑ k, Proj.rms (fun k => x (ix2 a k)) (fun k => g (ix2 0 k)) k * w (ix2 k n) := by
  simp only [← pay2_apply]
  pointwise [k0_pay3]

theorem pay1_apply (x : FVec Ideal S256x1024 .bf16) (w : Vec Ideal S1024x1024 .bf16) (a : Fin 256) (n : Fin 1024) :
    k0_pay1 x w (ix2 a n) = ∑ k, x (ix2 a k) * w (ix2 k n) := by
  pointwise [k0_pay1]

theorem pay4_apply (x : Vec Ideal S256x1024 .f32) (g : Vec Ideal S1x1024 .f32) (w : Vec Ideal S1024x1024 .bf16) (a : Fin 256) (n : Fin 1024) :
    k0_pay4 x g w (ix3 0 n a) = ∑ k, Proj.rms (fun k => x (ix2 a k)) (fun k => g (ix2 0 k)) k * w (ix2 n k) := by
  simp only [← pay2_apply]
  pointwise [k0_pay4]
  exact Finset.sum_congr rfl fun k _ => mul_comm _ _

theorem pay5_apply (x : Vec Ideal S256x1024 .f32) (g : Vec Ideal S1x1024 .f32) (w : Vec Ideal S1024x1024 .bf16) (a : Fin 256) (n : Fin 1024) :
    k0_pay5 x g w (ix3 0 n a) = ∑ k, Proj.rms (fun k => x (ix2 a k)) (fun k => g (ix2 0 k)) k * w (ix2 n k) := by
  simp only [← pay2_apply]
  pointwise [k0_pay5]
  exact Finset.sum_congr rfl fun k _ => mul_comm _ _

theorem index0 : ∀ t : Fin cfg0.N, (cfg0.win 0).index t = ![t.val, 0] := by decide +kernel
theorem index6 : ∀ t : Fin cfg0.N, (cfg0.win 6).index t = ![t.val, 0] := by decide +kernel
theorem index9 : ∀ t : Fin cfg0.N, (cfg0.win 9).index t = ![t.val, 0] := by decide +kernel
theorem index1 : ∀ t : Fin cfg0.N, (cfg0.win 1).index t = ![0, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index7 : ∀ t : Fin cfg0.N, (cfg0.win 7).index t = ![t.val / 32, 0, t.val % 32] := by decide +kernel
theorem index8 : ∀ t : Fin cfg0.N, (cfg0.win 8).index t = ![t.val / 32, 0, t.val % 32] := by decide +kernel

variable (m : (ℓ : Loc nD τ sig) → Buf (Elt Ideal) ℓ) (c : Dev nD)

/-- The three arguments. -/
abbrev argx : FVec Ideal S2x8192x1024 .f32 := m ((c.tc : Thread nD τ).loc main_arg0)
abbrev argg : FVec Ideal S1x1024 .f32 := m ((c.tc : Thread nD τ).loc main_arg1)
abbrev argw : FVec Ideal S1x1024x4096 .f32 := m ((c.tc : Thread nD τ).loc main_arg2)

theorem Vx : V m c main_v0 = shapeCast S16384x1024 (argx m c) shapeCasts_S2x8192x1024_S16384x1024 := by
  entry_read
  rfl
theorem Vg : V m c main_v3 = shapeCast S1x1024 (shapeCast S1024 (argg m c) shapeCasts_S1x1024_S1024) shapeCasts_S1024_S1x1024 := by
  entry_read
  rfl
theorem Vw2 : V m c main_v5 = truncf (F := Ideal) .bf16 (extractStridedSlice S1024x1024 ![0, 0] (shapeCast S1024x4096 (argw m c) shapeCasts_S1x1024x4096_S1024x4096) slices_S1024x4096_S1024x1024_0_0) bitsLt_bf16_f32 := by
  entry_read
  rfl
theorem Vw3 : V m c main_v8 = transpose S1024x1024 [1, 0] (truncf (F := Ideal) .bf16 (extractStridedSlice S1024x1024 ![0, 1024] (shapeCast S1024x4096 (argw m c) shapeCasts_S1x1024x4096_S1024x4096) slices_S1024x4096_S1024x1024_0_1024) bitsLt_bf16_f32) transposes_S1024x1024_S1024x1024_1_0 := by
  entry_read
  rfl
theorem Vw4 : V m c main_v11 = transpose S1024x1024 [1, 0] (truncf (F := Ideal) .bf16 (extractStridedSlice S1024x1024 ![0, 2048] (shapeCast S1024x4096 (argw m c) shapeCasts_S1x1024x4096_S1024x4096) slices_S1024x4096_S1024x1024_0_2048) bitsLt_bf16_f32) transposes_S1024x1024_S1024x1024_1_0 := by
  entry_read
  rfl
theorem Vw5 : V m c main_v13 = truncf (F := Ideal) .bf16 (extractStridedSlice S1024x1024 ![0, 3072] (shapeCast S1024x4096 (argw m c) shapeCasts_S1x1024x4096_S1024x4096) slices_S1024x4096_S1024x1024_0_3072) bitsLt_bf16_f32 := by
  entry_read
  rfl

theorem emb0 (t : Fin cfg0.N) (a : Fin 256) (k : Fin 1024) (R : Fin 16384) (hR : R.val = 256 * t.val + a.val) : ((cfg0.win 0).blk t).view.emb (ix2 a k) = ix2 R k := by
  refine funext fun x => Fin.ext ?_
  match x with
  | 0 => exact (Pipeline.Window.rect_emb_val (cfg0.win 0) t (ix2 a k) 0).trans (by rw [index0]; show t.val * 256 + a.val = R.val; omega)
  | 1 => exact (Pipeline.Window.rect_emb_val (cfg0.win 0) t (ix2 a k) 1).trans (by rw [index0]; show 0 * 1024 + k.val = k.val; omega)
theorem emb6 (t : Fin cfg0.N) (a : Fin 256) (k : Fin 1024) (R : Fin 16384) (hR : R.val = 256 * t.val + a.val) : ((cfg0.win 6).blk t).view.emb (ix2 a k) = ix2 R k := by
  refine funext fun x => Fin.ext ?_
  match x with
  | 0 => exact (Pipeline.Window.rect_emb_val (cfg0.win 6) t (ix2 a k) 0).trans (by rw [index6]; show t.val * 256 + a.val = R.val; omega)
  | 1 => exact (Pipeline.Window.rect_emb_val (cfg0.win 6) t (ix2 a k) 1).trans (by rw [index6]; show 0 * 1024 + k.val = k.val; omega)
theorem emb9 (t : Fin cfg0.N) (a : Fin 256) (k : Fin 1024) (R : Fin 16384) (hR : R.val = 256 * t.val + a.val) : ((cfg0.win 9).blk t).view.emb (ix2 a k) = ix2 R k := by
  refine funext fun x => Fin.ext ?_
  match x with
  | 0 => exact (Pipeline.Window.rect_emb_val (cfg0.win 9) t (ix2 a k) 0).trans (by rw [index9]; show t.val * 256 + a.val = R.val; omega)
  | 1 => exact (Pipeline.Window.rect_emb_val (cfg0.win 9) t (ix2 a k) 1).trans (by rw [index9]; show 0 * 1024 + k.val = k.val; omega)
theorem emb1 (t : Fin cfg0.N) (k : Fin 1024) : ((cfg0.win 1).blk t).view.emb (ix2 0 k) = ix2 0 k := by
  refine funext fun x => Fin.ext ?_
  match x with
  | 0 => exact (Pipeline.Window.rect_emb_val (cfg0.win 1) t (ix2 0 k) 0).trans (by rw [index1]; rfl)
  | 1 => exact (Pipeline.Window.rect_emb_val (cfg0.win 1) t (ix2 0 k) 1).trans (by rw [index1]; show 0 * 1024 + k.val = k.val; omega)
theorem emb2 (t : Fin cfg0.N) (a b : Fin 1024) : ((cfg0.win 2).blk t).view.emb (ix2 a b) = ix2 a b := by
  refine funext fun x => Fin.ext ?_
  match x with
  | 0 => exact (Pipeline.Window.rect_emb_val (cfg0.win 2) t (ix2 a b) 0).trans (by rw [index2]; show 0 * 1024 + a.val = a.val; omega)
  | 1 => exact (Pipeline.Window.rect_emb_val (cfg0.win 2) t (ix2 a b) 1).trans (by rw [index2]; show 0 * 1024 + b.val = b.val; omega)
theorem emb3 (t : Fin cfg0.N) (a b : Fin 1024) : ((cfg0.win 3).blk t).view.emb (ix2 a b) = ix2 a b := by
  refine funext fun x => Fin.ext ?_
  match x with
  | 0 => exact (Pipeline.Window.rect_emb_val (cfg0.win 3) t (ix2 a b) 0).trans (by rw [index3]; show 0 * 1024 + a.val = a.val; omega)
  | 1 => exact (Pipeline.Window.rect_emb_val (cfg0.win 3) t (ix2 a b) 1).trans (by rw [index3]; show 0 * 1024 + b.val = b.val; omega)
theorem emb4 (t : Fin cfg0.N) (a b : Fin 1024) : ((cfg0.win 4).blk t).view.emb (ix2 a b) = ix2 a b := by
  refine funext fun x => Fin.ext ?_
  match x with
  | 0 => exact (Pipeline.Window.rect_emb_val (cfg0.win 4) t (ix2 a b) 0).trans (by rw [index4]; show 0 * 1024 + a.val = a.val; omega)
  | 1 => exact (Pipeline.Window.rect_emb_val (cfg0.win 4) t (ix2 a b) 1).trans (by rw [index4]; show 0 * 1024 + b.val = b.val; omega)
theorem emb5 (t : Fin cfg0.N) (a b : Fin 1024) : ((cfg0.win 5).blk t).view.emb (ix2 a b) = ix2 a b := by
  refine funext fun x => Fin.ext ?_
  match x with
  | 0 => exact (Pipeline.Window.rect_emb_val (cfg0.win 5) t (ix2 a b) 0).trans (by rw [index5]; show 0 * 1024 + a.val = a.val; omega)
  | 1 => exact (Pipeline.Window.rect_emb_val (cfg0.win 5) t (ix2 a b) 1).trans (by rw [index5]; show 0 * 1024 + b.val = b.val; omega)
theorem emb7 (t : Fin cfg0.N) (a : Fin 256) (k : Fin 1024) (b : Fin 2) (p : Fin 8192) (h : 8192 * b.val + p.val = 256 * t.val + a.val) : ((cfg0.win 7).blk t).view.emb (ix3 0 k a) = ix3 b k p := by
  refine funext fun x => Fin.ext ?_
  match x with
  | 0 => exact (Pipeline.Window.rect_emb_val (cfg0.win 7) t (ix3 0 k a) 0).trans (by rw [index7]; show t.val / 32 * 1 + 0 = b.val; omega)
  | 1 => exact (Pipeline.Window.rect_emb_val (cfg0.win 7) t (ix3 0 k a) 1).trans (by rw [index7]; show 0 * 1024 + k.val = k.val; omega)
  | 2 => exact (Pipeline.Window.rect_emb_val (cfg0.win 7) t (ix3 0 k a) 2).trans (by rw [index7]; show t.val % 32 * 256 + a.val = p.val; omega)
theorem emb8 (t : Fin cfg0.N) (a : Fin 256) (k : Fin 1024) (b : Fin 2) (p : Fin 8192) (h : 8192 * b.val + p.val = 256 * t.val + a.val) : ((cfg0.win 8).blk t).view.emb (ix3 0 k a) = ix3 b k p := by
  refine funext fun x => Fin.ext ?_
  match x with
  | 0 => exact (Pipeline.Window.rect_emb_val (cfg0.win 8) t (ix3 0 k a) 0).trans (by rw [index8]; show t.val / 32 * 1 + 0 = b.val; omega)
  | 1 => exact (Pipeline.Window.rect_emb_val (cfg0.win 8) t (ix3 0 k a) 1).trans (by rw [index8]; show 0 * 1024 + k.val = k.val; omega)
  | 2 => exact (Pipeline.Window.rect_emb_val (cfg0.win 8) t (ix3 0 k a) 2).trans (by rw [index8]; show t.val % 32 * 256 + a.val = p.val; omega)

theorem blk0 (t : Fin cfg0.N) (a : Fin 256) (k : Fin 1024) (b : Fin 2) (p : Fin 8192) (h : 8192 * b.val + p.val = 256 * t.val + a.val) :
    iblk m c 0 t (ix2 a k) = argx m c (ix3 b p k) := by
  refine (congrArg (V m c main_v0) (emb0 t a k ⟨8192 * b.val + p.val, by omega⟩ h)).trans ?_
  rw [Vx]
  pointwise
theorem blk1 (t : Fin cfg0.N) (k : Fin 1024) : iblk m c 1 t (ix2 0 k) = argg m c (ix2 0 k) := by
  refine (congrArg (V m c main_v3) (emb1 t k)).trans ?_
  rw [Vg]
  pointwise
theorem blk2 (t : Fin cfg0.N) (k n : Fin 1024) : iblk m c 2 t (ix2 k n) = argw m c (ix3 0 k ⟨n.val, by omega⟩) := by
  refine (congrArg (V m c main_v5) (emb2 t _ _)).trans ?_
  rw [Vw2]
  pointwise
theorem blk3 (t : Fin cfg0.N) (k n : Fin 1024) : iblk m c 3 t (ix2 n k) = argw m c (ix3 0 k ⟨1024 + n.val, by omega⟩) := by
  refine (congrArg (V m c main_v8) (emb3 t _ _)).trans ?_
  rw [Vw3]
  pointwise
theorem blk4 (t : Fin cfg0.N) (k n : Fin 1024) : iblk m c 4 t (ix2 n k) = argw m c (ix3 0 k ⟨2048 + n.val, by omega⟩) := by
  refine (congrArg (V m c main_v11) (emb4 t _ _)).trans ?_
  rw [Vw4]
  pointwise
theorem blk5 (t : Fin cfg0.N) (k n : Fin 1024) : iblk m c 5 t (ix2 k n) = argw m c (ix3 0 k ⟨3072 + n.val, by omega⟩) := by
  refine (congrArg (V m c main_v13) (emb5 t _ _)).trans ?_
  rw [Vw5]
  pointwise

/-- The reference's projected rows, of the run's arguments. -/
abbrev Y : FVec Ideal Reference2Ideal.S2x8192x4096 .f32 := Reference2Ideal.Hand.proj (F := Ideal) (argx m c) (argg m c) (argw m c)

theorem Y_apply (b : Fin 2) (p : Fin 8192) (n : Fin 4096) :
    Y m c (ix3 b p n) = ∑ k, Proj.rms (fun k => argx m c (ix3 b p k)) (fun k => argg m c (ix2 0 k)) k * argw m c (ix3 0 k n) :=
  Reference2Ideal.Hand.proj_apply _ _ _ b p n

/-- A part of the projected rows, as columns. -/
def cols (o : ℕ) (ho : o + 1024 ≤ 4096) (y : FVec Ideal Reference2Ideal.S2x8192x4096 .f32) : FVec Ideal S2x1024x8192 .f32 :=
  fun i => y (ix3 (i 0) (i 2) ⟨o + (i 1).val, Nat.lt_of_lt_of_le (Nat.add_lt_add_left (show (i 1).val < 1024 from (i 1).isLt) o) ho⟩)

theorem cols_apply (o : ℕ) (ho : o + 1024 ≤ 4096) (y : FVec Ideal Reference2Ideal.S2x8192x4096 .f32) (b : Fin 2) (n : Fin 1024) (p : Fin 8192) :
    cols o ho y (ix3 b n p) = y (ix3 b p ⟨o + n.val, by omega⟩) := rfl

/-- Columns, layer by layer, per head. -/
def heads (A : FVec Ideal S2x1024x8192 .f32) : FVec Ideal S1x2x8192x16x64 .f32 :=
  broadcastInDim S1x2x8192x16x64 ![1, 2, 3, 4] bcast_S2x8192x16x64_S1x2x8192x16x64_1_2_3_4 (transpose S2x8192x16x64 [0, 3, 1, 2] (shapeCast S2x16x64x8192 A shapeCasts_S2x1024x8192_S2x16x64x8192) transposes_S2x16x64x8192_S2x8192x16x64_0_3_1_2)

theorem heads_apply (A : FVec Ideal S2x1024x8192 .f32) (b : Fin 2) (p : Fin 8192) (h : Fin 16) (d : Fin 64) :
    heads A (ix5 0 b p h d) = A (ix3 b ⟨h.val * 64 + d.val, by omega⟩ p) := by
  unfold heads
  pointwise

theorem eq_heads (y : S1x2x8192x16x64.Idx) : y = ix5 0 (y 1) (y 2) (y 3) (y 4) :=
  (eq_ix5 y).trans (congrArg (fun z : Fin 1 => (ix5 z (y 1) (y 2) (y 3) (y 4) : S1x2x8192x16x64.Idx)) (Subsingleton.elim (α := Fin 1) (y 0) 0))

theorem heads_keys (y : FVec Ideal Reference2Ideal.S2x8192x4096 .f32) : heads (cols 1024 (by decide) y) = Reference2Ideal.Hand.outK (F := Ideal) y := by
  refine funext fun i => ?_
  obtain ⟨b, p, h, d, rfl⟩ : ∃ (b : Fin 2) (p : Fin 8192) (h : Fin 16) (d : Fin 64), i = ix5 0 b p h d := ⟨i 1, i 2, i 3, i 4, eq_heads i⟩
  exact (heads_apply _ b p h d).trans (Reference2Ideal.Hand.outK_apply y b p h d).symm

theorem heads_values (y : FVec Ideal Reference2Ideal.S2x8192x4096 .f32) : heads (cols 2048 (by decide) y) = Reference2Ideal.Hand.outV (F := Ideal) y := by
  refine funext fun i => ?_
  obtain ⟨b, p, h, d, rfl⟩ : ∃ (b : Fin 2) (p : Fin 8192) (h : Fin 16) (d : Fin 64), i = ix5 0 b p h d := ⟨i 1, i 2, i 3, i 4, eq_heads i⟩
  exact (heads_apply _ b p h d).trans (Reference2Ideal.Hand.outV_apply y b p h d).symm

theorem eq_col (y : S1x1024x256.Idx) : y = ix3 0 (y 1) (y 2) :=
  (eq_ix3 y).trans (congrArg (fun z : Fin 1 => (ix3 z (y 1) (y 2) : S1x1024x256.Idx)) (Subsingleton.elim (α := Fin 1) (y 0) 0))

/-- A point's rows, normed. -/
theorem rms_blk (t : Fin cfg0.N) (a : Fin 256) (b : Fin 2) (p : Fin 8192) (h : 8192 * b.val + p.val = 256 * t.val + a.val) :
    Proj.rms (fun k => iblk m c 0 t (ix2 a k)) (fun k => iblk m c 1 t (ix2 0 k)) = Proj.rms (fun k => argx m c (ix3 b p k)) (fun k => argg m c (ix2 0 k)) := by
  rw [funext fun k => blk0 m c t a k b p h, funext fun k => blk1 m c t k]

theorem arr6 : (dats m 0 c).arrAt 6 cfg0.N = Reference2Ideal.Hand.outQ (F := Ideal) (Y m c) := by
  refine (dats m 0 c).arrAt_eq_of_covers 6 _ (by decide +kernel) fun t hf y => ?_
  obtain ⟨a, n, rfl⟩ : ∃ (a : Fin 256) (n : Fin 1024), y = ix2 a n := ⟨y 0, y 1, eq_ix2 y⟩
  blk_simp
  rw [after0_6]
  frame_out
  have ht : t.val < 64 := t.isLt
  have hR : 256 * t.val + a.val < 16384 := by omega
  obtain ⟨b, p, h⟩ : ∃ (b : Fin 2) (p : Fin 8192), 8192 * b.val + p.val = 256 * t.val + a.val := ⟨⟨(256 * t.val + a.val) / 8192, by omega⟩, ⟨(256 * t.val + a.val) % 8192, by omega⟩, by show 8192 * ((256 * t.val + a.val) / 8192) + (256 * t.val + a.val) % 8192 = _; omega⟩
  refine Eq.trans ?_ (congrArg (Reference2Ideal.Hand.outQ (F := Ideal) (Y m c)) (emb6 t a n ⟨256 * t.val + a.val, hR⟩ rfl)).symm
  rw [Reference2Ideal.Hand.outQ_apply _ b p n _ h.symm, Y_apply]
  refine (pay3_apply _ _ _ a n).trans (Finset.sum_congr rfl fun k _ => ?_)
  rw [rms_blk m c t a b p h, blk2]

theorem arr7 : (dats m 0 c).arrAt 7 cfg0.N = cols 1024 (by decide) (Y m c) := by
  refine (dats m 0 c).arrAt_eq_of_covers 7 _ (by decide +kernel) fun t hf y => ?_
  obtain ⟨n, a, rfl⟩ : ∃ (n : Fin 1024) (a : Fin 256), y = ix3 0 n a := ⟨y 1, y 2, eq_col y⟩
  blk_simp
  rw [after0_7]
  frame_out
  have ht : t.val < 64 := t.isLt
  obtain ⟨b, p, h⟩ : ∃ (b : Fin 2) (p : Fin 8192), 8192 * b.val + p.val = 256 * t.val + a.val := ⟨⟨(256 * t.val + a.val) / 8192, by omega⟩, ⟨(256 * t.val + a.val) % 8192, by omega⟩, by show 8192 * ((256 * t.val + a.val) / 8192) + (256 * t.val + a.val) % 8192 = _; omega⟩
  refine Eq.trans ?_ (congrArg (cols 1024 (by decide) (Y m c)) (emb7 t a n b p h)).symm
  rw [cols_apply, Y_apply]
  refine (pay4_apply _ _ _ a n).trans (Finset.sum_congr rfl fun k _ => ?_)
  rw [rms_blk m c t a b p h, blk3]

theorem arr8 : (dats m 0 c).arrAt 8 cfg0.N = cols 2048 (by decide) (Y m c) := by
  refine (dats m 0 c).arrAt_eq_of_covers 8 _ (by decide +kernel) fun t hf y => ?_
  obtain ⟨n, a, rfl⟩ : ∃ (n : Fin 1024) (a : Fin 256), y = ix3 0 n a := ⟨y 1, y 2, eq_col y⟩
  blk_simp
  rw [after0_8]
  frame_out
  have ht : t.val < 64 := t.isLt
  obtain ⟨b, p, h⟩ : ∃ (b : Fin 2) (p : Fin 8192), 8192 * b.val + p.val = 256 * t.val + a.val := ⟨⟨(256 * t.val + a.val) / 8192, by omega⟩, ⟨(256 * t.val + a.val) % 8192, by omega⟩, by show 8192 * ((256 * t.val + a.val) / 8192) + (256 * t.val + a.val) % 8192 = _; omega⟩
  refine Eq.trans ?_ (congrArg (cols 2048 (by decide) (Y m c)) (emb8 t a n b p h)).symm
  rw [cols_apply, Y_apply]
  refine (pay5_apply _ _ _ a n).trans (Finset.sum_congr rfl fun k _ => ?_)
  rw [rms_blk m c t a b p h, blk4]

theorem arr9 : (dats m 0 c).arrAt 9 cfg0.N = Reference2Ideal.Hand.outZ (F := Ideal) (Y m c) := by
  refine (dats m 0 c).arrAt_eq_of_covers 9 _ (by decide +kernel) fun t hf y => ?_
  obtain ⟨a, n, rfl⟩ : ∃ (a : Fin 256) (n : Fin 1024), y = ix2 a n := ⟨y 0, y 1, eq_ix2 y⟩
  blk_simp
  rw [after0_9]
  frame_out
  have ht : t.val < 64 := t.isLt
  have hR : 256 * t.val + a.val < 16384 := by omega
  obtain ⟨b, p, h⟩ : ∃ (b : Fin 2) (p : Fin 8192), 8192 * b.val + p.val = 256 * t.val + a.val := ⟨⟨(256 * t.val + a.val) / 8192, by omega⟩, ⟨(256 * t.val + a.val) % 8192, by omega⟩, by show 8192 * ((256 * t.val + a.val) / 8192) + (256 * t.val + a.val) % 8192 = _; omega⟩
  refine Eq.trans ?_ (congrArg (Reference2Ideal.Hand.outZ (F := Ideal) (Y m c)) (emb9 t a n ⟨256 * t.val + a.val, hR⟩ rfl)).symm
  rw [Reference2Ideal.Hand.outZ_apply _ b p n _ h.symm, Y_apply]
  refine (pay1_apply _ _ a n).trans (Finset.sum_congr rfl fun k _ => ?_)
  rw [pay2_apply]
  rw [rms_blk m c t a b p h, blk5]

theorem tail19 : Pipeline.afterTail₀ cfgs (dats m) 0 (V0 m) [hostOps1] c main_v19 = heads ((dats m 0 c).arrAt 7 cfg0.N) := by
  unfold Pipeline.afterTail₀ heads
  after_results
  rw [← show Pipeline.withArrays spec0 c (V0 m c) (fun w => (dats m 0 c).arrAt w cfg0.N) (Proc.devRef .tc main_v14_1) = (dats m 0 c).arrAt 7 cfg0.N from Pipeline.withArrays_arr spec0 (by decide) c _ _ 7]
  rfl

theorem tail20 : Pipeline.afterTail₀ cfgs (dats m) 0 (V0 m) [hostOps1] c main_v20 = heads ((dats m 0 c).arrAt 8 cfg0.N) := by
  unfold Pipeline.afterTail₀ heads
  after_results
  rw [← show Pipeline.withArrays spec0 c (V0 m c) (fun w => (dats m 0 c).arrAt w cfg0.N) (Proc.devRef .tc main_v14_2) = (dats m 0 c).arrAt 8 cfg0.N from Pipeline.withArrays_arr spec0 (by decide) c _ _ 8]
  rfl

end Cert.Kernel2Ideal.Hand

namespace Cert.Proj
open Idealize.ShloMosaic Idealize.ShloMosaic.TcCoe Idealize.SL.Sem
open Cert.Kernel2Ideal Cert.Kernel2Ideal.Gen Cert.Kernel2Ideal.Hand

theorem algebraic2 : Cert.algebraic_Kernel2Ideal_Reference2Ideal := by
  intro m g m' g' _ hag
  refine ⟨fun c => Reference2Ideal.Hand.outQ (F := Ideal) (Y m c), fun c => Reference2Ideal.Hand.outK (F := Ideal) (Y m c),
    fun c => Reference2Ideal.Hand.outV (F := Ideal) (Y m c), fun c => Reference2Ideal.Hand.outZ (F := Ideal) (Y m c), ?_, ?_⟩
  · refine (θ_run _ _ _).mono (fun r h c => ⟨?_, ?_, ?_, ?_, h.2 c⟩) (θ_run_and (run_main m g) (unchanged m g))
    · exact (Pipeline.FramePost.out_eq h.1 c 6).trans (arr6 m c)
    · exact ((h.1 c).2 main_v19 (Pipeline.mem_restRefs_of main_v19 (by decide) (by decide))).trans ((tail19 m c).trans ((congrArg heads (arr7 m c)).trans (heads_keys _)))
    · exact ((h.1 c).2 main_v20 (Pipeline.mem_restRefs_of main_v20 (by decide) (by decide))).trans ((tail20 m c).trans ((congrArg heads (arr8 m c)).trans (heads_values _)))
    · exact (Pipeline.FramePost.out_eq h.1 c 9).trans (arr9 m c)
  · refine (θ_run _ _ _).mono (fun r h c => ?_) (Cert.Reference2Ideal.Value.run (F := Ideal) m' g')
    obtain ⟨e0, e1, e2⟩ := hag c
    obtain ⟨r0, r1, r2, r3, ra⟩ := h c
    rw [e0, e1, e2] at r0 r1 r2 r3
    exact ⟨r0, r1, r2, r3, ra⟩

end Cert.Proj
-- ==== Proof.Proj3.lean ====
/- The last layer's output projection and the final norm over the reals: the run's array is the reference's. -/
module

public import proofs.«01_k».proof.Proof.Proj
public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Claim
public import Idealize.ShloMosaic.Lib.Pointwise

@[expose] public section

set_option maxRecDepth 16384

noncomputable section

namespace Cert.Reference3Ideal.Hand
open Cert.Reference3Ideal Cert.Reference3Ideal.Gen Cert.Reference3Ideal.Value
open Idealize.ShloMosaic Idealize.ShloMosaic.TcCoe Idealize.SL.Sem

/-- The stream with the gated branch added. -/
def mixed {F : FTy → Type} [FloatOps F] (o z x : FVec F S2x8192x1024 .f32) (w : FVec F S1x1024x1024 .f32) : FVec F S2x8192x1024 .f32 :=
  addf x (Host.dotGeneral dot_S2x8192x1024_S1024x1024_S2x8192x1024_2_0_01_1_n_n none
    (mulf o (mulf z (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z))))))
    (shapeCast S1024x1024 w shapeCasts_S1x1024x1024_S1024x1024))

/-- The final norm, row by row. -/
def normed {F : FTy → Type} [FloatOps F] (y : FVec F S2x8192x1024 .f32) (g : FVec F S1024 .f32) : FVec F S16384x1024 .f32 :=
  shapeCast S16384x1024 (mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))) shapeCasts_S2x8192x1024_S16384x1024

theorem mixed_apply (o z x : FVec Ideal S2x8192x1024 .f32) (w : FVec Ideal S1x1024x1024 .f32) (b : Fin 2) (p : Fin 8192) (n : Fin 1024) :
    mixed o z x w (ix3 b p n) = Proj.mix (fun k => o (ix3 b p k)) (fun k => z (ix3 b p k)) (fun k => x (ix3 b p k)) (fun k n => w (ix3 0 k n)) n := by
  unfold mixed Proj.mix
  pointwise
  simp only [Ideal.mul_one_div (Proj.gate_ne _)]

theorem normed_apply (y : FVec Ideal S2x8192x1024 .f32) (g : FVec Ideal S1024 .f32) (b : Fin 2) (p : Fin 8192) (n : Fin 1024) (R : Fin 16384) (hR : R.val = 8192 * b.val + p.val) :
    normed y g (ix2 R n) = Proj.rms (fun k => y (ix3 b p k)) (fun k => g (ix1 k)) n := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  unfold normed Proj.rms
  pointwise
  rw [h1, h2]

end Cert.Reference3Ideal.Hand

namespace Cert.Kernel3Ideal.Hand
open Cert.Kernel3Ideal Cert.Kernel3Ideal.Gen
open Idealize.ShloMosaic Idealize.ShloMosaic.TcCoe Idealize.SL.Sem

theorem pay1_apply (z o x : Vec Ideal S256x1024 .f32) (w : Vec Ideal S1024x1024 .bf16) (g : Vec Ideal S1x1024 .f32) (a : Fin 256) (n : Fin 1024) :
    k0_pay1 z o x w g (ix2 a n) = Proj.rms (Proj.mix (fun k => o (ix2 a k)) (fun k => z (ix2 a k)) (fun k => x (ix2 a k)) (fun k n => w (ix2 k n))) (fun k => g (ix2 0 k)) n := by
  unfold Proj.rms Proj.mix
  pointwise [k0_pay1]
  simp only [zero_sub]

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![t.val, 0] := by decide +kernel
theorem index5 : ∀ t : Fin cfg0.N, (cfg0.win 5).index t = ![t.val, 0] := by decide +kernel
theorem index3 : ∀ t : Fin cfg0.N, (cfg0.win 3).index t = ![0, 0] := by decide +kernel
theorem index4 : ∀ t : Fin cfg0.N, (cfg0.win 4).index t = ![0, 0] := by decide +kernel

variable (m : (ℓ : Loc nD τ sig) → Buf (Elt Ideal) ℓ) (c : Dev nD)

/-- The five arguments. -/
abbrev argo : FVec Ideal S2x8192x1024 .f32 := m ((c.tc : Thread nD τ).loc main_arg0)
abbrev argz : FVec Ideal S2x8192x1024 .f32 := m ((c.tc : Thread nD τ).loc main_arg1)
abbrev argx : FVec Ideal S2x8192x1024 .f32 := m ((c.tc : Thread nD τ).loc main_arg2)
abbrev argw : FVec Ideal S1x1024x1024 .f32 := m ((c.tc : Thread nD τ).loc main_arg3)
abbrev argg : FVec Ideal S1024 .f32 := m ((c.tc : Thread nD τ).loc main_arg4)

theorem Vo : V m c main_v0 = shapeCast S16384x1024 (argo m c) shapeCasts_S2x8192x1024_S16384x1024 := by
  entry_read
  rfl
theorem Vz : V m c main_v1 = shapeCast S16384x1024 (argz m c) shapeCasts_S2x8192x1024_S16384x1024 := by
  entry_read
  rfl
theorem Vx : V m c main_v2 = shapeCast S16384x1024 (argx m c) shapeCasts_S2x8192x1024_S16384x1024 := by
  entry_read
  rfl
theorem Vw : V m c main_v4 = truncf (F := Ideal) .bf16 (shapeCast S1024x1024 (argw m c) shapeCasts_S1x1024x1024_S1024x1024) bitsLt_bf16_f32 := by
  entry_read
  rfl
theorem Vg : V m c main_v5 = shapeCast S1x1024 (argg m c) shapeCasts_S1024_S1x1024 := by
  entry_read
  rfl

theorem emb0 (t : Fin cfg0.N) (a : Fin 256) (k : Fin 1024) (R : Fin 16384) (hR : R.val = 256 * t.val + a.val) : ((cfg0.win 0).blk t).view.emb (ix2 a k) = ix2 R k := by
  refine funext fun x => Fin.ext ?_
  match x with
  | 0 => exact (Pipeline.Window.rect_emb_val (cfg0.win 0) t (ix2 a k) 0).trans (by rw [index0]; show t.val * 256 + a.val = R.val; omega)
  | 1 => exact (Pipeline.Window.rect_emb_val (cfg0.win 0) t (ix2 a k) 1).trans (by rw [index0]; show 0 * 1024 + k.val = k.val; omega)
theorem emb1 (t : Fin cfg0.N) (a : Fin 256) (k : Fin 1024) (R : Fin 16384) (hR : R.val = 256 * t.val + a.val) : ((cfg0.win 1).blk t).view.emb (ix2 a k) = ix2 R k := by
  refine funext fun x => Fin.ext ?_
  match x with
  | 0 => exact (Pipeline.Window.rect_emb_val (cfg0.win 1) t (ix2 a k) 0).trans (by rw [index1]; show t.val * 256 + a.val = R.val; omega)
  | 1 => exact (Pipeline.Window.rect_emb_val (cfg0.win 1) t (ix2 a k) 1).trans (by rw [index1]; show 0 * 1024 + k.val = k.val; omega)
theorem emb2 (t : Fin cfg0.N) (a : Fin 256) (k : Fin 1024) (R : Fin 16384) (hR : R.val = 256 * t.val + a.val) : ((cfg0.win 2).blk t).view.emb (ix2 a k) = ix2 R k := by
  refine funext fun x => Fin.ext ?_
  match x with
  | 0 => exact (Pipeline.Window.rect_emb_val (cfg0.win 2) t (ix2 a k) 0).trans (by rw [index2]; show t.val * 256 + a.val = R.val; omega)
  | 1 => exact (Pipeline.Window.rect_emb_val (cfg0.win 2) t (ix2 a k) 1).trans (by rw [index2]; show 0 * 1024 + k.val = k.val; omega)
theorem emb5 (t : Fin cfg0.N) (a : Fin 256) (k : Fin 1024) (R : Fin 16384) (hR : R.val = 256 * t.val + a.val) : ((cfg0.win 5).blk t).view.emb (ix2 a k) = ix2 R k := by
  refine funext fun x => Fin.ext ?_
  match x with
  | 0 => exact (Pipeline.Window.rect_emb_val (cfg0.win 5) t (ix2 a k) 0).trans (by rw [index5]; show t.val * 256 + a.val = R.val; omega)
  | 1 => exact (Pipeline.Window.rect_emb_val (cfg0.win 5) t (ix2 a k) 1).trans (by rw [index5]; show 0 * 1024 + k.val = k.val; omega)
theorem emb3 (t : Fin cfg0.N) (a b : Fin 1024) : ((cfg0.win 3).blk t).view.emb (ix2 a b) = ix2 a b := by
  refine funext fun x => Fin.ext ?_
  match x with
  | 0 => exact (Pipeline.Window.rect_emb_val (cfg0.win 3) t (ix2 a b) 0).trans (by rw [index3]; show 0 * 1024 + a.val = a.val; omega)
  | 1 => exact (Pipeline.Window.rect_emb_val (cfg0.win 3) t (ix2 a b) 1).trans (by rw [index3]; show 0 * 1024 + b.val = b.val; omega)
theorem emb4 (t : Fin cfg0.N) (k : Fin 1024) : ((cfg0.win 4).blk t).view.emb (ix2 0 k) = ix2 0 k := by
  refine funext fun x => Fin.ext ?_
  match x with
  | 0 => exact (Pipeline.Window.rect_emb_val (cfg0.win 4) t (ix2 0 k) 0).trans (by rw [index4]; rfl)
  | 1 => exact (Pipeline.Window.rect_emb_val (cfg0.win 4) t (ix2 0 k) 1).trans (by rw [index4]; show 0 * 1024 + k.val = k.val; omega)

theorem blk0 (t : Fin cfg0.N) (a : Fin 256) (k : Fin 1024) (b : Fin 2) (p : Fin 8192) (h : 8192 * b.val + p.val = 256 * t.val + a.val) :
    iblk m c 0 t (ix2 a k) = argo m c (ix3 b p k) := by
  refine (congrArg (V m c main_v0) (emb0 t a k ⟨8192 * b.val + p.val, by omega⟩ h)).trans ?_
  rw [Vo]
  pointwise
theorem blk1 (t : Fin cfg0.N) (a : Fin 256) (k : Fin 1024) (b : Fin 2) (p : Fin 8192) (h : 8192 * b.val + p.val = 256 * t.val + a.val) :
    iblk m c 1 t (ix2 a k) = argz m c (ix3 b p k) := by
  refine (congrArg (V m c main_v1) (emb1 t a k ⟨8192 * b.val + p.val, by omega⟩ h)).trans ?_
  rw [Vz]
  pointwise
theorem blk2 (t : Fin cfg0.N) (a : Fin 256) (k : Fin 1024) (b : Fin 2) (p : Fin 8192) (h : 8192 * b.val + p.val = 256 * t.val + a.val) :
    iblk m c 2 t (ix2 a k) = argx m c (ix3 b p k) := by
  refine (congrArg (V m c main_v2) (emb2 t a k ⟨8192 * b.val + p.val, by omega⟩ h)).trans ?_
  rw [Vx]
  pointwise
theorem blk3 (t : Fin cfg0.N) (k n : Fin 1024) : iblk m c 3 t (ix2 k n) = argw m c (ix3 0 k n) := by
  refine (congrArg (V m c main_v4) (emb3 t k n)).trans ?_
  rw [Vw]
  pointwise
theorem blk4 (t : Fin cfg0.N) (k : Fin 1024) : iblk m c 4 t (ix2 0 k) = argg m c (ix1 k) := by
  refine (congrArg (V m c main_v5) (emb4 t k)).trans ?_
  rw [Vg]
  pointwise

/-- The reference's stream with the branch added, of the run's arguments. -/
abbrev Y : FVec Ideal Reference3Ideal.S2x8192x1024 .f32 := Reference3Ideal.Hand.mixed (F := Ideal) (argo m c) (argz m c) (argx m c) (argw m c)

theorem Y_apply (b : Fin 2) (p : Fin 8192) (n : Fin 1024) :
    Y m c (ix3 b p n) = Proj.mix (fun k => argo m c (ix3 b p k)) (fun k => argz m c (ix3 b p k)) (fun k => argx m c (ix3 b p k)) (fun k n => argw m c (ix3 0 k n)) n :=
  Reference3Ideal.Hand.mixed_apply _ _ _ _ b p n

theorem arr5 : (dats m 0 c).arrAt 5 cfg0.N = Reference3Ideal.Hand.normed (F := Ideal) (Y m c) (argg m c) := by
  refine (dats m 0 c).arrAt_eq_of_covers 5 _ (by decide +kernel) fun t hf y => ?_
  obtain ⟨a, n, rfl⟩ : ∃ (a : Fin 256) (n : Fin 1024), y = ix2 a n := ⟨y 0, y 1, eq_ix2 y⟩
  blk_simp
  rw [after0_5]
  frame_out
  have ht : t.val < 64 := t.isLt
  have hR : 256 * t.val + a.val < 16384 := by omega
  obtain ⟨b, p, h⟩ : ∃ (b : Fin 2) (p : Fin 8192), 8192 * b.val + p.val = 256 * t.val + a.val := ⟨⟨(256 * t.val + a.val) / 8192, by omega⟩, ⟨(256 * t.val + a.val) % 8192, by omega⟩, by show 8192 * ((256 * t.val + a.val) / 8192) + (256 * t.val + a.val) % 8192 = _; omega⟩
  refine Eq.trans ?_ (congrArg (Reference3Ideal.Hand.normed (F := Ideal) (Y m c) (argg m c)) (emb5 t a n ⟨256 * t.val + a.val, hR⟩ rfl)).symm
  rw [Reference3Ideal.Hand.normed_apply _ _ b p n _ h.symm, funext fun k => Y_apply m c b p k]
  refine (pay1_apply _ _ _ _ _ a n).trans ?_
  rw [funext fun k => blk0 m c t a k b p h, funext fun k => blk1 m c t a k b p h, funext fun k => blk2 m c t a k b p h, funext fun k => funext fun n => blk3 m c t k n, funext fun k => blk4 m c t k]

end Cert.Kernel3Ideal.Hand

namespace Cert.Proj
open Idealize.ShloMosaic Idealize.ShloMosaic.TcCoe Idealize.SL.Sem
open Cert.Kernel3Ideal Cert.Kernel3Ideal.Gen Cert.Kernel3Ideal.Hand

theorem algebraic3 : Cert.algebraic_Kernel3Ideal_Reference3Ideal := by
  intro m g m' g' _ hag
  refine ⟨fun c => Reference3Ideal.Hand.normed (F := Ideal) (Y m c) (argg m c), ?_, ?_⟩
  · refine (θ_run _ _ _).mono (fun r h c => ⟨?_, h.2 c⟩) (θ_run_and (run_main m g) (unchanged m g))
    exact (Pipeline.FramePost.out_eq h.1 c 5).trans (arr5 m c)
  · refine (θ_run _ _ _).mono (fun r h c => ?_) (Cert.Reference3Ideal.Value.run (F := Ideal) m' g')
    obtain ⟨e0, e1, e2, e3, e4⟩ := hag c
    obtain ⟨r0, ra⟩ := h c
    rw [e0, e1, e2, e3, e4] at r0
    exact ⟨r0, ra⟩

end Cert.Proj
-- ==== Proof.K4I.Run.lean ====
module

public import proofs.«01_k».proof.Proof.Gen.Kernel4Ideal.Frame
public import proofs.«01_k».proof.Proof.Gen.Kernel4Ideal.Skeleton
public import Idealize.ShloMosaic.Lib.VecWindow
public import Idealize.ShloMosaic.Lib.Pipeline.ValueKit
public import Idealize.ShloMosaic.Lib.Claim
public import Idealize.ShloMosaic.Lib.Pointwise

@[expose] public section

/-! The run of the second layer's input projection: what a point leaves in the six results' buffers, the proof data, the launch. -/

set_option maxRecDepth 16384
noncomputable section

namespace Cert.Kernel4Ideal.Hand
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄G" => MT nD τ sig Unit (Elt F) ℕ (UR sig nD τ) ℕ

/-- A tile of rows, the eight heads of a row one below the other. -/
def tiles (v : FVec F S256x1024 .f32) : FVec F S2048x128 .f32 := fun y =>
  v (ix2 ⟨(y 0).val / 8, by have h : (y 0).val < 2048 := (y 0).isLt; omega⟩ ⟨128 * ((y 0).val % 8) + (y 1).val, by have h : (y 1).val < 128 := (y 1).isLt; omega⟩)

/-- The rows of one head among a tile's. -/
abbrev sr (r : ℕ) (inb : ∀ a, S256x128.size a = 0 ∨ (![r, 0] : Fin 2 → ℕ) a + (![8, 1] : Fin 2 → ℕ) a * (S256x128.size a - 1) < S2048x128.size a) : Rect S2048x128 := ⟨(⟨![r, 0], S256x128.size, ![8, 1], inb⟩ : LoadRect S2048x128), spos_8_1⟩

theorem sr_mem (r : ℕ) (inb : ∀ a, S256x128.size a = 0 ∨ (![r, 0] : Fin 2 → ℕ) a + (![8, 1] : Fin 2 → ℕ) a * (S256x128.size a - 1) < S2048x128.size a) (y : S2048x128.Idx) (h : (y 0).val % 8 = r) : y ∈ (sr r inb).set := by
  refine (LoadRect.mem_set _).mpr fun a => ?_
  match a with
  | 0 => exact ⟨(y 0).val / 8, by have h0 : (y 0).val < 2048 := (y 0).isLt; show (y 0).val / 8 < 256; omega, by show (y 0).val = r + 8 * ((y 0).val / 8); omega⟩
  | 1 => exact ⟨(y 1).val, (y 1).isLt, by show (y 1).val = 0 + 1 * (y 1).val; omega⟩

/-- The eight stores of the values' rows, the last first. -/
abbrev stores (n : FVec F S256x1024 .bf16) (w : Vec F S1024x1024 .bf16) : List (View.Piece (Elt F) S2048x128 .f32) :=
  [⟨sr 7 inb_S2048x128_S256x128_7_0_s_8_1, k0_pay15 n w⟩, ⟨sr 6 inb_S2048x128_S256x128_6_0_s_8_1, k0_pay14 n w⟩, ⟨sr 5 inb_S2048x128_S256x128_5_0_s_8_1, k0_pay13 n w⟩, ⟨sr 4 inb_S2048x128_S256x128_4_0_s_8_1, k0_pay12 n w⟩, ⟨sr 3 inb_S2048x128_S256x128_3_0_s_8_1, k0_pay11 n w⟩, ⟨sr 2 inb_S2048x128_S256x128_2_0_s_8_1, k0_pay10 n w⟩, ⟨sr 1 inb_S2048x128_S256x128_1_0_s_8_1, k0_pay9 n w⟩, ⟨sr 0 inb_S2048x128_S256x128_0_0_s_8_1, k0_pay8 n w⟩]

theorem stores_cover (n : FVec F S256x1024 .bf16) (w : Vec F S1024x1024 .bf16) (y : S2048x128.Idx) : ∃ p ∈ stores n w, y ∈ p.1.set := by
  have h : (y 0).val % 8 < 8 := Nat.mod_lt _ (by decide)
  generalize hr : (y 0).val % 8 = r at h
  interval_cases r
  · exact ⟨⟨sr 0 inb_S2048x128_S256x128_0_0_s_8_1, k0_pay8 n w⟩, by simp only [stores, List.mem_cons, true_or, or_true], sr_mem _ _ y hr⟩
  · exact ⟨⟨sr 1 inb_S2048x128_S256x128_1_0_s_8_1, k0_pay9 n w⟩, by simp only [stores, List.mem_cons, true_or, or_true], sr_mem _ _ y hr⟩
  · exact ⟨⟨sr 2 inb_S2048x128_S256x128_2_0_s_8_1, k0_pay10 n w⟩, by simp only [stores, List.mem_cons, true_or, or_true], sr_mem _ _ y hr⟩
  · exact ⟨⟨sr 3 inb_S2048x128_S256x128_3_0_s_8_1, k0_pay11 n w⟩, by simp only [stores, List.mem_cons, true_or, or_true], sr_mem _ _ y hr⟩
  · exact ⟨⟨sr 4 inb_S2048x128_S256x128_4_0_s_8_1, k0_pay12 n w⟩, by simp only [stores, List.mem_cons, true_or, or_true], sr_mem _ _ y hr⟩
  · exact ⟨⟨sr 5 inb_S2048x128_S256x128_5_0_s_8_1, k0_pay13 n w⟩, by simp only [stores, List.mem_cons, true_or, or_true], sr_mem _ _ y hr⟩
  · exact ⟨⟨sr 6 inb_S2048x128_S256x128_6_0_s_8_1, k0_pay14 n w⟩, by simp only [stores, List.mem_cons, true_or, or_true], sr_mem _ _ y hr⟩
  · exact ⟨⟨sr 7 inb_S2048x128_S256x128_7_0_s_8_1, k0_pay15 n w⟩, by simp only [stores, List.mem_cons, true_or, or_true], sr_mem _ _ y hr⟩

theorem sr_at (r : ℕ) (hr : r < 8) (inb : ∀ a, S256x128.size a = 0 ∨ (![r, 0] : Fin 2 → ℕ) a + (![8, 1] : Fin 2 → ℕ) a * (S256x128.size a - 1) < S2048x128.size a) (v : FVec F S256x1024 .f32) (y : S2048x128.Idx) (x : S256x128.Idx) (hx : (sr r inb).emb x = y) :
    tiles v y = v (ix2 (x 0) ⟨128 * r + (x 1).val, by have h : (x 1).val < 128 := (x 1).isLt; omega⟩) := by
  have h0 : (y 0).val = r + 8 * (x 0).val := by rw [← hx]; rfl
  have h1 : (y 1).val = (x 1).val := by rw [← hx]; show 0 + 1 * (x 1).val = _; omega
  refine congrArg v (funext fun a => Fin.ext ?_)
  match a with
  | 0 => show (y 0).val / 8 = (x 0).val; omega
  | 1 => show 128 * ((y 0).val % 8) + (y 1).val = 128 * r + (x 1).val; rw [h0, h1]; omega

theorem stores_eq (n : FVec F S256x1024 .bf16) (w : Vec F S1024x1024 .bf16) : View.canon (stores n w) = tiles (k0_pay7 n w) := by
  refine funext fun y => View.canon_eq_of_allAt _ y _ (stores_cover n w y) ?_
  refine View.allAt_cons _ _ _ (fun x hx => (?_ : _ = _).trans (sr_at 7 (by decide) _ (k0_pay7 n w) y x hx).symm) ?_
  · unfold k0_pay15
    exact congrArg (k0_pay7 n w) (funext fun a => Fin.ext (match a with | 0 => by show 0 + (x 0).val = (x 0).val; omega | 1 => rfl))
  refine View.allAt_cons _ _ _ (fun x hx => (?_ : _ = _).trans (sr_at 6 (by decide) _ (k0_pay7 n w) y x hx).symm) ?_
  · unfold k0_pay14
    exact congrArg (k0_pay7 n w) (funext fun a => Fin.ext (match a with | 0 => by show 0 + (x 0).val = (x 0).val; omega | 1 => rfl))
  refine View.allAt_cons _ _ _ (fun x hx => (?_ : _ = _).trans (sr_at 5 (by decide) _ (k0_pay7 n w) y x hx).symm) ?_
  · unfold k0_pay13
    exact congrArg (k0_pay7 n w) (funext fun a => Fin.ext (match a with | 0 => by show 0 + (x 0).val = (x 0).val; omega | 1 => rfl))
  refine View.allAt_cons _ _ _ (fun x hx => (?_ : _ = _).trans (sr_at 4 (by decide) _ (k0_pay7 n w) y x hx).symm) ?_
  · unfold k0_pay12
    exact congrArg (k0_pay7 n w) (funext fun a => Fin.ext (match a with | 0 => by show 0 + (x 0).val = (x 0).val; omega | 1 => rfl))
  refine View.allAt_cons _ _ _ (fun x hx => (?_ : _ = _).trans (sr_at 3 (by decide) _ (k0_pay7 n w) y x hx).symm) ?_
  · unfold k0_pay11
    exact congrArg (k0_pay7 n w) (funext fun a => Fin.ext (match a with | 0 => by show 0 + (x 0).val = (x 0).val; omega | 1 => rfl))
  refine View.allAt_cons _ _ _ (fun x hx => (?_ : _ = _).trans (sr_at 2 (by decide) _ (k0_pay7 n w) y x hx).symm) ?_
  · unfold k0_pay10
    exact congrArg (k0_pay7 n w) (funext fun a => Fin.ext (match a with | 0 => by show 0 + (x 0).val = (x 0).val; omega | 1 => rfl))
  refine View.allAt_cons _ _ _ (fun x hx => (?_ : _ = _).trans (sr_at 1 (by decide) _ (k0_pay7 n w) y x hx).symm) ?_
  · unfold k0_pay9
    exact congrArg (k0_pay7 n w) (funext fun a => Fin.ext (match a with | 0 => by show 0 + (x 0).val = (x 0).val; omega | 1 => rfl))
  refine View.allAt_cons _ _ _ (fun x hx => (?_ : _ = _).trans (sr_at 0 (by decide) _ (k0_pay7 n w) y x hx).symm) ?_
  · unfold k0_pay8
    exact congrArg (k0_pay7 n w) (funext fun a => Fin.ext (match a with | 0 => by show 0 + (x 0).val = (x 0).val; omega | 1 => rfl))
  exact View.allAt_nil y _

theorem ld_row (x : Vec F S256x1024 .f32) : View.ld x (Rect.unit (s := S256x1024) ![0, 0] S256x1024.size inb_S256x1024_S256x1024_0_0) = x :=
  View.ld_unit_lit _ _ (by decide)
theorem ld_mat (x : Vec F S1024x1024 .bf16) : View.ld x (Rect.unit (s := S1024x1024) ![0, 0] S1024x1024.size inb_S1024x1024_S1024x1024_0_0) = x :=
  View.ld_unit_lit _ _ (by decide)
theorem ld_norm (x : Vec F S1x1024 .f32) : View.ld x (Rect.unit (s := S1x1024) ![0, 0] S1x1024.size inb_S1x1024_S1x1024_0_0) = x :=
  View.ld_unit_lit _ _ (by decide)

set_option maxHeartbeats 4000000 in
/-- A point's body: it leaves its inputs, and its six results as functions of them. -/
theorem body (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024x256 .f32) (harg13 : arg13.IsWhole) (arg14 : Memref sig .tc .vmem S2048x128 .f32) (harg14 : arg14.IsWhole) (arg15 : Memref sig .tc .vmem S1x1024x256 .f32) (harg15 : arg15.IsWhole) (arg16 : Memref sig .tc .vmem S256x1024 .f32) (harg16 : arg16.IsWhole)
    (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1024x1024 .bf16) (x7 : Vec F S1024x1024 .bf16) (x8 : Vec F S1024x1024 .bf16) (x9 : Vec F S1024x1024 .bf16) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay3 x1 x0 x2 x3) ∗ owns (c : Thread nD τ) arg12 fullShare (k0_pay5 x1 x0 x2 x3 x4 x5) ∗ owns (c : Thread nD τ) arg13 fullShare (k0_pay6 (k0_pay4 x1 x0 x2 x3 x4) x6) ∗ owns (c : Thread nD τ) arg14 fullShare (tiles (k0_pay7 (k0_pay4 x1 x0 x2 x3 x4) x7)) ∗ owns (c : Thread nD τ) arg15 fullShare (k0_pay1 (k0_pay4 x1 x0 x2 x3 x4) x8) ∗ owns (c : Thread nD τ) arg16 fullShare (k0_pay2 (k0_pay4 x1 x0 x2 x3 x4) x9)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_full _ _ inb_S256x1024_S256x1024_0_0 _ []).trans ?_
    show k0_pay3 (View.ld (View.read (Elt F) arg2.view f1) (Rect.unit (s := S256x1024) ![0, 0] S256x1024.size inb_S256x1024_S256x1024_0_0)) (View.ld (View.read (Elt F) arg1.view f0) (Rect.unit (s := S256x1024) ![0, 0] S256x1024.size inb_S256x1024_S256x1024_0_0)) (View.ld (View.read (Elt F) arg3.view f2) (Rect.unit (s := S256x1024) ![0, 0] S256x1024.size inb_S256x1024_S256x1024_0_0)) (View.ld (View.read (Elt F) arg4.view f3) (Rect.unit (s := S1024x1024) ![0, 0] S1024x1024.size inb_S1024x1024_S1024x1024_0_0)) = _
    rw [ld_row, ld_row, ld_row, ld_mat]
  isplitl [H11]
  · iexists _; isplitr
    swap; · iexact H11
    ipureintro
    refine (View.read_writes_full _ _ inb_S256x1024_S256x1024_0_0 _ []).trans ?_
    show k0_pay5 (View.ld (View.read (Elt F) arg2.view f1) (Rect.unit (s := S256x1024) ![0, 0] S256x1024.size inb_S256x1024_S256x1024_0_0)) (View.ld (View.read (Elt F) arg1.view f0) (Rect.unit (s := S256x1024) ![0, 0] S256x1024.size inb_S256x1024_S256x1024_0_0)) (View.ld (View.read (Elt F) arg3.view f2) (Rect.unit (s := S256x1024) ![0, 0] S256x1024.size inb_S256x1024_S256x1024_0_0)) (View.ld (View.read (Elt F) arg4.view f3) (Rect.unit (s := S1024x1024) ![0, 0] S1024x1024.size inb_S1024x1024_S1024x1024_0_0)) (View.ld (View.read (Elt F) arg5.view f4) (Rect.unit (s := S1x1024) ![0, 0] S1x1024.size inb_S1x1024_S1x1024_0_0)) (View.ld (View.read (Elt F) arg6.view f5) (Rect.unit (s := S1024x1024) ![0, 0] S1024x1024.size inb_S1024x1024_S1024x1024_0_0)) = _
    rw [ld_row, ld_row, ld_row, ld_mat, ld_norm, ld_mat]
  isplitl [H12]
  · iexists _; isplitr
    swap; · iexact H12
    ipureintro
    refine (View.read_writes_full _ _ inb_S1x1024x256_S1x1024x256_0_0_0 _ []).trans ?_
    show k0_pay6 (k0_pay4 (View.ld (View.read (Elt F) arg2.view f1) (Rect.unit (s := S256x1024) ![0, 0] S256x1024.size inb_S256x1024_S256x1024_0_0)) (View.ld (View.read (Elt F) arg1.view f0) (Rect.unit (s := S256x1024) ![0, 0] S256x1024.size inb_S256x1024_S256x1024_0_0)) (View.ld (View.read (Elt F) arg3.view f2) (Rect.unit (s := S256x1024) ![0, 0] S256x1024.size inb_S256x1024_S256x1024_0_0)) (View.ld (View.read (Elt F) arg4.view f3) (Rect.unit (s := S1024x1024) ![0, 0] S1024x1024.size inb_S1024x1024_S1024x1024_0_0)) (View.ld (View.read (Elt F) arg5.view f4) (Rect.unit (s := S1x1024) ![0, 0] S1x1024.size inb_S1x1024_S1x1024_0_0))) (View.ld (View.read (Elt F) arg7.view f6) (Rect.unit (s := S1024x1024) ![0, 0] S1024x1024.size inb_S1024x1024_S1024x1024_0_0)) = _
    rw [ld_row, ld_row, ld_row, ld_mat, ld_norm, ld_mat]
  isplitl [H13]
  · iexists _; isplitr
    swap; · iexact H13
    ipureintro
    refine (View.read_writes_eq_canon _ _ _ (stores_cover _ _)).trans ((stores_eq _ _).trans ?_)
    show tiles (k0_pay7 (k0_pay4 (View.ld (View.read (Elt F) arg2.view f1) (Rect.unit (s := S256x1024) ![0, 0] S256x1024.size inb_S256x1024_S256x1024_0_0)) (View.ld (View.read (Elt F) arg1.view f0) (Rect.unit (s := S256x1024) ![0, 0] S256x1024.size inb_S256x1024_S256x1024_0_0)) (View.ld (View.read (Elt F) arg3.view f2) (Rect.unit (s := S256x1024) ![0, 0] S256x1024.size inb_S256x1024_S256x1024_0_0)) (View.ld (View.read (Elt F) arg4.view f3) (Rect.unit (s := S1024x1024) ![0, 0] S1024x1024.size inb_S1024x1024_S1024x1024_0_0)) (View.ld (View.read (Elt F) arg5.view f4) (Rect.unit (s := S1x1024) ![0, 0] S1x1024.size inb_S1x1024_S1x1024_0_0))) (View.ld (View.read (Elt F) arg8.view f7) (Rect.unit (s := S1024x1024) ![0, 0] S1024x1024.size inb_S1024x1024_S1024x1024_0_0))) = _
    rw [ld_row, ld_row, ld_row, ld_mat, ld_norm, ld_mat]
  isplitl [H14]
  · iexists _; isplitr
    swap; · iexact H14
    ipureintro
    refine (View.read_writes_full _ _ inb_S1x1024x256_S1x1024x256_0_0_0 _ []).trans ?_
    show k0_pay1 (k0_pay4 (View.ld (View.read (Elt F) arg2.view f1) (Rect.unit (s := S256x1024) ![0, 0] S256x1024.size inb_S256x1024_S256x1024_0_0)) (View.ld (View.read (Elt F) arg1.view f0) (Rect.unit (s := S256x1024) ![0, 0] S256x1024.size inb_S256x1024_S256x1024_0_0)) (View.ld (View.read (Elt F) arg3.view f2) (Rect.unit (s := S256x1024) ![0, 0] S256x1024.size inb_S256x1024_S256x1024_0_0)) (View.ld (View.read (Elt F) arg4.view f3) (Rect.unit (s := S1024x1024) ![0, 0] S1024x1024.size inb_S1024x1024_S1024x1024_0_0)) (View.ld (View.read (Elt F) arg5.view f4) (Rect.unit (s := S1x1024) ![0, 0] S1x1024.size inb_S1x1024_S1x1024_0_0))) (View.ld (View.read (Elt F) arg9.view f8) (Rect.unit (s := S1024x1024) ![0, 0] S1024x1024.size inb_S1024x1024_S1024x1024_0_0)) = _
    rw [ld_row, ld_row, ld_row, ld_mat, ld_norm, ld_mat]
  iexists _; isplitr
  swap; · iexact H15
  ipureintro
  refine (View.read_writes_full _ _ inb_S256x1024_S256x1024_0_0 _ []).trans ?_
  show k0_pay2 (k0_pay4 (View.ld (View.read (Elt F) arg2.view f1) (Rect.unit (s := S256x1024) ![0, 0] S256x1024.size inb_S256x1024_S256x1024_0_0)) (View.ld (View.read (Elt F) arg1.view f0) (Rect.unit (s := S256x1024) ![0, 0] S256x1024.size inb_S256x1024_S256x1024_0_0)) (View.ld (View.read (Elt F) arg3.view f2) (Rect.unit (s := S256x1024) ![0, 0] S256x1024.size inb_S256x1024_S256x1024_0_0)) (View.ld (View.read (Elt F) arg4.view f3) (Rect.unit (s := S1024x1024) ![0, 0] S1024x1024.size inb_S1024x1024_S1024x1024_0_0)) (View.ld (View.read (Elt F) arg5.view f4) (Rect.unit (s := S1x1024) ![0, 0] S1x1024.size inb_S1x1024_S1x1024_0_0))) (View.ld (View.read (Elt F) arg10.view f9) (Rect.unit (s := S1024x1024) ![0, 0] S1024x1024.size inb_S1024x1024_S1024x1024_0_0)) = _
  rw [ld_row, ld_row, ld_row, ld_mat, ld_norm, ld_mat]

variable (m : (ℓ : Loc nD τ sig) → Buf (Elt F) ℓ) (ρ : Dev nD → PrngReg)

/-- The proof data: the arrays as found, each input's buffer at its block, each result's at the body's of them. -/
def dats (_p : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => k0_pay3 (iblk m c 1 t) (iblk m c 0 t) (iblk m c 2 t) (iblk m c 3 t)
    | 11 => k0_pay5 (iblk m c 1 t) (iblk m c 0 t) (iblk m c 2 t) (iblk m c 3 t) (iblk m c 4 t) (iblk m c 5 t)
    | 12 => k0_pay6 (k0_pay4 (iblk m c 1 t) (iblk m c 0 t) (iblk m c 2 t) (iblk m c 3 t) (iblk m c 4 t)) (iblk m c 6 t)
    | 13 => tiles (k0_pay7 (k0_pay4 (iblk m c 1 t) (iblk m c 0 t) (iblk m c 2 t) (iblk m c 3 t) (iblk m c 4 t)) (iblk m c 7 t))
    | 14 => k0_pay1 (k0_pay4 (iblk m c 1 t) (iblk m c 0 t) (iblk m c 2 t) (iblk m c 3 t) (iblk m c 4 t)) (iblk m c 8 t)
    | 15 => k0_pay2 (k0_pay4 (iblk m c 1 t) (iblk m c 0 t) (iblk m c 2 t) (iblk m c 3 t) (iblk m c 4 t)) (iblk m c 9 t)
    | ⟨n + 16, h⟩ => absurd (show n + 16 < 16 from h) (Nat.not_lt_of_le (Nat.le_add_left 16 n))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = k0_pay3 (iblk m c 1 t) (iblk m c 0 t) (iblk m c 2 t) (iblk m c 3 t) := by dsimp only [dats]
theorem after_11 (c : Dev nD) (t : Fin cfg0.N) : (dats m 0 c).after 11 t = k0_pay5 (iblk m c 1 t) (iblk m c 0 t) (iblk m c 2 t) (iblk m c 3 t) (iblk m c 4 t) (iblk m c 5 t) := by dsimp only [dats]
theorem after_12 (c : Dev nD) (t : Fin cfg0.N) : (dats m 0 c).after 12 t = k0_pay6 (k0_pay4 (iblk m c 1 t) (iblk m c 0 t) (iblk m c 2 t) (iblk m c 3 t) (iblk m c 4 t)) (iblk m c 6 t) := by dsimp only [dats]
theorem after_13 (c : Dev nD) (t : Fin cfg0.N) : (dats m 0 c).after 13 t = tiles (k0_pay7 (k0_pay4 (iblk m c 1 t) (iblk m c 0 t) (iblk m c 2 t) (iblk m c 3 t) (iblk m c 4 t)) (iblk m c 7 t)) := by dsimp only [dats]
theorem after_14 (c : Dev nD) (t : Fin cfg0.N) : (dats m 0 c).after 14 t = k0_pay1 (k0_pay4 (iblk m c 1 t) (iblk m c 0 t) (iblk m c 2 t) (iblk m c 3 t) (iblk m c 4 t)) (iblk m c 8 t) := by dsimp only [dats]
theorem after_15 (c : Dev nD) (t : Fin cfg0.N) : (dats m 0 c).after 15 t = k0_pay2 (k0_pay4 (iblk m c 1 t) (iblk m c 0 t) (iblk m c 2 t) (iblk m c 3 t) (iblk m c 4 t)) (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is handed at a point, and what it leaves. -/
def bodyPre (c : Dev nD) (t : Fin cfg0.N) : sProp 𝕄G :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d))
    ∗ (∃ d, owns (c : Thread nD τ) ((cfg0.win 15).stage (cfg0.slots t 15)) fullShare ((dats m 0 c).before 15 t d)))
def bodyPost (c : Dev nD) (t : Fin cfg0.N) : sProp 𝕄G :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t)
    ∗ owns (c : Thread nD τ) ((cfg0.win 11).stage (cfg0.slots t 11)) fullShare ((dats m 0 c).after 11 t)
    ∗ owns (c : Thread nD τ) ((cfg0.win 12).stage (cfg0.slots t 12)) fullShare ((dats m 0 c).after 12 t)
    ∗ owns (c : Thread nD τ) ((cfg0.win 13).stage (cfg0.slots t 13)) fullShare ((dats m 0 c).after 13 t)
    ∗ owns (c : Thread nD τ) ((cfg0.win 14).stage (cfg0.slots t 14)) fullShare ((dats m 0 c).after 14 t)
    ∗ owns (c : Thread nD τ) ((cfg0.win 15).stage (cfg0.slots t 15)) fullShare ((dats m 0 c).after 15 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- From any memory with zero counters the program ends, every array at what the data compute, every counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main m ρ)

/-- The arguments end as they were, and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (post m ρ)) ((θ_run defs _ _).mono (fun _ h => h.2) (run_main m ρ))

end Cert.Kernel4Ideal.Hand
end
-- ==== Proof.K4I.Frame.lean ====
/- The two texts of the second layer's projection are one program, so its run over the words is the idealized text's. -/
module

public import proofs.«01_k».proof.Defs
public import proofs.«01_k».proof.Proof.K4I.Run
public import proofs.«01_k».proof.Proof.Gen.Kernel4

@[expose] public section

set_option maxRecDepth 16384
set_option maxHeartbeats 4000000

noncomputable section

namespace Cert.Proj
open Idealize.ShloMosaic Idealize.ShloMosaic.TcCoe Idealize.SL.Sem

/-- The two body tables are the same. -/
theorem bodies_eq : @Cert.Kernel4.defs₀ Bits _ _ = @Cert.Kernel4Ideal.defs₀ Bits _ _ :=
  congrArg Defs.onTc (funext fun l => funext fun a => by
    match l, a with
    | 0, (t, s) => rfl
    | ⟨_ + 1, h⟩, _ => exact absurd h (Nat.not_lt.2 (Nat.le_add_left _ _)))

theorem defs_eq : Cert.Kernel4.defs (F := Bits) = Cert.Kernel4Ideal.defs (F := Bits) :=
  congrArg (Pipeline.defs (Cert.Kernel4.pcfgs (F := Bits))) bodies_eq

/-- The two host programs are the same. -/
theorem main_eq : Cert.Kernel4.main (F := Bits) = Cert.Kernel4Ideal.main (F := Bits) := rfl

/-- The second layer's projection ends with its arguments as they were and every counter at zero. -/
theorem frame4 : Cert.quiescent_Kernel4 := fun m ρ _ => by
  rw [defs_eq, main_eq]
  exact Cert.Kernel4Ideal.Hand.ends (F := Bits) m ρ

end Cert.Proj
end
-- ==== Proof.Proj4.lean ====
/- The second layer's input projection with the first layer's branch over the reals: the run's arrays are the reference's. -/
module

public import proofs.«01_k».proof.Proof.Proj
public import proofs.«01_k».proof.Defs
public import proofs.«01_k».proof.Proof.K4I.Run
public import proofs.«01_k».proof.Proof.Gen.Reference4Ideal.Run
public import Idealize.ShloMosaic.Lib.Pipeline.ValueKit
public import Idealize.ShloMosaic.Lib.Claim
public import Idealize.ShloMosaic.Lib.Pointwise

@[expose] public section

set_option maxRecDepth 16384

noncomputable section

namespace Cert.Reference4Ideal.Hand
open Cert.Reference4Ideal Cert.Reference4Ideal.Gen Cert.Reference4Ideal.Value
open Idealize.ShloMosaic Idealize.ShloMosaic.TcCoe Idealize.SL.Sem

/-- The stream with the gated branch added. -/
def mixed {F : FTy → Type} [FloatOps F] (o z x : FVec F S2x8192x1024 .f32) (w : FVec F S1x1024x1024 .f32) : FVec F S2x8192x1024 .f32 :=
  addf x (Host.dotGeneral dot_S2x8192x1024_S1024x1024_S2x8192x1024_2_0_01_1_n_n none
    (mulf o (mulf z (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf z))))))
    (shapeCast S1024x1024 w shapeCasts_S1x1024x1024_S1024x1024))

theorem mixed_apply (o z x : FVec Ideal S2x8192x1024 .f32) (w : FVec Ideal S1x1024x1024 .f32) (b : Fin 2) (p : Fin 8192) (n : Fin 1024) :
    mixed o z x w (ix3 b p n) = Proj.mix (fun k => o (ix3 b p k)) (fun k => z (ix3 b p k)) (fun k => x (ix3 b p k)) (fun k n => w (ix3 0 k n)) n := by
  unfold mixed Proj.mix
  pointwise
  simp only [Ideal.mul_one_div (Proj.gate_ne _)]

/-- The projected rows, the four parts side by side. -/
def proj {F : FTy → Type} [FloatOps F] (x : FVec F S2x8192x1024 .f32) (g : FVec F S1x1024 .f32) (w : FVec F S1x1024x4096 .f32) : FVec F S2x8192x4096 .f32 :=
  Host.dotGeneral dot_S2x8192x1024_S1024x4096_S2x8192x4096_2_0_01_1_n_n none
    (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 (shapeCast S1024 g shapeCasts_S1x1024_S1024))))
    (shapeCast S1024x4096 w shapeCasts_S1x1024x4096_S1024x4096)

theorem proj_apply (x : FVec Ideal S2x8192x1024 .f32) (g : FVec Ideal S1x1024 .f32) (w : FVec Ideal S1x1024x4096 .f32) (b : Fin 2) (p : Fin 8192) (n : Fin 4096) :
    proj x g w (ix3 b p n) = ∑ k, Proj.rms (fun k => x (ix3 b p k)) (fun k => g (ix2 0 k)) k * w (ix3 0 k n) := by
  unfold proj Proj.rms
  pointwise
/-- The stream with the branch, row by row. -/
def outX {F : FTy → Type} [FloatOps F] (y : FVec F S2x8192x1024 .f32) : FVec F S16384x1024 .f32 :=
  shapeCast S16384x1024 y shapeCasts_S2x8192x1024_S16384x1024
/-- The queries, row by row. -/
def outQ {F : FTy → Type} [FloatOps F] (y : FVec F S2x8192x4096 .f32) : FVec F S16384x1024 .f32 :=
  shapeCast S16384x1024 (extractStridedSlice S2x8192x1024 ![0, 0, 0] y slices_S2x8192x4096_S2x8192x1024_0_0_0) shapeCasts_S2x8192x1024_S16384x1024
/-- The keys, layer by layer, per head. -/
def outK {F : FTy → Type} [FloatOps F] (y : FVec F S2x8192x4096 .f32) : FVec F S1x2x8192x8x2x64 .f32 :=
  broadcastInDim S1x2x8192x8x2x64 ![1, 2, 3, 4, 5] bcast_S2x8192x8x2x64_S1x2x8192x8x2x64_1_2_3_4_5 (shapeCast S2x8192x8x2x64 (extractStridedSlice S2x8192x1024 ![0, 0, 1024] y slices_S2x8192x4096_S2x8192x1024_0_0_1024) shapeCasts_S2x8192x1024_S2x8192x8x2x64)
/-- The values, layer by layer, per head. -/
def outV {F : FTy → Type} [FloatOps F] (y : FVec F S2x8192x4096 .f32) : FVec F S1x2x8192x8x128 .f32 :=
  broadcastInDim S1x2x8192x8x128 ![1, 2, 3, 4] bcast_S2x8192x8x128_S1x2x8192x8x128_1_2_3_4 (shapeCast S2x8192x8x128 (extractStridedSlice S2x8192x1024 ![0, 0, 2048] y slices_S2x8192x4096_S2x8192x1024_0_0_2048) shapeCasts_S2x8192x1024_S2x8192x8x128)
/-- The values' columns. -/
def outC {F : FTy → Type} [FloatOps F] (y : FVec F S2x8192x4096 .f32) : FVec F S2x1024x8192 .f32 :=
  transpose S2x1024x8192 [0, 2, 1] (extractStridedSlice S2x8192x1024 ![0, 0, 2048] y slices_S2x8192x4096_S2x8192x1024_0_0_2048) transposes_S2x8192x1024_S2x1024x8192_0_2_1
/-- The gates, row by row. -/
def outZ {F : FTy → Type} [FloatOps F] (y : FVec F S2x8192x4096 .f32) : FVec F S16384x1024 .f32 :=
  shapeCast S16384x1024 (extractStridedSlice S2x8192x1024 ![0, 0, 3072] y slices_S2x8192x4096_S2x8192x1024_0_0_3072) shapeCasts_S2x8192x1024_S16384x1024

section points
variable (y : FVec Ideal S2x8192x4096 .f32) (b : Fin 2) (p : Fin 8192) (n : Fin 1024)

theorem outX_apply (y : FVec Ideal S2x8192x1024 .f32) (R : Fin 16384) (hR : R.val = 8192 * b.val + p.val) : outX y (ix2 R n) = y (ix3 b p n) := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  unfold outX
  pointwise
  rw [h1, h2]
theorem outQ_apply (R : Fin 16384) (hR : R.val = 8192 * b.val + p.val) : outQ y (ix2 R n) = y (ix3 b p (Proj.part0 n)) := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  unfold outQ
  pointwise
  rw [h1, h2]
theorem outZ_apply (R : Fin 16384) (hR : R.val = 8192 * b.val + p.val) : outZ y (ix2 R n) = y (ix3 b p (Proj.part3 n)) := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  unfold outZ
  pointwise
  rw [h1, h2]
theorem outK_apply (h : Fin 8) (e : Fin 2) (d : Fin 64) : outK y (ix6 0 b p h e d) = y (ix3 b p (Proj.part1 ⟨h.val * 128 + e.val * 64 + d.val, by omega⟩)) := by
  unfold outK
  pointwise
theorem outV_apply (h : Fin 8) (d : Fin 128) : outV y (ix5 0 b p h d) = y (ix3 b p (Proj.part2 ⟨h.val * 128 + d.val, by omega⟩)) := by
  unfold outV
  pointwise
theorem outC_apply : outC y (ix3 b n p) = y (ix3 b p (Proj.part2 n)) := by
  unfold outC
  pointwise
end points

end Cert.Reference4Ideal.Hand

namespace Cert.Kernel4Ideal.Hand
open Cert.Kernel4Ideal Cert.Kernel4Ideal.Gen
open Idealize.ShloMosaic Idealize.ShloMosaic.TcCoe Idealize.SL.Sem

theorem pay3_apply (z o x : Vec Ideal S256x1024 .f32) (w : Vec Ideal S1024x1024 .bf16) (a : Fin 256) (n : Fin 1024) :
    k0_pay3 z o x w (ix2 a n) = Proj.mix (fun k => o (ix2 a k)) (fun k => z (ix2 a k)) (fun k => x (ix2 a k)) (fun k n => w (ix2 k n)) n := by
  unfold Proj.mix
  pointwise [k0_pay3]
  simp only [zero_sub]

theorem pay4_apply (z o x : Vec Ideal S256x1024 .f32) (w : Vec Ideal S1024x1024 .bf16) (g : Vec Ideal S1x1024 .f32) (a : Fin 256) (n : Fin 1024) :
    k0_pay4 z o x w g (ix2 a n) = Proj.rms (fun k => k0_pay3 z o x w (ix2 a k)) (fun k => g (ix2 0 k)) n := by
  unfold Proj.rms
  pointwise [k0_pay4]

theorem pay5_apply (z o x : Vec Ideal S256x1024 .f32) (w : Vec Ideal S1024x1024 .bf16) (g : Vec Ideal S1x1024 .f32) (v : Vec Ideal S1024x1024 .bf16) (a : Fin 256) (n : Fin 1024) :
    k0_pay5 z o x w g v (ix2 a n) = ∑ k, k0_pay4 z o x w g (ix2 a k) * v (ix2 k n) := by
  pointwise [k0_pay5]

theorem pay7_apply (x : FVec Ideal S256x1024 .bf16) (v : Vec Ideal S1024x1024 .bf16) (a : Fin 256) (n : Fin 1024) :
    k0_pay7 x v (ix2 a n) = ∑ k, x (ix2 a k) * v (ix2 k n) := by
  pointwise [k0_pay7]

theorem pay2_apply (x : FVec Ideal S256x1024 .bf16) (v : Vec Ideal S1024x1024 .bf16) (a : Fin 256) (n : Fin 1024) :
    k0_pay2 x v (ix2 a n) = ∑ k, x (ix2 a k) * v (ix2 k n) := by
  pointwise [k0_pay2]

theorem pay6_apply (x : FVec Ideal S256x1024 .bf16) (v : Vec Ideal S1024x1024 .bf16) (a : Fin 256) (n : Fin 1024) :
    k0_pay6 x v (ix3 0 n a) = ∑ k, x (ix2 a k) * v (ix2 n k) := by
  pointwise [k0_pay6]
  exact Finset.sum_congr rfl fun k _ => mul_comm _ _

theorem pay1_apply (x : FVec Ideal S256x1024 .bf16) (v : Vec Ideal S1024x1024 .bf16) (a : Fin 256) (n : Fin 1024) :
    k0_pay1 x v (ix3 0 n a) = ∑ k, x (ix2 a k) * v (ix2 n k) := by
  pointwise [k0_pay1]
  exact Finset.sum_congr rfl fun k _ => mul_comm _ _

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![t.val, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, 0] := by decide +kernel
theorem index8 : ∀ t : Fin cfg0.N, (cfg0.win 8).index t = ![0, 0] := by decide +kernel
theorem index9 : ∀ t : Fin cfg0.N, (cfg0.win 9).index t = ![0, 0] := by decide +kernel
theorem index10 : ∀ t : Fin cfg0.N, (cfg0.win 10).index t = ![t.val, 0] := by decide +kernel
theorem index11 : ∀ t : Fin cfg0.N, (cfg0.win 11).index t = ![t.val, 0] := by decide +kernel
theorem index12 : ∀ t : Fin cfg0.N, (cfg0.win 12).index t = ![t.val / 32, 0, t.val % 32] := by decide +kernel
theorem index13 : ∀ t : Fin cfg0.N, (cfg0.win 13).index t = ![t.val, 0] := by decide +kernel
theorem index14 : ∀ t : Fin cfg0.N, (cfg0.win 14).index t = ![t.val / 32, 0, t.val % 32] := by decide +kernel
theorem index15 : ∀ t : Fin cfg0.N, (cfg0.win 15).index t = ![t.val, 0] := by decide +kernel

variable (m : (ℓ : Loc nD τ sig) → Buf (Elt Ideal) ℓ) (c : Dev nD)

/-- Argument 0. -/
abbrev argo : FVec Ideal S2x8192x1024 .f32 := m ((c.tc : Thread nD τ).loc main_arg0)
/-- Argument 1. -/
abbrev argz : FVec Ideal S2x8192x1024 .f32 := m ((c.tc : Thread nD τ).loc main_arg1)
/-- Argument 2. -/
abbrev argx : FVec Ideal S2x8192x1024 .f32 := m ((c.tc : Thread nD τ).loc main_arg2)
/-- Argument 3. -/
abbrev argw : FVec Ideal S1x1024x1024 .f32 := m ((c.tc : Thread nD τ).loc main_arg3)
/-- Argument 4. -/
abbrev argg : FVec Ideal S1x1024 .f32 := m ((c.tc : Thread nD τ).loc main_arg4)
/-- Argument 5. -/
abbrev argi : FVec Ideal S1x1024x4096 .f32 := m ((c.tc : Thread nD τ).loc main_arg5)

theorem Vo : V m c main_v0 = shapeCast S16384x1024 (argo m c) shapeCasts_S2x8192x1024_S16384x1024 := by
  entry_read
  rfl
theorem Vz : V m c main_v1 = shapeCast S16384x1024 (argz m c) shapeCasts_S2x8192x1024_S16384x1024 := by
  entry_read
  rfl
theorem Vx : V m c main_v2 = shapeCast S16384x1024 (argx m c) shapeCasts_S2x8192x1024_S16384x1024 := by
  entry_read
  rfl
theorem Vw : V m c main_v6 = truncf (F := Ideal) .bf16 (shapeCast S1024x1024 (argw m c) shapeCasts_S1x1024x1024_S1024x1024) bitsLt_bf16_f32 := by
  entry_read
  rfl
theorem Vg : V m c main_v7 = shapeCast S1x1024 (shapeCast S1024 (argg m c) shapeCasts_S1x1024_S1024) shapeCasts_S1024_S1x1024 := by
  entry_read
  rfl
theorem Vi0 : V m c main_v9 = truncf (F := Ideal) .bf16 (extractStridedSlice S1024x1024 ![0, 0] (shapeCast S1024x4096 (argi m c) shapeCasts_S1x1024x4096_S1024x4096) slices_S1024x4096_S1024x1024_0_0) bitsLt_bf16_f32 := by
  entry_read
  rfl
theorem Vi1 : V m c main_v12 = transpose S1024x1024 [1, 0] (truncf (F := Ideal) .bf16 (extractStridedSlice S1024x1024 ![0, 1024] (shapeCast S1024x4096 (argi m c) shapeCasts_S1x1024x4096_S1024x4096) slices_S1024x4096_S1024x1024_0_1024) bitsLt_bf16_f32) transposes_S1024x1024_S1024x1024_1_0 := by
  entry_read
  rfl
theorem Vi2 : V m c main_v14 = truncf (F := Ideal) .bf16 (extractStridedSlice S1024x1024 ![0, 2048] (shapeCast S1024x4096 (argi m c) shapeCasts_S1x1024x4096_S1024x4096) slices_S1024x4096_S1024x1024_0_2048) bitsLt_bf16_f32 := by
  entry_read
  rfl
theorem Vi3 : V m c main_v17 = transpose S1024x1024 [1, 0] (truncf (F := Ideal) .bf16 (extractStridedSlice S1024x1024 ![0, 2048] (shapeCast S1024x4096 (argi m c) shapeCasts_S1x1024x4096_S1024x4096) slices_S1024x4096_S1024x1024_0_2048) bitsLt_bf16_f32) transposes_S1024x1024_S1024x1024_1_0 := by
  entry_read
  rfl
theorem Vi4 : V m c main_v19 = truncf (F := Ideal) .bf16 (extractStridedSlice S1024x1024 ![0, 3072] (shapeCast S1024x4096 (argi m c) shapeCasts_S1x1024x4096_S1024x4096) slices_S1024x4096_S1024x1024_0_3072) bitsLt_bf16_f32 := by
  entry_read
  rfl

theorem emb0 (t : Fin cfg0.N) (a : Fin 256) (k : Fin 1024) (R : Fin 16384) (hR : R.val = 256 * t.val + a.val) : ((cfg0.win 0).blk t).view.emb (ix2 a k) = ix2 R k := by
  refine funext fun x => Fin.ext ?_
  match x with
  | 0 => exact (Pipeline.Window.rect_emb_val (cfg0.win 0) t (ix2 a k) 0).trans (by rw [index0]; show t.val * 256 + a.val = R.val; omega)
  | 1 => exact (Pipeline.Window.rect_emb_val (cfg0.win 0) t (ix2 a k) 1).trans (by rw [index0]; show 0 * 1024 + k.val = k.val; omega)
theorem emb1 (t : Fin cfg0.N) (a : Fin 256) (k : Fin 1024) (R : Fin 16384) (hR : R.val = 256 * t.val + a.val) : ((cfg0.win 1).blk t).view.emb (ix2 a k) = ix2 R k := by
  refine funext fun x => Fin.ext ?_
  match x with
  | 0 => exact (Pipeline.Window.rect_emb_val (cfg0.win 1) t (ix2 a k) 0).trans (by rw [index1]; show t.val * 256 + a.val = R.val; omega)
  | 1 => exact (Pipeline.Window.rect_emb_val (cfg0.win 1) t (ix2 a k) 1).trans (by rw [index1]; show 0 * 1024 + k.val = k.val; omega)
theorem emb2 (t : Fin cfg0.N) (a : Fin 256) (k : Fin 1024) (R : Fin 16384) (hR : R.val = 256 * t.val + a.val) : ((cfg0.win 2).blk t).view.emb (ix2 a k) = ix2 R k := by
  refine funext fun x => Fin.ext ?_
  match x with
  | 0 => exact (Pipeline.Window.rect_emb_val (cfg0.win 2) t (ix2 a k) 0).trans (by rw [index2]; show t.val * 256 + a.val = R.val; omega)
  | 1 => exact (Pipeline.Window.rect_emb_val (cfg0.win 2) t (ix2 a k) 1).trans (by rw [index2]; show 0 * 1024 + k.val = k.val; omega)
theorem emb3 (t : Fin cfg0.N) (a b : Fin 1024) : ((cfg0.win 3).blk t).view.emb (ix2 a b) = ix2 a b := by
  refine funext fun x => Fin.ext ?_
  match x with
  | 0 => exact (Pipeline.Window.rect_emb_val (cfg0.win 3) t (ix2 a b) 0).trans (by rw [index3]; show 0 * 1024 + a.val = a.val; omega)
  | 1 => exact (Pipeline.Window.rect_emb_val (cfg0.win 3) t (ix2 a b) 1).trans (by rw [index3]; show 0 * 1024 + b.val = b.val; omega)
theorem emb4 (t : Fin cfg0.N) (k : Fin 1024) : ((cfg0.win 4).blk t).view.emb (ix2 0 k) = ix2 0 k := by
  refine funext fun x => Fin.ext ?_
  match x with
  | 0 => exact (Pipeline.Window.rect_emb_val (cfg0.win 4) t (ix2 0 k) 0).trans (by rw [index4]; rfl)
  | 1 => exact (Pipeline.Window.rect_emb_val (cfg0.win 4) t (ix2 0 k) 1).trans (by rw [index4]; show 0 * 1024 + k.val = k.val; omega)
theorem emb5 (t : Fin cfg0.N) (a b : Fin 1024) : ((cfg0.win 5).blk t).view.emb (ix2 a b) = ix2 a b := by
  refine funext fun x => Fin.ext ?_
  match x with
  | 0 => exact (Pipeline.Window.rect_emb_val (cfg0.win 5) t (ix2 a b) 0).trans (by rw [index5]; show 0 * 1024 + a.val = a.val; omega)
  | 1 => exact (Pipeline.Window.rect_emb_val (cfg0.win 5) t (ix2 a b) 1).trans (by rw [index5]; show 0 * 1024 + b.val = b.val; omega)
theorem emb6 (t : Fin cfg0.N) (a b : Fin 1024) : ((cfg0.win 6).blk t).view.emb (ix2 a b) = ix2 a b := by
  refine funext fun x => Fin.ext ?_
  match x with
  | 0 => exact (Pipeline.Window.rect_emb_val (cfg0.win 6) t (ix2 a b) 0).trans (by rw [index6]; show 0 * 1024 + a.val = a.val; omega)
  | 1 => exact (Pipeline.Window.rect_emb_val (cfg0.win 6) t (ix2 a b) 1).trans (by rw [index6]; show 0 * 1024 + b.val = b.val; omega)
theorem emb7 (t : Fin cfg0.N) (a b : Fin 1024) : ((cfg0.win 7).blk t).view.emb (ix2 a b) = ix2 a b := by
  refine funext fun x => Fin.ext ?_
  match x with
  | 0 => exact (Pipeline.Window.rect_emb_val (cfg0.win 7) t (ix2 a b) 0).trans (by rw [index7]; show 0 * 1024 + a.val = a.val; omega)
  | 1 => exact (Pipeline.Window.rect_emb_val (cfg0.win 7) t (ix2 a b) 1).trans (by rw [index7]; show 0 * 1024 + b.val = b.val; omega)
theorem emb8 (t : Fin cfg0.N) (a b : Fin 1024) : ((cfg0.win 8).blk t).view.emb (ix2 a b) = ix2 a b := by
  refine funext fun x => Fin.ext ?_
  match x with
  | 0 => exact (Pipeline.Window.rect_emb_val (cfg0.win 8) t (ix2 a b) 0).trans (by rw [index8]; show 0 * 1024 + a.val = a.val; omega)
  | 1 => exact (Pipeline.Window.rect_emb_val (cfg0.win 8) t (ix2 a b) 1).trans (by rw [index8]; show 0 * 1024 + b.val = b.val; omega)
theorem emb9 (t : Fin cfg0.N) (a b : Fin 1024) : ((cfg0.win 9).blk t).view.emb (ix2 a b) = ix2 a b := by
  refine funext fun x => Fin.ext ?_
  match x with
  | 0 => exact (Pipeline.Window.rect_emb_val (cfg0.win 9) t (ix2 a b) 0).trans (by rw [index9]; show 0 * 1024 + a.val = a.val; omega)
  | 1 => exact (Pipeline.Window.rect_emb_val (cfg0.win 9) t (ix2 a b) 1).trans (by rw [index9]; show 0 * 1024 + b.val = b.val; omega)
theorem emb10 (t : Fin cfg0.N) (a : Fin 256) (k : Fin 1024) (R : Fin 16384) (hR : R.val = 256 * t.val + a.val) : ((cfg0.win 10).blk t).view.emb (ix2 a k) = ix2 R k := by
  refine funext fun x => Fin.ext ?_
  match x with
  | 0 => exact (Pipeline.Window.rect_emb_val (cfg0.win 10) t (ix2 a k) 0).trans (by rw [index10]; show t.val * 256 + a.val = R.val; omega)
  | 1 => exact (Pipeline.Window.rect_emb_val (cfg0.win 10) t (ix2 a k) 1).trans (by rw [index10]; show 0 * 1024 + k.val = k.val; omega)
theorem emb11 (t : Fin cfg0.N) (a : Fin 256) (k : Fin 1024) (R : Fin 16384) (hR : R.val = 256 * t.val + a.val) : ((cfg0.win 11).blk t).view.emb (ix2 a k) = ix2 R k := by
  refine funext fun x => Fin.ext ?_
  match x with
  | 0 => exact (Pipeline.Window.rect_emb_val (cfg0.win 11) t (ix2 a k) 0).trans (by rw [index11]; show t.val * 256 + a.val = R.val; omega)
  | 1 => exact (Pipeline.Window.rect_emb_val (cfg0.win 11) t (ix2 a k) 1).trans (by rw [index11]; show 0 * 1024 + k.val = k.val; omega)
theorem emb12 (t : Fin cfg0.N) (a : Fin 256) (k : Fin 1024) (b : Fin 2) (p : Fin 8192) (h : 8192 * b.val + p.val = 256 * t.val + a.val) : ((cfg0.win 12).blk t).view.emb (ix3 0 k a) = ix3 b k p := by
  refine funext fun x => Fin.ext ?_
  match x with
  | 0 => exact (Pipeline.Window.rect_emb_val (cfg0.win 12) t (ix3 0 k a) 0).trans (by rw [index12]; show t.val / 32 * 1 + 0 = b.val; omega)
  | 1 => exact (Pipeline.Window.rect_emb_val (cfg0.win 12) t (ix3 0 k a) 1).trans (by rw [index12]; show 0 * 1024 + k.val = k.val; omega)
  | 2 => exact (Pipeline.Window.rect_emb_val (cfg0.win 12) t (ix3 0 k a) 2).trans (by rw [index12]; show t.val % 32 * 256 + a.val = p.val; omega)
theorem emb13 (t : Fin cfg0.N) (a : Fin 2048) (d : Fin 128) (R : Fin 131072) (hR : R.val = 2048 * t.val + a.val) : ((cfg0.win 13).blk t).view.emb (ix2 a d) = ix2 R d := by
  refine funext fun x => Fin.ext ?_
  match x with
  | 0 => exact (Pipeline.Window.rect_emb_val (cfg0.win 13) t (ix2 a d) 0).trans (by rw [index13]; show t.val * 2048 + a.val = R.val; omega)
  | 1 => exact (Pipeline.Window.rect_emb_val (cfg0.win 13) t (ix2 a d) 1).trans (by rw [index13]; show 0 * 128 + d.val = d.val; omega)
theorem emb14 (t : Fin cfg0.N) (a : Fin 256) (k : Fin 1024) (b : Fin 2) (p : Fin 8192) (h : 8192 * b.val + p.val = 256 * t.val + a.val) : ((cfg0.win 14).blk t).view.emb (ix3 0 k a) = ix3 b k p := by
  refine funext fun x => Fin.ext ?_
  match x with
  | 0 => exact (Pipeline.Window.rect_emb_val (cfg0.win 14) t (ix3 0 k a) 0).trans (by rw [index14]; show t.val / 32 * 1 + 0 = b.val; omega)
  | 1 => exact (Pipeline.Window.rect_emb_val (cfg0.win 14) t (ix3 0 k a) 1).trans (by rw [index14]; show 0 * 1024 + k.val = k.val; omega)
  | 2 => exact (Pipeline.Window.rect_emb_val (cfg0.win 14) t (ix3 0 k a) 2).trans (by rw [index14]; show t.val % 32 * 256 + a.val = p.val; omega)
theorem emb15 (t : Fin cfg0.N) (a : Fin 256) (k : Fin 1024) (R : Fin 16384) (hR : R.val = 256 * t.val + a.val) : ((cfg0.win 15).blk t).view.emb (ix2 a k) = ix2 R k := by
  refine funext fun x => Fin.ext ?_
  match x with
  | 0 => exact (Pipeline.Window.rect_emb_val (cfg0.win 15) t (ix2 a k) 0).trans (by rw [index15]; show t.val * 256 + a.val = R.val; omega)
  | 1 => exact (Pipeline.Window.rect_emb_val (cfg0.win 15) t (ix2 a k) 1).trans (by rw [index15]; show 0 * 1024 + k.val = k.val; omega)

theorem blk0 (t : Fin cfg0.N) (a : Fin 256) (k : Fin 1024) (b : Fin 2) (p : Fin 8192) (h : 8192 * b.val + p.val = 256 * t.val + a.val) :
    iblk m c 0 t (ix2 a k) = argo m c (ix3 b p k) := by
  refine (congrArg (V m c main_v0) (emb0 t a k ⟨8192 * b.val + p.val, by omega⟩ h)).trans ?_
  rw [Vo]
  pointwise
theorem blk1 (t : Fin cfg0.N) (a : Fin 256) (k : Fin 1024) (b : Fin 2) (p : Fin 8192) (h : 8192 * b.val + p.val = 256 * t.val + a.val) :
    iblk m c 1 t (ix2 a k) = argz m c (ix3 b p k) := by
  refine (congrArg (V m c main_v1) (emb1 t a k ⟨8192 * b.val + p.val, by omega⟩ h)).trans ?_
  rw [Vz]
  pointwise
theorem blk2 (t : Fin cfg0.N) (a : Fin 256) (k : Fin 1024) (b : Fin 2) (p : Fin 8192) (h : 8192 * b.val + p.val = 256 * t.val + a.val) :
    iblk m c 2 t (ix2 a k) = argx m c (ix3 b p k) := by
  refine (congrArg (V m c main_v2) (emb2 t a k ⟨8192 * b.val + p.val, by omega⟩ h)).trans ?_
  rw [Vx]
  pointwise
theorem blk3 (t : Fin cfg0.N) (k n : Fin 1024) : iblk m c 3 t (ix2 k n) = argw m c (ix3 0 k n) := by
  refine (congrArg (V m c main_v6) (emb3 t k n)).trans ?_
  rw [Vw]
  pointwise
theorem blk4 (t : Fin cfg0.N) (k : Fin 1024) : iblk m c 4 t (ix2 0 k) = argg m c (ix2 0 k) := by
  refine (congrArg (V m c main_v7) (emb4 t k)).trans ?_
  rw [Vg]
  pointwise
theorem blk5 (t : Fin cfg0.N) (k n : Fin 1024) : iblk m c 5 t (ix2 k n) = argi m c (ix3 0 k (Proj.part0 n)) := by
  refine (congrArg (V m c main_v9) (emb5 t _ _)).trans ?_
  rw [Vi0]
  pointwise
theorem blk6 (t : Fin cfg0.N) (k n : Fin 1024) : iblk m c 6 t (ix2 n k) = argi m c (ix3 0 k (Proj.part1 n)) := by
  refine (congrArg (V m c main_v12) (emb6 t _ _)).trans ?_
  rw [Vi1]
  pointwise
theorem blk7 (t : Fin cfg0.N) (k n : Fin 1024) : iblk m c 7 t (ix2 k n) = argi m c (ix3 0 k (Proj.part2 n)) := by
  refine (congrArg (V m c main_v14) (emb7 t _ _)).trans ?_
  rw [Vi2]
  pointwise
theorem blk8 (t : Fin cfg0.N) (k n : Fin 1024) : iblk m c 8 t (ix2 n k) = argi m c (ix3 0 k (Proj.part2 n)) := by
  refine (congrArg (V m c main_v17) (emb8 t _ _)).trans ?_
  rw [Vi3]
  pointwise
theorem blk9 (t : Fin cfg0.N) (k n : Fin 1024) : iblk m c 9 t (ix2 k n) = argi m c (ix3 0 k (Proj.part3 n)) := by
  refine (congrArg (V m c main_v19) (emb9 t _ _)).trans ?_
  rw [Vi4]
  pointwise

/-- The reference's stream with the branch added, of the run's arguments. -/
abbrev M : FVec Ideal Reference4Ideal.S2x8192x1024 .f32 := Reference4Ideal.Hand.mixed (F := Ideal) (argo m c) (argz m c) (argx m c) (argw m c)

/-- The reference's projected rows, of the run's arguments. -/
abbrev Y : FVec Ideal Reference4Ideal.S2x8192x4096 .f32 := Reference4Ideal.Hand.proj (F := Ideal) (M m c) (argg m c) (argi m c)

theorem Y_apply (b : Fin 2) (p : Fin 8192) (n : Fin 4096) :
    Y m c (ix3 b p n) = ∑ k, Proj.rms (fun k => M m c (ix3 b p k)) (fun k => argg m c (ix2 0 k)) k * argi m c (ix3 0 k n) :=
  Reference4Ideal.Hand.proj_apply _ _ _ b p n

/-- A point's rows with the branch. -/
theorem mix_blk (t : Fin cfg0.N) (a : Fin 256) (n : Fin 1024) (b : Fin 2) (p : Fin 8192) (h : 8192 * b.val + p.val = 256 * t.val + a.val) :
    k0_pay3 (iblk m c 1 t) (iblk m c 0 t) (iblk m c 2 t) (iblk m c 3 t) (ix2 a n) = M m c (ix3 b p n) := by
  refine (pay3_apply _ _ _ _ a n).trans (Eq.trans ?_ (Reference4Ideal.Hand.mixed_apply _ _ _ _ b p n).symm)
  rw [funext fun k => blk0 m c t a k b p h, funext fun k => blk1 m c t a k b p h, funext fun k => blk2 m c t a k b p h, funext fun k => funext fun n => blk3 m c t k n]

/-- A point's rows, normed. -/
theorem nrm_blk (t : Fin cfg0.N) (a : Fin 256) (n : Fin 1024) (b : Fin 2) (p : Fin 8192) (h : 8192 * b.val + p.val = 256 * t.val + a.val) :
    k0_pay4 (iblk m c 1 t) (iblk m c 0 t) (iblk m c 2 t) (iblk m c 3 t) (iblk m c 4 t) (ix2 a n) = Proj.rms (fun k => M m c (ix3 b p k)) (fun k => argg m c (ix2 0 k)) n := by
  refine (pay4_apply _ _ _ _ _ a n).trans ?_
  rw [funext fun k => mix_blk m c t a k b p h, funext fun k => blk4 m c t k]

/-- A part of the projected rows, row by row. -/
def rows (e : Fin 1024 → Fin 4096) (y : FVec Ideal Reference4Ideal.S2x8192x4096 .f32) : FVec Ideal S16384x1024 .f32 :=
  fun i => y (ix3 ⟨(i 0).val / 8192, by have h : (i 0).val < 16384 := (i 0).isLt; omega⟩ ⟨(i 0).val % 8192, by omega⟩ (e (i 1)))

theorem rows_apply (e : Fin 1024 → Fin 4096) (y : FVec Ideal Reference4Ideal.S2x8192x4096 .f32) (R : Fin 16384) (n : Fin 1024) (b : Fin 2) (p : Fin 8192) (hR : R.val = 8192 * b.val + p.val) :
    rows e y (ix2 R n) = y (ix3 b p (e n)) := by
  have h1 : (⟨R.val / 8192, by omega⟩ : Fin 2) = b := Fin.ext (by show R.val / 8192 = b.val; omega)
  have h2 : (⟨R.val % 8192, by omega⟩ : Fin 8192) = p := Fin.ext (by show R.val % 8192 = p.val; omega)
  show y (ix3 ⟨R.val / 8192, _⟩ ⟨R.val % 8192, _⟩ (e n)) = _
  rw [h1, h2]

theorem split (R : ℕ) (hR : R < 16384) : ∃ (b : Fin 2) (p : Fin 8192), 8192 * b.val + p.val = R :=
  ⟨⟨R / 8192, by omega⟩, ⟨R % 8192, by omega⟩, by show 8192 * (R / 8192) + R % 8192 = _; omega⟩

theorem outQ_rows (y : FVec Ideal Reference4Ideal.S2x8192x4096 .f32) : rows Proj.part0 y = Reference4Ideal.Hand.outQ (F := Ideal) y := by
  refine funext fun i => ?_
  obtain ⟨R, n, rfl⟩ : ∃ (R : Fin 16384) (n : Fin 1024), i = ix2 R n := ⟨i 0, i 1, eq_ix2 i⟩
  obtain ⟨b, p, h⟩ := split R.val R.isLt
  rw [rows_apply _ y R n b p h.symm, Reference4Ideal.Hand.outQ_apply y b p n R h.symm]

theorem outZ_rows (y : FVec Ideal Reference4Ideal.S2x8192x4096 .f32) : rows Proj.part3 y = Reference4Ideal.Hand.outZ (F := Ideal) y := by
  refine funext fun i => ?_
  obtain ⟨R, n, rfl⟩ : ∃ (R : Fin 16384) (n : Fin 1024), i = ix2 R n := ⟨i 0, i 1, eq_ix2 i⟩
  obtain ⟨b, p, h⟩ := split R.val R.isLt
  rw [rows_apply _ y R n b p h.symm, Reference4Ideal.Hand.outZ_apply y b p n R h.symm]

/-- A part of the projected rows, as columns. -/
def cols (e : Fin 1024 → Fin 4096) (y : FVec Ideal Reference4Ideal.S2x8192x4096 .f32) : FVec Ideal S2x1024x8192 .f32 := fun i => y (ix3 (i 0) (i 2) (e (i 1)))

theorem cols_apply (e : Fin 1024 → Fin 4096) (y : FVec Ideal Reference4Ideal.S2x8192x4096 .f32) (b : Fin 2) (n : Fin 1024) (p : Fin 8192) : cols e y (ix3 b n p) = y (ix3 b p (e n)) := rfl

/-- The values' part of the projected rows, head below head. -/
def heads8 (y : FVec Ideal Reference4Ideal.S2x8192x4096 .f32) : FVec Ideal S131072x128 .f32 := fun i =>
  y (ix3 ⟨(i 0).val / 8 / 8192, by have h : (i 0).val < 131072 := (i 0).isLt; omega⟩ ⟨(i 0).val / 8 % 8192, by omega⟩
    (Proj.part2 ⟨128 * ((i 0).val % 8) + (i 1).val, by have h : (i 1).val < 128 := (i 1).isLt; omega⟩))

theorem heads8_apply (y : FVec Ideal Reference4Ideal.S2x8192x4096 .f32) (R : Fin 131072) (d : Fin 128) (b : Fin 2) (p : Fin 8192) (h : Fin 8) (hR : R.val = (8192 * b.val + p.val) * 8 + h.val) :
    heads8 y (ix2 R d) = y (ix3 b p (Proj.part2 ⟨h.val * 128 + d.val, by omega⟩)) := by
  have h1 : (⟨R.val / 8 / 8192, by omega⟩ : Fin 2) = b := Fin.ext (by show R.val / 8 / 8192 = b.val; omega)
  have h2 : (⟨R.val / 8 % 8192, by omega⟩ : Fin 8192) = p := Fin.ext (by show R.val / 8 % 8192 = p.val; omega)
  have h3 : (⟨128 * (R.val % 8) + d.val, by omega⟩ : Fin 1024) = ⟨h.val * 128 + d.val, by omega⟩ := Fin.ext (by show 128 * (R.val % 8) + d.val = h.val * 128 + d.val; omega)
  show y (ix3 ⟨R.val / 8 / 8192, _⟩ ⟨R.val / 8 % 8192, _⟩ (Proj.part2 ⟨128 * (R.val % 8) + d.val, _⟩)) = _
  rw [h1, h2, h3]

theorem outC_cols (y : FVec Ideal Reference4Ideal.S2x8192x4096 .f32) : cols Proj.part2 y = Reference4Ideal.Hand.outC (F := Ideal) y := by
  refine funext fun i => ?_
  obtain ⟨b, n, p, rfl⟩ : ∃ (b : Fin 2) (n : Fin 1024) (p : Fin 8192), i = ix3 b n p := ⟨i 0, i 1, i 2, eq_ix3 i⟩
  exact (cols_apply _ y b n p).trans (Reference4Ideal.Hand.outC_apply y b p n).symm

theorem eq_col (y : S1x1024x256.Idx) : y = ix3 0 (y 1) (y 2) :=
  (eq_ix3 y).trans (congrArg (fun z : Fin 1 => (ix3 z (y 1) (y 2) : S1x1024x256.Idx)) (Subsingleton.elim (α := Fin 1) (y 0) 0))

theorem arr10 : (dats m 0 c).arrAt 10 cfg0.N = Reference4Ideal.Hand.outX (F := Ideal) (M m c) := by
  refine (dats m 0 c).arrAt_eq_of_covers 10 _ (by decide +kernel) fun t hf y => ?_
  obtain ⟨a, n, rfl⟩ : ∃ (a : Fin 256) (n : Fin 1024), y = ix2 a n := ⟨y 0, y 1, eq_ix2 y⟩
  blk_simp
  rw [after_10]
  have ht : t.val < 64 := t.isLt
  obtain ⟨b, p, h⟩ := split (256 * t.val + a.val) (by omega)
  refine Eq.trans ?_ (congrArg (Reference4Ideal.Hand.outX (F := Ideal) (M m c)) (emb10 t a n ⟨256 * t.val + a.val, by omega⟩ rfl)).symm
  rw [Reference4Ideal.Hand.outX_apply b p n _ _ h.symm]
  exact mix_blk m c t a n b p h

theorem arr11 : (dats m 0 c).arrAt 11 cfg0.N = rows Proj.part0 (Y m c) := by
  refine (dats m 0 c).arrAt_eq_of_covers 11 _ (by decide +kernel) fun t hf y => ?_
  obtain ⟨a, n, rfl⟩ : ∃ (a : Fin 256) (n : Fin 1024), y = ix2 a n := ⟨y 0, y 1, eq_ix2 y⟩
  blk_simp
  rw [after_11]
  have ht : t.val < 64 := t.isLt
  obtain ⟨b, p, h⟩ := split (256 * t.val + a.val) (by omega)
  refine Eq.trans ?_ (congrArg (rows Proj.part0 (Y m c)) (emb11 t a n ⟨256 * t.val + a.val, by omega⟩ rfl)).symm
  rw [rows_apply _ _ _ n b p h.symm, Y_apply]
  refine (pay5_apply _ _ _ _ _ _ a n).trans (Finset.sum_congr rfl fun k _ => ?_)
  rw [nrm_blk m c t a k b p h, blk5]

theorem arr12 : (dats m 0 c).arrAt 12 cfg0.N = cols Proj.part1 (Y m c) := by
  refine (dats m 0 c).arrAt_eq_of_covers 12 _ (by decide +kernel) fun t hf y => ?_
  obtain ⟨n, a, rfl⟩ : ∃ (n : Fin 1024) (a : Fin 256), y = ix3 0 n a := ⟨y 1, y 2, eq_col y⟩
  blk_simp
  rw [after_12]
  have ht : t.val < 64 := t.isLt
  obtain ⟨b, p, h⟩ := split (256 * t.val + a.val) (by omega)
  refine Eq.trans ?_ (congrArg (cols Proj.part1 (Y m c)) (emb12 t a n b p h)).symm
  rw [cols_apply, Y_apply]
  refine (pay6_apply _ _ a n).trans (Finset.sum_congr rfl fun k _ => ?_)
  rw [nrm_blk m c t a k b p h, blk6]

theorem arr13 : (dats m 0 c).arrAt 13 cfg0.N = heads8 (Y m c) := by
  refine (dats m 0 c).arrAt_eq_of_covers 13 _ (by decide +kernel) fun t hf y => ?_
  obtain ⟨i, d, rfl⟩ : ∃ (i : Fin 2048) (d : Fin 128), y = ix2 i d := ⟨y 0, y 1, eq_ix2 y⟩
  blk_simp
  rw [after_13]
  have ht : t.val < 64 := t.isLt
  obtain ⟨a, ha⟩ : ∃ a : Fin 256, a.val = i.val / 8 := ⟨⟨i.val / 8, by omega⟩, rfl⟩
  obtain ⟨h, hh⟩ : ∃ h : Fin 8, h.val = i.val % 8 := ⟨⟨i.val % 8, by omega⟩, rfl⟩
  obtain ⟨b, p, hb⟩ := split (256 * t.val + a.val) (by omega)
  refine Eq.trans ?_ (congrArg (heads8 (Y m c)) (emb13 t i d ⟨2048 * t.val + i.val, by omega⟩ rfl)).symm
  rw [heads8_apply (Y m c) ⟨2048 * t.val + i.val, by omega⟩ d b p h (by show 2048 * t.val + i.val = _; omega), Y_apply]
  have e1 : (⟨i.val / 8, by omega⟩ : Fin 256) = a := Fin.ext ha.symm
  have e2 : (⟨128 * (i.val % 8) + d.val, by omega⟩ : Fin 1024) = ⟨h.val * 128 + d.val, by omega⟩ := Fin.ext (by show 128 * (i.val % 8) + d.val = h.val * 128 + d.val; omega)
  show k0_pay7 _ _ (ix2 ⟨i.val / 8, _⟩ ⟨128 * (i.val % 8) + d.val, _⟩) = _
  rw [e1, e2]
  refine (pay7_apply _ _ a _).trans (Finset.sum_congr rfl fun k _ => ?_)
  rw [nrm_blk m c t a k b p hb, blk7]

theorem arr14 : (dats m 0 c).arrAt 14 cfg0.N = cols Proj.part2 (Y m c) := by
  refine (dats m 0 c).arrAt_eq_of_covers 14 _ (by decide +kernel) fun t hf y => ?_
  obtain ⟨n, a, rfl⟩ : ∃ (n : Fin 1024) (a : Fin 256), y = ix3 0 n a := ⟨y 1, y 2, eq_col y⟩
  blk_simp
  rw [after_14]
  have ht : t.val < 64 := t.isLt
  obtain ⟨b, p, h⟩ := split (256 * t.val + a.val) (by omega)
  refine Eq.trans ?_ (congrArg (cols Proj.part2 (Y m c)) (emb14 t a n b p h)).symm
  rw [cols_apply, Y_apply]
  refine (pay1_apply _ _ a n).trans (Finset.sum_congr rfl fun k _ => ?_)
  rw [nrm_blk m c t a k b p h, blk8]

theorem arr15 : (dats m 0 c).arrAt 15 cfg0.N = rows Proj.part3 (Y m c) := by
  refine (dats m 0 c).arrAt_eq_of_covers 15 _ (by decide +kernel) fun t hf y => ?_
  obtain ⟨a, n, rfl⟩ : ∃ (a : Fin 256) (n : Fin 1024), y = ix2 a n := ⟨y 0, y 1, eq_ix2 y⟩
  blk_simp
  rw [after_15]
  have ht : t.val < 64 := t.isLt
  obtain ⟨b, p, h⟩ := split (256 * t.val + a.val) (by omega)
  refine Eq.trans ?_ (congrArg (rows Proj.part3 (Y m c)) (emb15 t a n ⟨256 * t.val + a.val, by omega⟩ rfl)).symm
  rw [rows_apply _ _ _ n b p h.symm, Y_apply]
  refine (pay2_apply _ _ a n).trans (Finset.sum_congr rfl fun k _ => ?_)
  rw [nrm_blk m c t a k b p h, blk9]

/-- What the lines after the call make of the keys. -/
def tailK (A : FVec Ideal S2x1024x8192 .f32) : FVec Ideal S1x2x8192x8x2x64 .f32 :=
  broadcastInDim S1x2x8192x8x2x64 ![1, 2, 3, 4, 5] bcast_S2x8192x8x2x64_S1x2x8192x8x2x64_1_2_3_4_5 (transpose S2x8192x8x2x64 [0, 4, 1, 2, 3] (shapeCast S2x8x2x64x8192 A shapeCasts_S2x1024x8192_S2x8x2x64x8192) transposes_S2x8x2x64x8192_S2x8192x8x2x64_0_4_1_2_3)

theorem tailK_apply (A : FVec Ideal S2x1024x8192 .f32) (b : Fin 2) (p : Fin 8192) (h : Fin 8) (e : Fin 2) (d : Fin 64) : tailK A (ix6 0 b p h e d) = A (ix3 b ⟨h.val * 128 + e.val * 64 + d.val, by omega⟩ p) := by
  unfold tailK
  pointwise

theorem eq_K (y : S1x2x8192x8x2x64.Idx) : y = ix6 0 (y 1) (y 2) (y 3) (y 4) (y 5) :=
  (eq_ix6 y).trans (congrArg (fun z : Fin 1 => (ix6 z (y 1) (y 2) (y 3) (y 4) (y 5) : S1x2x8192x8x2x64.Idx)) (Subsingleton.elim (α := Fin 1) (y 0) 0))

theorem tailK_eq (y : FVec Ideal Reference4Ideal.S2x8192x4096 .f32) : tailK (cols Proj.part1 y) = Reference4Ideal.Hand.outK (F := Ideal) y := by
  refine funext fun i => ?_
  obtain ⟨b, p, h, e, d, rfl⟩ : ∃ (b : Fin 2) (p : Fin 8192) (h : Fin 8) (e : Fin 2) (d : Fin 64), i = ix6 0 b p h e d := ⟨i 1, i 2, i 3, i 4, i 5, eq_K i⟩
  exact (tailK_apply _ b p h e d).trans ((cols_apply _ y b ⟨h.val * 128 + e.val * 64 + d.val, by omega⟩ p).trans (Reference4Ideal.Hand.outK_apply y b p h e d).symm)

theorem tail23 : Pipeline.afterTail₀ cfgs (dats m) 0 (V0 m) [hostOps1] c main_v23 = tailK ((dats m 0 c).arrAt 12 cfg0.N) := by
  unfold Pipeline.afterTail₀ tailK
  after_results
  rw [← show Pipeline.withArrays spec0 c (V0 m c) (fun w => (dats m 0 c).arrAt w cfg0.N) (Proc.devRef .tc main_v20_2) = (dats m 0 c).arrAt 12 cfg0.N from Pipeline.withArrays_arr spec0 (by decide) c _ _ 12]
  rfl

/-- What the lines after the call make of the values. -/
def tailV (A : FVec Ideal S131072x128 .f32) : FVec Ideal S1x2x8192x8x128 .f32 :=
  broadcastInDim S1x2x8192x8x128 ![1, 2, 3, 4] bcast_S2x8192x8x128_S1x2x8192x8x128_1_2_3_4 (shapeCast S2x8192x8x128 A shapeCasts_S131072x128_S2x8192x8x128)

theorem tailV_apply (A : FVec Ideal S131072x128 .f32) (b : Fin 2) (p : Fin 8192) (h : Fin 8) (d : Fin 128) : tailV A (ix5 0 b p h d) = A (ix2 ⟨b.val * 65536 + p.val * 8 + h.val, by omega⟩ d) := by
  unfold tailV
  pointwise

theorem eq_V (y : S1x2x8192x8x128.Idx) : y = ix5 0 (y 1) (y 2) (y 3) (y 4) :=
  (eq_ix5 y).trans (congrArg (fun z : Fin 1 => (ix5 z (y 1) (y 2) (y 3) (y 4) : S1x2x8192x8x128.Idx)) (Subsingleton.elim (α := Fin 1) (y 0) 0))

theorem tailV_eq (y : FVec Ideal Reference4Ideal.S2x8192x4096 .f32) : tailV (heads8 y) = Reference4Ideal.Hand.outV (F := Ideal) y := by
  refine funext fun i => ?_
  obtain ⟨b, p, h, d, rfl⟩ : ∃ (b : Fin 2) (p : Fin 8192) (h : Fin 8) (d : Fin 128), i = ix5 0 b p h d := ⟨i 1, i 2, i 3, i 4, eq_V i⟩
  exact (tailV_apply _ b p h d).trans ((heads8_apply y ⟨b.val * 65536 + p.val * 8 + h.val, by omega⟩ d b p h (by show b.val * 65536 + p.val * 8 + h.val = _; omega)).trans (Reference4Ideal.Hand.outV_apply y b p h d).symm)

theorem tail25 : Pipeline.afterTail₀ cfgs (dats m) 0 (V0 m) [hostOps1] c main_v25 = tailV ((dats m 0 c).arrAt 13 cfg0.N) := by
  unfold Pipeline.afterTail₀ tailV
  after_results
  rw [← show Pipeline.withArrays spec0 c (V0 m c) (fun w => (dats m 0 c).arrAt w cfg0.N) (Proc.devRef .tc main_v20_3) = (dats m 0 c).arrAt 13 cfg0.N from Pipeline.withArrays_arr spec0 (by decide) c _ _ 13]
  rfl

end Cert.Kernel4Ideal.Hand

namespace Cert.Proj
open Idealize.ShloMosaic Idealize.ShloMosaic.TcCoe Idealize.SL.Sem
open Cert.Kernel4Ideal Cert.Kernel4Ideal.Gen Cert.Kernel4Ideal.Hand

theorem algebraic4 : Cert.algebraic_Kernel4Ideal_Reference4Ideal := by
  intro m g m' g' _ hag
  refine ⟨fun c => Reference4Ideal.Hand.outX (F := Ideal) (M m c), fun c => Reference4Ideal.Hand.outQ (F := Ideal) (Y m c), fun c => Reference4Ideal.Hand.outK (F := Ideal) (Y m c), fun c => Reference4Ideal.Hand.outV (F := Ideal) (Y m c), fun c => Reference4Ideal.Hand.outC (F := Ideal) (Y m c), fun c => Reference4Ideal.Hand.outZ (F := Ideal) (Y m c), ?_, ?_⟩
  · refine (θ_run _ _ _).mono (fun r h c => ⟨?_, ?_, ?_, ?_, ?_, ?_, h.2 c⟩) (θ_run_and (post m g) (frame_of m g (dats m) (A_eq m) (post m g)))
    · exact (Pipeline.FramePost.out_eq h.1 c 10).trans (arr10 m c)
    · exact (Pipeline.FramePost.out_eq h.1 c 11).trans ((arr11 m c).trans (outQ_rows _))
    · exact ((h.1 c).2 main_v23 (Pipeline.mem_restRefs_of main_v23 (by decide) (by decide))).trans ((tail23 m c).trans ((congrArg tailK (arr12 m c)).trans (tailK_eq _)))
    · exact ((h.1 c).2 main_v25 (Pipeline.mem_restRefs_of main_v25 (by decide) (by decide))).trans ((tail25 m c).trans ((congrArg tailV (arr13 m c)).trans (tailV_eq _)))
    · exact (Pipeline.FramePost.out_eq h.1 c 14).trans ((arr14 m c).trans (outC_cols _))
    · exact (Pipeline.FramePost.out_eq h.1 c 15).trans ((arr15 m c).trans (outZ_rows _))
  · refine (θ_run _ _ _).mono (fun r h c => ?_) (Cert.Reference4Ideal.Value.run (F := Ideal) m' g')
    obtain ⟨e0, e1, e2, e3, e4, e5⟩ := hag c
    obtain ⟨r0, r1, r2, r3, r4, r5, ra⟩ := h c
    rw [e0, e1, e2, e3] at r0
    rw [e0, e1, e2, e3, e4, e5] at r1 r2 r3 r4 r5
    exact ⟨r0, r1, r2, r3, r4, r5, ra⟩

end Cert.Proj
-- ==== Proof.Proj5.lean ====
/- The first layer's input projection of the sample over the reals: the run's arrays are the reference's. -/
module

public import proofs.«01_k».proof.Proof.Proj
public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Claim
public import Idealize.ShloMosaic.Lib.Pointwise

@[expose] public section

set_option maxRecDepth 16384

noncomputable section

namespace Cert.Reference5Ideal.Hand
open Cert.Reference5Ideal Cert.Reference5Ideal.Gen Cert.Reference5Ideal.Value
open Idealize.ShloMosaic Idealize.ShloMosaic.TcCoe Idealize.SL.Sem

/-- The projected rows, the four parts side by side. -/
def proj {F : FTy → Type} [FloatOps F] (x : FVec F S32x4x1024 .f32) (g : FVec F S1x1024 .f32) (w : FVec F S1x1024x4096 .f32) : FVec F S32x4x4096 .f32 :=
  Host.dotGeneral dot_S32x4x1024_S1024x4096_S32x4x4096_2_0_01_1_n_n none
    (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 (shapeCast S1024 g shapeCasts_S1x1024_S1024))))
    (shapeCast S1024x4096 w shapeCasts_S1x1024x4096_S1024x4096)

theorem proj_apply (x : FVec Ideal S32x4x1024 .f32) (g : FVec Ideal S1x1024 .f32) (w : FVec Ideal S1x1024x4096 .f32) (b : Fin 32) (p : Fin 4) (n : Fin 4096) :
    proj x g w (ix3 b p n) = ∑ k, Proj.rms (fun k => x (ix3 b p k)) (fun k => g (ix2 0 k)) k * w (ix3 0 k n) := by
  unfold proj Proj.rms
  pointwise
/-- The queries, row by row. -/
def outQ {F : FTy → Type} [FloatOps F] (y : FVec F S32x4x4096 .f32) : FVec F S128x1024 .f32 :=
  shapeCast S128x1024 (extractStridedSlice S32x4x1024 ![0, 0, 0] y slices_S32x4x4096_S32x4x1024_0_0_0) shapeCasts_S32x4x1024_S128x1024
/-- The keys, layer by layer, per head. -/
def outK {F : FTy → Type} [FloatOps F] (y : FVec F S32x4x4096 .f32) : FVec F S1x32x4x16x64 .f32 :=
  broadcastInDim S1x32x4x16x64 ![1, 2, 3, 4] bcast_S32x4x16x64_S1x32x4x16x64_1_2_3_4 (shapeCast S32x4x16x64 (extractStridedSlice S32x4x1024 ![0, 0, 1024] y slices_S32x4x4096_S32x4x1024_0_0_1024) shapeCasts_S32x4x1024_S32x4x16x64)
/-- The values, layer by layer, per head. -/
def outV {F : FTy → Type} [FloatOps F] (y : FVec F S32x4x4096 .f32) : FVec F S1x32x4x16x64 .f32 :=
  broadcastInDim S1x32x4x16x64 ![1, 2, 3, 4] bcast_S32x4x16x64_S1x32x4x16x64_1_2_3_4 (shapeCast S32x4x16x64 (extractStridedSlice S32x4x1024 ![0, 0, 2048] y slices_S32x4x4096_S32x4x1024_0_0_2048) shapeCasts_S32x4x1024_S32x4x16x64)
/-- The gates, row by row. -/
def outZ {F : FTy → Type} [FloatOps F] (y : FVec F S32x4x4096 .f32) : FVec F S128x1024 .f32 :=
  shapeCast S128x1024 (extractStridedSlice S32x4x1024 ![0, 0, 3072] y slices_S32x4x4096_S32x4x1024_0_0_3072) shapeCasts_S32x4x1024_S128x1024

section points
variable (y : FVec Ideal S32x4x4096 .f32) (b : Fin 32) (p : Fin 4) (n : Fin 1024)
theorem outQ_apply (R : Fin 128) (hR : R.val = 4 * b.val + p.val) : outQ y (ix2 R n) = y (ix3 b p (Proj.part0 n)) := by
  have h1 : (⟨R.val / 4, by omega⟩ : Fin 32) = b := Fin.ext (by show R.val / 4 = b.val; omega)
  have h2 : (⟨R.val % 4, by omega⟩ : Fin 4) = p := Fin.ext (by show R.val % 4 = p.val; omega)
  unfold outQ
  pointwise
  rw [h1, h2]
theorem outZ_apply (R : Fin 128) (hR : R.val = 4 * b.val + p.val) : outZ y (ix2 R n) = y (ix3 b p (Proj.part3 n)) := by
  have h1 : (⟨R.val / 4, by omega⟩ : Fin 32) = b := Fin.ext (by show R.val / 4 = b.val; omega)
  have h2 : (⟨R.val % 4, by omega⟩ : Fin 4) = p := Fin.ext (by show R.val % 4 = p.val; omega)
  unfold outZ
  pointwise
  rw [h1, h2]
theorem outK_apply (h : Fin 16) (d : Fin 64) : outK y (ix5 0 b p h d) = y (ix3 b p (Proj.part1 ⟨h.val * 64 + d.val, by omega⟩)) := by
  unfold outK
  pointwise
theorem outV_apply (h : Fin 16) (d : Fin 64) : outV y (ix5 0 b p h d) = y (ix3 b p (Proj.part2 ⟨h.val * 64 + d.val, by omega⟩)) := by
  unfold outV
  pointwise
end points

end Cert.Reference5Ideal.Hand

namespace Cert.Kernel5Ideal.Hand
open Cert.Kernel5Ideal Cert.Kernel5Ideal.Gen
open Idealize.ShloMosaic Idealize.ShloMosaic.TcCoe Idealize.SL.Sem

theorem pay2_apply (x : Vec Ideal S128x1024 .f32) (g : Vec Ideal S1x1024 .f32) (a : Fin 128) (n : Fin 1024) :
    k0_pay2 x g (ix2 a n) = Proj.rms (fun k => x (ix2 a k)) (fun k => g (ix2 0 k)) n := by
  unfold Proj.rms
  pointwise [k0_pay2]

theorem pay3_apply (x : Vec Ideal S128x1024 .f32) (g : Vec Ideal S1x1024 .f32) (v : Vec Ideal S1024x1024 .bf16) (a : Fin 128) (n : Fin 1024) :
    k0_pay3 x g v (ix2 a n) = ∑ k, k0_pay2 x g (ix2 a k) * v (ix2 k n) := by
  pointwise [k0_pay3]

theorem pay4_apply (x : Vec Ideal S128x1024 .f32) (g : Vec Ideal S1x1024 .f32) (v : Vec Ideal S1024x1024 .bf16) (a : Fin 128) (n : Fin 1024) :
    k0_pay4 x g v (ix2 a n) = ∑ k, k0_pay2 x g (ix2 a k) * v (ix2 k n) := by
  pointwise [k0_pay4]

theorem pay5_apply (x : Vec Ideal S128x1024 .f32) (g : Vec Ideal S1x1024 .f32) (v : Vec Ideal S1024x1024 .bf16) (a : Fin 128) (n : Fin 1024) :
    k0_pay5 x g v (ix2 a n) = ∑ k, k0_pay2 x g (ix2 a k) * v (ix2 k n) := by
  pointwise [k0_pay5]

theorem pay1_apply (x : FVec Ideal S128x1024 .bf16) (v : Vec Ideal S1024x1024 .bf16) (a : Fin 128) (n : Fin 1024) :
    k0_pay1 x (k0_pay6 v) (constant S128x1024 .f32 0x00000000#32) (ix2 a n) = ∑ k, x (ix2 a k) * v (ix2 k n) := by
  pointwise [k0_pay1, k0_pay6]

theorem index0 : ∀ t : Fin cfg0.N, (cfg0.win 0).index t = ![t.val, 0] := by decide +kernel
theorem index1 : ∀ t : Fin cfg0.N, (cfg0.win 1).index t = ![0, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![t.val, 0] := by decide +kernel
theorem index7 : ∀ t : Fin cfg0.N, (cfg0.win 7).index t = ![t.val, 0] := by decide +kernel
theorem index8 : ∀ t : Fin cfg0.N, (cfg0.win 8).index t = ![t.val, 0] := by decide +kernel
theorem index9 : ∀ t : Fin cfg0.N, (cfg0.win 9).index t = ![t.val, 0] := by decide +kernel

variable (m : (ℓ : Loc nD τ sig) → Buf (Elt Ideal) ℓ) (c : Dev nD)

/-- Argument 0. -/
abbrev argx : FVec Ideal S32x4x1024 .f32 := m ((c.tc : Thread nD τ).loc main_arg0)
/-- Argument 1. -/
abbrev argg : FVec Ideal S1x1024 .f32 := m ((c.tc : Thread nD τ).loc main_arg1)
/-- Argument 2. -/
abbrev argi : FVec Ideal S1x1024x4096 .f32 := m ((c.tc : Thread nD τ).loc main_arg2)

theorem Vx : V m c main_v0 = shapeCast S128x1024 (argx m c) shapeCasts_S32x4x1024_S128x1024 := by
  entry_read
  rfl
theorem Vg : V m c main_v3 = shapeCast S1x1024 (shapeCast S1024 (argg m c) shapeCasts_S1x1024_S1024) shapeCasts_S1024_S1x1024 := by
  entry_read
  rfl
theorem Vi0 : V m c main_v5 = truncf (F := Ideal) .bf16 (extractStridedSlice S1024x1024 ![0, 0] (shapeCast S1024x4096 (argi m c) shapeCasts_S1x1024x4096_S1024x4096) slices_S1024x4096_S1024x1024_0_0) bitsLt_bf16_f32 := by
  entry_read
  rfl
theorem Vi1 : V m c main_v7 = truncf (F := Ideal) .bf16 (extractStridedSlice S1024x1024 ![0, 1024] (shapeCast S1024x4096 (argi m c) shapeCasts_S1x1024x4096_S1024x4096) slices_S1024x4096_S1024x1024_0_1024) bitsLt_bf16_f32 := by
  entry_read
  rfl
theorem Vi2 : V m c main_v9 = truncf (F := Ideal) .bf16 (extractStridedSlice S1024x1024 ![0, 2048] (shapeCast S1024x4096 (argi m c) shapeCasts_S1x1024x4096_S1024x4096) slices_S1024x4096_S1024x1024_0_2048) bitsLt_bf16_f32 := by
  entry_read
  rfl
theorem Vi3 : V m c main_v11 = truncf (F := Ideal) .bf16 (extractStridedSlice S1024x1024 ![0, 3072] (shapeCast S1024x4096 (argi m c) shapeCasts_S1x1024x4096_S1024x4096) slices_S1024x4096_S1024x1024_0_3072) bitsLt_bf16_f32 := by
  entry_read
  rfl

theorem emb0 (t : Fin cfg0.N) (a : Fin 128) (k : Fin 1024) (R : Fin 128) (hR : R.val = 128 * t.val + a.val) : ((cfg0.win 0).blk t).view.emb (ix2 a k) = ix2 R k := by
  refine funext fun x => Fin.ext ?_
  match x with
  | 0 => exact (Pipeline.Window.rect_emb_val (cfg0.win 0) t (ix2 a k) 0).trans (by rw [index0]; show t.val * 128 + a.val = R.val; omega)
  | 1 => exact (Pipeline.Window.rect_emb_val (cfg0.win 0) t (ix2 a k) 1).trans (by rw [index0]; show 0 * 1024 + k.val = k.val; omega)
theorem emb1 (t : Fin cfg0.N) (k : Fin 1024) : ((cfg0.win 1).blk t).view.emb (ix2 0 k) = ix2 0 k := by
  refine funext fun x => Fin.ext ?_
  match x with
  | 0 => exact (Pipeline.Window.rect_emb_val (cfg0.win 1) t (ix2 0 k) 0).trans (by rw [index1]; rfl)
  | 1 => exact (Pipeline.Window.rect_emb_val (cfg0.win 1) t (ix2 0 k) 1).trans (by rw [index1]; show 0 * 1024 + k.val = k.val; omega)
theorem emb2 (t : Fin cfg0.N) (a b : Fin 1024) : ((cfg0.win 2).blk t).view.emb (ix2 a b) = ix2 a b := by
  refine funext fun x => Fin.ext ?_
  match x with
  | 0 => exact (Pipeline.Window.rect_emb_val (cfg0.win 2) t (ix2 a b) 0).trans (by rw [index2]; show 0 * 1024 + a.val = a.val; omega)
  | 1 => exact (Pipeline.Window.rect_emb_val (cfg0.win 2) t (ix2 a b) 1).trans (by rw [index2]; show 0 * 1024 + b.val = b.val; omega)
theorem emb3 (t : Fin cfg0.N) (a b : Fin 1024) : ((cfg0.win 3).blk t).view.emb (ix2 a b) = ix2 a b := by
  refine funext fun x => Fin.ext ?_
  match x with
  | 0 => exact (Pipeline.Window.rect_emb_val (cfg0.win 3) t (ix2 a b) 0).trans (by rw [index3]; show 0 * 1024 + a.val = a.val; omega)
  | 1 => exact (Pipeline.Window.rect_emb_val (cfg0.win 3) t (ix2 a b) 1).trans (by rw [index3]; show 0 * 1024 + b.val = b.val; omega)
theorem emb4 (t : Fin cfg0.N) (a b : Fin 1024) : ((cfg0.win 4).blk t).view.emb (ix2 a b) = ix2 a b := by
  refine funext fun x => Fin.ext ?_
  match x with
  | 0 => exact (Pipeline.Window.rect_emb_val (cfg0.win 4) t (ix2 a b) 0).trans (by rw [index4]; show 0 * 1024 + a.val = a.val; omega)
  | 1 => exact (Pipeline.Window.rect_emb_val (cfg0.win 4) t (ix2 a b) 1).trans (by rw [index4]; show 0 * 1024 + b.val = b.val; omega)
theorem emb5 (t : Fin cfg0.N) (a b : Fin 1024) : ((cfg0.win 5).blk t).view.emb (ix2 a b) = ix2 a b := by
  refine funext fun x => Fin.ext ?_
  match x with
  | 0 => exact (Pipeline.Window.rect_emb_val (cfg0.win 5) t (ix2 a b) 0).trans (by rw [index5]; show 0 * 1024 + a.val = a.val; omega)
  | 1 => exact (Pipeline.Window.rect_emb_val (cfg0.win 5) t (ix2 a b) 1).trans (by rw [index5]; show 0 * 1024 + b.val = b.val; omega)
theorem emb6 (t : Fin cfg0.N) (a : Fin 128) (k : Fin 1024) (R : Fin 128) (hR : R.val = 128 * t.val + a.val) : ((cfg0.win 6).blk t).view.emb (ix2 a k) = ix2 R k := by
  refine funext fun x => Fin.ext ?_
  match x with
  | 0 => exact (Pipeline.Window.rect_emb_val (cfg0.win 6) t (ix2 a k) 0).trans (by rw [index6]; show t.val * 128 + a.val = R.val; omega)
  | 1 => exact (Pipeline.Window.rect_emb_val (cfg0.win 6) t (ix2 a k) 1).trans (by rw [index6]; show 0 * 1024 + k.val = k.val; omega)
theorem emb7 (t : Fin cfg0.N) (a : Fin 128) (k : Fin 1024) (R : Fin 128) (hR : R.val = 128 * t.val + a.val) : ((cfg0.win 7).blk t).view.emb (ix2 a k) = ix2 R k := by
  refine funext fun x => Fin.ext ?_
  match x with
  | 0 => exact (Pipeline.Window.rect_emb_val (cfg0.win 7) t (ix2 a k) 0).trans (by rw [index7]; show t.val * 128 + a.val = R.val; omega)
  | 1 => exact (Pipeline.Window.rect_emb_val (cfg0.win 7) t (ix2 a k) 1).trans (by rw [index7]; show 0 * 1024 + k.val = k.val; omega)
theorem emb8 (t : Fin cfg0.N) (a : Fin 128) (k : Fin 1024) (R : Fin 128) (hR : R.val = 128 * t.val + a.val) : ((cfg0.win 8).blk t).view.emb (ix2 a k) = ix2 R k := by
  refine funext fun x => Fin.ext ?_
  match x with
  | 0 => exact (Pipeline.Window.rect_emb_val (cfg0.win 8) t (ix2 a k) 0).trans (by rw [index8]; show t.val * 128 + a.val = R.val; omega)
  | 1 => exact (Pipeline.Window.rect_emb_val (cfg0.win 8) t (ix2 a k) 1).trans (by rw [index8]; show 0 * 1024 + k.val = k.val; omega)
theorem emb9 (t : Fin cfg0.N) (a : Fin 128) (k : Fin 1024) (R : Fin 128) (hR : R.val = 128 * t.val + a.val) : ((cfg0.win 9).blk t).view.emb (ix2 a k) = ix2 R k := by
  refine funext fun x => Fin.ext ?_
  match x with
  | 0 => exact (Pipeline.Window.rect_emb_val (cfg0.win 9) t (ix2 a k) 0).trans (by rw [index9]; show t.val * 128 + a.val = R.val; omega)
  | 1 => exact (Pipeline.Window.rect_emb_val (cfg0.win 9) t (ix2 a k) 1).trans (by rw [index9]; show 0 * 1024 + k.val = k.val; omega)

theorem blk0 (t : Fin cfg0.N) (a : Fin 128) (k : Fin 1024) (b : Fin 32) (p : Fin 4) (h : 4 * b.val + p.val = 128 * t.val + a.val) :
    iblk m c 0 t (ix2 a k) = argx m c (ix3 b p k) := by
  refine (congrArg (V m c main_v0) (emb0 t a k ⟨4 * b.val + p.val, by omega⟩ h)).trans ?_
  rw [Vx]
  pointwise
theorem blk1 (t : Fin cfg0.N) (k : Fin 1024) : iblk m c 1 t (ix2 0 k) = argg m c (ix2 0 k) := by
  refine (congrArg (V m c main_v3) (emb1 t k)).trans ?_
  rw [Vg]
  pointwise
theorem blk2 (t : Fin cfg0.N) (k n : Fin 1024) : iblk m c 2 t (ix2 k n) = argi m c (ix3 0 k (Proj.part0 n)) := by
  refine (congrArg (V m c main_v5) (emb2 t _ _)).trans ?_
  rw [Vi0]
  pointwise
theorem blk3 (t : Fin cfg0.N) (k n : Fin 1024) : iblk m c 3 t (ix2 k n) = argi m c (ix3 0 k (Proj.part1 n)) := by
  refine (congrArg (V m c main_v7) (emb3 t _ _)).trans ?_
  rw [Vi1]
  pointwise
theorem blk4 (t : Fin cfg0.N) (k n : Fin 1024) : iblk m c 4 t (ix2 k n) = argi m c (ix3 0 k (Proj.part2 n)) := by
  refine (congrArg (V m c main_v9) (emb4 t _ _)).trans ?_
  rw [Vi2]
  pointwise
theorem blk5 (t : Fin cfg0.N) (k n : Fin 1024) : iblk m c 5 t (ix2 k n) = argi m c (ix3 0 k (Proj.part3 n)) := by
  refine (congrArg (V m c main_v11) (emb5 t _ _)).trans ?_
  rw [Vi3]
  pointwise

/-- The stream. -/
abbrev M : FVec Ideal Reference5Ideal.S32x4x1024 .f32 := argx m c

/-- The reference's projected rows, of the run's arguments. -/
abbrev Y : FVec Ideal Reference5Ideal.S32x4x4096 .f32 := Reference5Ideal.Hand.proj (F := Ideal) (M m c) (argg m c) (argi m c)

theorem Y_apply (b : Fin 32) (p : Fin 4) (n : Fin 4096) :
    Y m c (ix3 b p n) = ∑ k, Proj.rms (fun k => M m c (ix3 b p k)) (fun k => argg m c (ix2 0 k)) k * argi m c (ix3 0 k n) :=
  Reference5Ideal.Hand.proj_apply _ _ _ b p n

/-- A point's rows, normed. -/
theorem nrm_blk (t : Fin cfg0.N) (a : Fin 128) (n : Fin 1024) (b : Fin 32) (p : Fin 4) (h : 4 * b.val + p.val = 128 * t.val + a.val) :
    k0_pay2 (iblk m c 0 t) (iblk m c 1 t) (ix2 a n) = Proj.rms (fun k => M m c (ix3 b p k)) (fun k => argg m c (ix2 0 k)) n := by
  refine (pay2_apply _ _ a n).trans ?_
  rw [funext fun k => blk0 m c t a k b p h, funext fun k => blk1 m c t k]

/-- A part of the projected rows, row by row. -/
def rows (e : Fin 1024 → Fin 4096) (y : FVec Ideal Reference5Ideal.S32x4x4096 .f32) : FVec Ideal S128x1024 .f32 :=
  fun i => y (ix3 ⟨(i 0).val / 4, by have h : (i 0).val < 128 := (i 0).isLt; omega⟩ ⟨(i 0).val % 4, by omega⟩ (e (i 1)))

theorem rows_apply (e : Fin 1024 → Fin 4096) (y : FVec Ideal Reference5Ideal.S32x4x4096 .f32) (R : Fin 128) (n : Fin 1024) (b : Fin 32) (p : Fin 4) (hR : R.val = 4 * b.val + p.val) :
    rows e y (ix2 R n) = y (ix3 b p (e n)) := by
  have h1 : (⟨R.val / 4, by omega⟩ : Fin 32) = b := Fin.ext (by show R.val / 4 = b.val; omega)
  have h2 : (⟨R.val % 4, by omega⟩ : Fin 4) = p := Fin.ext (by show R.val % 4 = p.val; omega)
  show y (ix3 ⟨R.val / 4, _⟩ ⟨R.val % 4, _⟩ (e n)) = _
  rw [h1, h2]

theorem split (R : ℕ) (hR : R < 128) : ∃ (b : Fin 32) (p : Fin 4), 4 * b.val + p.val = R :=
  ⟨⟨R / 4, by omega⟩, ⟨R % 4, by omega⟩, by show 4 * (R / 4) + R % 4 = _; omega⟩

theorem outQ_rows (y : FVec Ideal Reference5Ideal.S32x4x4096 .f32) : rows Proj.part0 y = Reference5Ideal.Hand.outQ (F := Ideal) y := by
  refine funext fun i => ?_
  obtain ⟨R, n, rfl⟩ : ∃ (R : Fin 128) (n : Fin 1024), i = ix2 R n := ⟨i 0, i 1, eq_ix2 i⟩
  obtain ⟨b, p, h⟩ := split R.val R.isLt
  rw [rows_apply _ y R n b p h.symm, Reference5Ideal.Hand.outQ_apply y b p n R h.symm]

theorem outZ_rows (y : FVec Ideal Reference5Ideal.S32x4x4096 .f32) : rows Proj.part3 y = Reference5Ideal.Hand.outZ (F := Ideal) y := by
  refine funext fun i => ?_
  obtain ⟨R, n, rfl⟩ : ∃ (R : Fin 128) (n : Fin 1024), i = ix2 R n := ⟨i 0, i 1, eq_ix2 i⟩
  obtain ⟨b, p, h⟩ := split R.val R.isLt
  rw [rows_apply _ y R n b p h.symm, Reference5Ideal.Hand.outZ_apply y b p n R h.symm]

theorem arr6 : (dats m 0 c).arrAt 6 cfg0.N = rows Proj.part0 (Y m c) := by
  refine (dats m 0 c).arrAt_eq_of_covers 6 _ (by decide +kernel) fun t hf y => ?_
  obtain ⟨a, n, rfl⟩ : ∃ (a : Fin 128) (n : Fin 1024), y = ix2 a n := ⟨y 0, y 1, eq_ix2 y⟩
  blk_simp
  rw [after0_6]
  frame_out
  have ht : t.val < 1 := t.isLt
  obtain ⟨b, p, h⟩ := split (128 * t.val + a.val) (by omega)
  refine Eq.trans ?_ (congrArg (rows Proj.part0 (Y m c)) (emb6 t a n ⟨128 * t.val + a.val, by omega⟩ rfl)).symm
  rw [rows_apply _ _ _ n b p h.symm, Y_apply]
  refine (pay3_apply _ _ _ a n).trans (Finset.sum_congr rfl fun k _ => ?_)
  rw [nrm_blk m c t a k b p h, blk2]

theorem arr7 : (dats m 0 c).arrAt 7 cfg0.N = rows Proj.part1 (Y m c) := by
  refine (dats m 0 c).arrAt_eq_of_covers 7 _ (by decide +kernel) fun t hf y => ?_
  obtain ⟨a, n, rfl⟩ : ∃ (a : Fin 128) (n : Fin 1024), y = ix2 a n := ⟨y 0, y 1, eq_ix2 y⟩
  blk_simp
  rw [after0_7]
  frame_out
  have ht : t.val < 1 := t.isLt
  obtain ⟨b, p, h⟩ := split (128 * t.val + a.val) (by omega)
  refine Eq.trans ?_ (congrArg (rows Proj.part1 (Y m c)) (emb7 t a n ⟨128 * t.val + a.val, by omega⟩ rfl)).symm
  rw [rows_apply _ _ _ n b p h.symm, Y_apply]
  refine (pay4_apply _ _ _ a n).trans (Finset.sum_congr rfl fun k _ => ?_)
  rw [nrm_blk m c t a k b p h, blk3]

theorem arr8 : (dats m 0 c).arrAt 8 cfg0.N = rows Proj.part2 (Y m c) := by
  refine (dats m 0 c).arrAt_eq_of_covers 8 _ (by decide +kernel) fun t hf y => ?_
  obtain ⟨a, n, rfl⟩ : ∃ (a : Fin 128) (n : Fin 1024), y = ix2 a n := ⟨y 0, y 1, eq_ix2 y⟩
  blk_simp
  rw [after0_8]
  frame_out
  have ht : t.val < 1 := t.isLt
  obtain ⟨b, p, h⟩ := split (128 * t.val + a.val) (by omega)
  refine Eq.trans ?_ (congrArg (rows Proj.part2 (Y m c)) (emb8 t a n ⟨128 * t.val + a.val, by omega⟩ rfl)).symm
  rw [rows_apply _ _ _ n b p h.symm, Y_apply]
  refine (pay5_apply _ _ _ a n).trans (Finset.sum_congr rfl fun k _ => ?_)
  rw [nrm_blk m c t a k b p h, blk4]

theorem arr9 : (dats m 0 c).arrAt 9 cfg0.N = rows Proj.part3 (Y m c) := by
  refine (dats m 0 c).arrAt_eq_of_covers 9 _ (by decide +kernel) fun t hf y => ?_
  obtain ⟨a, n, rfl⟩ : ∃ (a : Fin 128) (n : Fin 1024), y = ix2 a n := ⟨y 0, y 1, eq_ix2 y⟩
  blk_simp
  rw [after0_9]
  frame_out
  have ht : t.val < 1 := t.isLt
  obtain ⟨b, p, h⟩ := split (128 * t.val + a.val) (by omega)
  refine Eq.trans ?_ (congrArg (rows Proj.part3 (Y m c)) (emb9 t a n ⟨128 * t.val + a.val, by omega⟩ rfl)).symm
  rw [rows_apply _ _ _ n b p h.symm, Y_apply]
  refine (pay1_apply _ _ a n).trans (Finset.sum_congr rfl fun k _ => ?_)
  rw [nrm_blk m c t a k b p h, blk5]

/-- What the lines after the call make of the keys. -/
def tailK (A : FVec Ideal S128x1024 .f32) : FVec Ideal S1x32x4x16x64 .f32 :=
  broadcastInDim S1x32x4x16x64 ![1, 2, 3, 4] bcast_S32x4x16x64_S1x32x4x16x64_1_2_3_4 (shapeCast S32x4x16x64 A shapeCasts_S128x1024_S32x4x16x64)

theorem tailK_apply (A : FVec Ideal S128x1024 .f32) (b : Fin 32) (p : Fin 4) (h : Fin 16) (d : Fin 64) : tailK A (ix5 0 b p h d) = A (ix2 ⟨b.val * 4 + p.val, by omega⟩ ⟨h.val * 64 + d.val, by omega⟩) := by
  unfold tailK
  pointwise

theorem eq_K (y : S1x32x4x16x64.Idx) : y = ix5 0 (y 1) (y 2) (y 3) (y 4) :=
  (eq_ix5 y).trans (congrArg (fun z : Fin 1 => (ix5 z (y 1) (y 2) (y 3) (y 4) : S1x32x4x16x64.Idx)) (Subsingleton.elim (α := Fin 1) (y 0) 0))

theorem tailK_eq (y : FVec Ideal Reference5Ideal.S32x4x4096 .f32) : tailK (rows Proj.part1 y) = Reference5Ideal.Hand.outK (F := Ideal) y := by
  refine funext fun i => ?_
  obtain ⟨b, p, h, d, rfl⟩ : ∃ (b : Fin 32) (p : Fin 4) (h : Fin 16) (d : Fin 64), i = ix5 0 b p h d := ⟨i 1, i 2, i 3, i 4, eq_K i⟩
  exact (tailK_apply _ b p h d).trans ((rows_apply _ y ⟨b.val * 4 + p.val, by omega⟩ ⟨h.val * 64 + d.val, by omega⟩ b p (by show b.val * 4 + p.val = _; omega)).trans (Reference5Ideal.Hand.outK_apply y b p h d).symm)

theorem tail14 : Pipeline.afterTail₀ cfgs (dats m) 0 (V0 m) [hostOps1] c main_v14 = tailK ((dats m 0 c).arrAt 7 cfg0.N) := by
  unfold Pipeline.afterTail₀ tailK
  after_results
  rw [← show Pipeline.withArrays spec0 c (V0 m c) (fun w => (dats m 0 c).arrAt w cfg0.N) (Proc.devRef .tc main_v12_1) = (dats m 0 c).arrAt 7 cfg0.N from Pipeline.withArrays_arr spec0 (by decide) c _ _ 7]
  rfl

/-- What the lines after the call make of the values. -/
def tailV (A : FVec Ideal S128x1024 .f32) : FVec Ideal S1x32x4x16x64 .f32 :=
  broadcastInDim S1x32x4x16x64 ![1, 2, 3, 4] bcast_S32x4x16x64_S1x32x4x16x64_1_2_3_4 (shapeCast S32x4x16x64 A shapeCasts_S128x1024_S32x4x16x64)

theorem tailV_apply (A : FVec Ideal S128x1024 .f32) (b : Fin 32) (p : Fin 4) (h : Fin 16) (d : Fin 64) : tailV A (ix5 0 b p h d) = A (ix2 ⟨b.val * 4 + p.val, by omega⟩ ⟨h.val * 64 + d.val, by omega⟩) := by
  unfold tailV
  pointwise

theorem eq_V (y : S1x32x4x16x64.Idx) : y = ix5 0 (y 1) (y 2) (y 3) (y 4) :=
  (eq_ix5 y).trans (congrArg (fun z : Fin 1 => (ix5 z (y 1) (y 2) (y 3) (y 4) : S1x32x4x16x64.Idx)) (Subsingleton.elim (α := Fin 1) (y 0) 0))

theorem tailV_eq (y : FVec Ideal Reference5Ideal.S32x4x4096 .f32) : tailV (rows Proj.part2 y) = Reference5Ideal.Hand.outV (F := Ideal) y := by
  refine funext fun i => ?_
  obtain ⟨b, p, h, d, rfl⟩ : ∃ (b : Fin 32) (p : Fin 4) (h : Fin 16) (d : Fin 64), i = ix5 0 b p h d := ⟨i 1, i 2, i 3, i 4, eq_V i⟩
  exact (tailV_apply _ b p h d).trans ((rows_apply _ y ⟨b.val * 4 + p.val, by omega⟩ ⟨h.val * 64 + d.val, by omega⟩ b p (by show b.val * 4 + p.val = _; omega)).trans (Reference5Ideal.Hand.outV_apply y b p h d).symm)

theorem tail16 : Pipeline.afterTail₀ cfgs (dats m) 0 (V0 m) [hostOps1] c main_v16 = tailV ((dats m 0 c).arrAt 8 cfg0.N) := by
  unfold Pipeline.afterTail₀ tailV
  after_results
  rw [← show Pipeline.withArrays spec0 c (V0 m c) (fun w => (dats m 0 c).arrAt w cfg0.N) (Proc.devRef .tc main_v12_2) = (dats m 0 c).arrAt 8 cfg0.N from Pipeline.withArrays_arr spec0 (by decide) c _ _ 8]
  rfl

end Cert.Kernel5Ideal.Hand

namespace Cert.Proj
open Idealize.ShloMosaic Idealize.ShloMosaic.TcCoe Idealize.SL.Sem
open Cert.Kernel5Ideal Cert.Kernel5Ideal.Gen Cert.Kernel5Ideal.Hand

theorem algebraic5 : Cert.algebraic_Kernel5Ideal_Reference5Ideal := by
  intro m g m' g' _ hag
  refine ⟨fun c => Reference5Ideal.Hand.outQ (F := Ideal) (Y m c), fun c => Reference5Ideal.Hand.outK (F := Ideal) (Y m c), fun c => Reference5Ideal.Hand.outV (F := Ideal) (Y m c), fun c => Reference5Ideal.Hand.outZ (F := Ideal) (Y m c), ?_, ?_⟩
  · refine (θ_run _ _ _).mono (fun r h c => ⟨?_, ?_, ?_, ?_, h.2 c⟩) (θ_run_and (run_main m g) (unchanged m g))
    · exact (Pipeline.FramePost.out_eq h.1 c 6).trans ((arr6 m c).trans (outQ_rows _))
    · exact ((h.1 c).2 main_v14 (Pipeline.mem_restRefs_of main_v14 (by decide) (by decide))).trans ((tail14 m c).trans ((congrArg tailK (arr7 m c)).trans (tailK_eq _)))
    · exact ((h.1 c).2 main_v16 (Pipeline.mem_restRefs_of main_v16 (by decide) (by decide))).trans ((tail16 m c).trans ((congrArg tailV (arr8 m c)).trans (tailV_eq _)))
    · exact (Pipeline.FramePost.out_eq h.1 c 9).trans ((arr9 m c).trans (outZ_rows _))
  · refine (θ_run _ _ _).mono (fun r h c => ?_) (Cert.Reference5Ideal.Value.run (F := Ideal) m' g')
    obtain ⟨e0, e1, e2⟩ := hag c
    obtain ⟨r0, r1, r2, r3, ra⟩ := h c
    rw [e0, e1, e2] at r0 r1 r2 r3
    exact ⟨r0, r1, r2, r3, ra⟩

end Cert.Proj
-- ==== Proof.Proj6.lean ====
/- The second layer's input projection of the sample, with the first layer's branch over the reals: the run's arrays are the reference's. -/
module

public import proofs.«01_k».proof.Proof.Proj
public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Claim
public import Idealize.ShloMosaic.Lib.Pointwise

@[expose] public section

set_option maxRecDepth 16384

noncomputable section

namespace Cert.Reference6Ideal.Hand
open Cert.Reference6Ideal Cert.Reference6Ideal.Gen Cert.Reference6Ideal.Value
open Idealize.ShloMosaic Idealize.ShloMosaic.TcCoe Idealize.SL.Sem

/-- The stream with the gated branch added. -/
def mixed {F : FTy → Type} [FloatOps F] (o z x : FVec F S32x4x1024 .f32) (w : FVec F S1x1024x1024 .f32) : FVec F S32x4x1024 .f32 :=
  addf x (Host.dotGeneral dot_S32x4x1024_S1024x1024_S32x4x1024_2_0_01_1_n_n none
    (mulf o (mulf z (Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf z))))))
    (shapeCast S1024x1024 w shapeCasts_S1x1024x1024_S1024x1024))

theorem mixed_apply (o z x : FVec Ideal S32x4x1024 .f32) (w : FVec Ideal S1x1024x1024 .f32) (b : Fin 32) (p : Fin 4) (n : Fin 1024) :
    mixed o z x w (ix3 b p n) = Proj.mix (fun k => o (ix3 b p k)) (fun k => z (ix3 b p k)) (fun k => x (ix3 b p k)) (fun k n => w (ix3 0 k n)) n := by
  unfold mixed Proj.mix
  pointwise
  simp only [Ideal.mul_one_div (Proj.gate_ne _)]

/-- The projected rows, the four parts side by side. -/
def proj {F : FTy → Type} [FloatOps F] (x : FVec F S32x4x1024 .f32) (g : FVec F S1x1024 .f32) (w : FVec F S1x1024x4096 .f32) : FVec F S32x4x4096 .f32 :=
  Host.dotGeneral dot_S32x4x1024_S1024x4096_S32x4x4096_2_0_01_1_n_n none
    (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 (shapeCast S1024 g shapeCasts_S1x1024_S1024))))
    (shapeCast S1024x4096 w shapeCasts_S1x1024x4096_S1024x4096)

theorem proj_apply (x : FVec Ideal S32x4x1024 .f32) (g : FVec Ideal S1x1024 .f32) (w : FVec Ideal S1x1024x4096 .f32) (b : Fin 32) (p : Fin 4) (n : Fin 4096) :
    proj x g w (ix3 b p n) = ∑ k, Proj.rms (fun k => x (ix3 b p k)) (fun k => g (ix2 0 k)) k * w (ix3 0 k n) := by
  unfold proj Proj.rms
  pointwise
/-- The stream with the branch, row by row. -/
def outX {F : FTy → Type} [FloatOps F] (y : FVec F S32x4x1024 .f32) : FVec F S128x1024 .f32 :=
  shapeCast S128x1024 y shapeCasts_S32x4x1024_S128x1024
/-- The queries, row by row. -/
def outQ {F : FTy → Type} [FloatOps F] (y : FVec F S32x4x4096 .f32) : FVec F S128x1024 .f32 :=
  shapeCast S128x1024 (extractStridedSlice S32x4x1024 ![0, 0, 0] y slices_S32x4x4096_S32x4x1024_0_0_0) shapeCasts_S32x4x1024_S128x1024
/-- The keys, layer by layer, per head. -/
def outK {F : FTy → Type} [FloatOps F] (y : FVec F S32x4x4096 .f32) : FVec F S1x32x4x8x2x64 .f32 :=
  broadcastInDim S1x32x4x8x2x64 ![1, 2, 3, 4, 5] bcast_S32x4x8x2x64_S1x32x4x8x2x64_1_2_3_4_5 (shapeCast S32x4x8x2x64 (extractStridedSlice S32x4x1024 ![0, 0, 1024] y slices_S32x4x4096_S32x4x1024_0_0_1024) shapeCasts_S32x4x1024_S32x4x8x2x64)
/-- The values, layer by layer, per head. -/
def outV {F : FTy → Type} [FloatOps F] (y : FVec F S32x4x4096 .f32) : FVec F S1x32x4x8x128 .f32 :=
  broadcastInDim S1x32x4x8x128 ![1, 2, 3, 4] bcast_S32x4x8x128_S1x32x4x8x128_1_2_3_4 (shapeCast S32x4x8x128 (extractStridedSlice S32x4x1024 ![0, 0, 2048] y slices_S32x4x4096_S32x4x1024_0_0_2048) shapeCasts_S32x4x1024_S32x4x8x128)
/-- The gates, row by row. -/
def outZ {F : FTy → Type} [FloatOps F] (y : FVec F S32x4x4096 .f32) : FVec F S128x1024 .f32 :=
  shapeCast S128x1024 (extractStridedSlice S32x4x1024 ![0, 0, 3072] y slices_S32x4x4096_S32x4x1024_0_0_3072) shapeCasts_S32x4x1024_S128x1024

section points
variable (y : FVec Ideal S32x4x4096 .f32) (b : Fin 32) (p : Fin 4) (n : Fin 1024)

theorem outX_apply (y : FVec Ideal S32x4x1024 .f32) (R : Fin 128) (hR : R.val = 4 * b.val + p.val) : outX y (ix2 R n) = y (ix3 b p n) := by
  have h1 : (⟨R.val / 4, by omega⟩ : Fin 32) = b := Fin.ext (by show R.val / 4 = b.val; omega)
  have h2 : (⟨R.val % 4, by omega⟩ : Fin 4) = p := Fin.ext (by show R.val % 4 = p.val; omega)
  unfold outX
  pointwise
  rw [h1, h2]
theorem outQ_apply (R : Fin 128) (hR : R.val = 4 * b.val + p.val) : outQ y (ix2 R n) = y (ix3 b p (Proj.part0 n)) := by
  have h1 : (⟨R.val / 4, by omega⟩ : Fin 32) = b := Fin.ext (by show R.val / 4 = b.val; omega)
  have h2 : (⟨R.val % 4, by omega⟩ : Fin 4) = p := Fin.ext (by show R.val % 4 = p.val; omega)
  unfold outQ
  pointwise
  rw [h1, h2]
theorem outZ_apply (R : Fin 128) (hR : R.val = 4 * b.val + p.val) : outZ y (ix2 R n) = y (ix3 b p (Proj.part3 n)) := by
  have h1 : (⟨R.val / 4, by omega⟩ : Fin 32) = b := Fin.ext (by show R.val / 4 = b.val; omega)
  have h2 : (⟨R.val % 4, by omega⟩ : Fin 4) = p := Fin.ext (by show R.val % 4 = p.val; omega)
  unfold outZ
  pointwise
  rw [h1, h2]
theorem outK_apply (h : Fin 8) (e : Fin 2) (d : Fin 64) : outK y (ix6 0 b p h e d) = y (ix3 b p (Proj.part1 ⟨h.val * 128 + e.val * 64 + d.val, by omega⟩)) := by
  unfold outK
  pointwise
theorem outV_apply (h : Fin 8) (d : Fin 128) : outV y (ix5 0 b p h d) = y (ix3 b p (Proj.part2 ⟨h.val * 128 + d.val, by omega⟩)) := by
  unfold outV
  pointwise
end points

end Cert.Reference6Ideal.Hand

namespace Cert.Kernel6Ideal.Hand
open Cert.Kernel6Ideal Cert.Kernel6Ideal.Gen
open Idealize.ShloMosaic Idealize.ShloMosaic.TcCoe Idealize.SL.Sem

theorem pay4_apply (z o x : Vec Ideal S128x1024 .f32) (w : Vec Ideal S1024x1024 .bf16) (a : Fin 128) (n : Fin 1024) :
    k0_pay4 z o x w (ix2 a n) = Proj.mix (fun k => o (ix2 a k)) (fun k => z (ix2 a k)) (fun k => x (ix2 a k)) (fun k n => w (ix2 k n)) n := by
  unfold Proj.mix
  pointwise [k0_pay4]
  simp only [zero_sub]

theorem pay5_apply (z o x : Vec Ideal S128x1024 .f32) (w : Vec Ideal S1024x1024 .bf16) (g : Vec Ideal S1x1024 .f32) (a : Fin 128) (n : Fin 1024) :
    k0_pay5 z o x w g (ix2 a n) = Proj.rms (fun k => k0_pay4 z o x w (ix2 a k)) (fun k => g (ix2 0 k)) n := by
  unfold Proj.rms
  pointwise [k0_pay5]

theorem pay6_apply (z o x : Vec Ideal S128x1024 .f32) (w : Vec Ideal S1024x1024 .bf16) (g : Vec Ideal S1x1024 .f32) (v : Vec Ideal S1024x1024 .bf16) (a : Fin 128) (n : Fin 1024) :
    k0_pay6 z o x w g v (ix2 a n) = ∑ k, k0_pay5 z o x w g (ix2 a k) * v (ix2 k n) := by
  pointwise [k0_pay6]

theorem pay1_apply (x : FVec Ideal S128x1024 .bf16) (v : Vec Ideal S1024x1024 .bf16) (a : Fin 128) (n : Fin 1024) :
    k0_pay1 x v (ix2 a n) = ∑ k, x (ix2 a k) * v (ix2 k n) := by
  pointwise [k0_pay1]

theorem pay2_apply (x : FVec Ideal S128x1024 .bf16) (v : Vec Ideal S1024x1024 .bf16) (a : Fin 128) (n : Fin 1024) :
    k0_pay2 x v (ix2 a n) = ∑ k, x (ix2 a k) * v (ix2 k n) := by
  pointwise [k0_pay2]

theorem pay3_apply (x : FVec Ideal S128x1024 .bf16) (v : Vec Ideal S1024x1024 .bf16) (a : Fin 128) (n : Fin 1024) :
    k0_pay3 x v (ix2 a n) = ∑ k, x (ix2 a k) * v (ix2 k n) := by
  pointwise [k0_pay3]

theorem pay7_eq (x0 : Vec Ideal S128x1024 .f32) (x1 : Vec Ideal S128x1024 .f32) (x2 : Vec Ideal S128x1024 .f32) (x3 : Vec Ideal S1024x1024 .bf16) (x4 : Vec Ideal S1x1024 .f32) (x5 : Vec Ideal S1024x1024 .bf16) (x6 : Vec Ideal S1024x1024 .bf16) (x7 : Vec Ideal S1024x1024 .bf16) (x8 : Vec Ideal S1024x1024 .bf16) :
    k0_pay7 x0 x1 x2 x3 x4 x5 x6 x7 x8 = k0_pay5 x1 x0 x2 x3 x4 := by
  unfold k0_pay7
  rw [View.ld_unit_lit _ _ (by decide), View.ld_unit_lit _ _ (by decide), View.ld_unit_lit _ _ (by decide), View.ld_unit_lit _ _ (by decide), View.ld_unit_lit _ _ (by decide)]

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![t.val, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, 0] := by decide +kernel
theorem index8 : ∀ t : Fin cfg0.N, (cfg0.win 8).index t = ![0, 0] := by decide +kernel
theorem index9 : ∀ t : Fin cfg0.N, (cfg0.win 9).index t = ![t.val, 0] := by decide +kernel
theorem index10 : ∀ t : Fin cfg0.N, (cfg0.win 10).index t = ![t.val, 0] := by decide +kernel
theorem index11 : ∀ t : Fin cfg0.N, (cfg0.win 11).index t = ![t.val, 0] := by decide +kernel
theorem index12 : ∀ t : Fin cfg0.N, (cfg0.win 12).index t = ![t.val, 0] := by decide +kernel
theorem index13 : ∀ t : Fin cfg0.N, (cfg0.win 13).index t = ![t.val, 0] := by decide +kernel

variable (m : (ℓ : Loc nD τ sig) → Buf (Elt Ideal) ℓ) (c : Dev nD)

/-- Argument 0. -/
abbrev argo : FVec Ideal S32x4x1024 .f32 := m ((c.tc : Thread nD τ).loc main_arg0)
/-- Argument 1. -/
abbrev argz : FVec Ideal S32x4x1024 .f32 := m ((c.tc : Thread nD τ).loc main_arg1)
/-- Argument 2. -/
abbrev argx : FVec Ideal S32x4x1024 .f32 := m ((c.tc : Thread nD τ).loc main_arg2)
/-- Argument 3. -/
abbrev argw : FVec Ideal S1x1024x1024 .f32 := m ((c.tc : Thread nD τ).loc main_arg3)
/-- Argument 4. -/
abbrev argg : FVec Ideal S1x1024 .f32 := m ((c.tc : Thread nD τ).loc main_arg4)
/-- Argument 5. -/
abbrev argi : FVec Ideal S1x1024x4096 .f32 := m ((c.tc : Thread nD τ).loc main_arg5)

theorem Vo : V m c main_v0 = shapeCast S128x1024 (argo m c) shapeCasts_S32x4x1024_S128x1024 := by
  entry_read
  rfl
theorem Vz : V m c main_v1 = shapeCast S128x1024 (argz m c) shapeCasts_S32x4x1024_S128x1024 := by
  entry_read
  rfl
theorem Vx : V m c main_v2 = shapeCast S128x1024 (argx m c) shapeCasts_S32x4x1024_S128x1024 := by
  entry_read
  rfl
theorem Vw : V m c main_v6 = truncf (F := Ideal) .bf16 (shapeCast S1024x1024 (argw m c) shapeCasts_S1x1024x1024_S1024x1024) bitsLt_bf16_f32 := by
  entry_read
  rfl
theorem Vg : V m c main_v7 = shapeCast S1x1024 (shapeCast S1024 (argg m c) shapeCasts_S1x1024_S1024) shapeCasts_S1024_S1x1024 := by
  entry_read
  rfl
theorem Vi0 : V m c main_v9 = truncf (F := Ideal) .bf16 (extractStridedSlice S1024x1024 ![0, 0] (shapeCast S1024x4096 (argi m c) shapeCasts_S1x1024x4096_S1024x4096) slices_S1024x4096_S1024x1024_0_0) bitsLt_bf16_f32 := by
  entry_read
  rfl
theorem Vi1 : V m c main_v11 = truncf (F := Ideal) .bf16 (extractStridedSlice S1024x1024 ![0, 1024] (shapeCast S1024x4096 (argi m c) shapeCasts_S1x1024x4096_S1024x4096) slices_S1024x4096_S1024x1024_0_1024) bitsLt_bf16_f32 := by
  entry_read
  rfl
theorem Vi2 : V m c main_v13 = truncf (F := Ideal) .bf16 (extractStridedSlice S1024x1024 ![0, 2048] (shapeCast S1024x4096 (argi m c) shapeCasts_S1x1024x4096_S1024x4096) slices_S1024x4096_S1024x1024_0_2048) bitsLt_bf16_f32 := by
  entry_read
  rfl
theorem Vi3 : V m c main_v15 = truncf (F := Ideal) .bf16 (extractStridedSlice S1024x1024 ![0, 3072] (shapeCast S1024x4096 (argi m c) shapeCasts_S1x1024x4096_S1024x4096) slices_S1024x4096_S1024x1024_0_3072) bitsLt_bf16_f32 := by
  entry_read
  rfl

theorem emb0 (t : Fin cfg0.N) (a : Fin 128) (k : Fin 1024) (R : Fin 128) (hR : R.val = 128 * t.val + a.val) : ((cfg0.win 0).blk t).view.emb (ix2 a k) = ix2 R k := by
  refine funext fun x => Fin.ext ?_
  match x with
  | 0 => exact (Pipeline.Window.rect_emb_val (cfg0.win 0) t (ix2 a k) 0).trans (by rw [index0]; show t.val * 128 + a.val = R.val; omega)
  | 1 => exact (Pipeline.Window.rect_emb_val (cfg0.win 0) t (ix2 a k) 1).trans (by rw [index0]; show 0 * 1024 + k.val = k.val; omega)
theorem emb1 (t : Fin cfg0.N) (a : Fin 128) (k : Fin 1024) (R : Fin 128) (hR : R.val = 128 * t.val + a.val) : ((cfg0.win 1).blk t).view.emb (ix2 a k) = ix2 R k := by
  refine funext fun x => Fin.ext ?_
  match x with
  | 0 => exact (Pipeline.Window.rect_emb_val (cfg0.win 1) t (ix2 a k) 0).trans (by rw [index1]; show t.val * 128 + a.val = R.val; omega)
  | 1 => exact (Pipeline.Window.rect_emb_val (cfg0.win 1) t (ix2 a k) 1).trans (by rw [index1]; show 0 * 1024 + k.val = k.val; omega)
theorem emb2 (t : Fin cfg0.N) (a : Fin 128) (k : Fin 1024) (R : Fin 128) (hR : R.val = 128 * t.val + a.val) : ((cfg0.win 2).blk t).view.emb (ix2 a k) = ix2 R k := by
  refine funext fun x => Fin.ext ?_
  match x with
  | 0 => exact (Pipeline.Window.rect_emb_val (cfg0.win 2) t (ix2 a k) 0).trans (by rw [index2]; show t.val * 128 + a.val = R.val; omega)
  | 1 => exact (Pipeline.Window.rect_emb_val (cfg0.win 2) t (ix2 a k) 1).trans (by rw [index2]; show 0 * 1024 + k.val = k.val; omega)
theorem emb3 (t : Fin cfg0.N) (a b : Fin 1024) : ((cfg0.win 3).blk t).view.emb (ix2 a b) = ix2 a b := by
  refine funext fun x => Fin.ext ?_
  match x with
  | 0 => exact (Pipeline.Window.rect_emb_val (cfg0.win 3) t (ix2 a b) 0).trans (by rw [index3]; show 0 * 1024 + a.val = a.val; omega)
  | 1 => exact (Pipeline.Window.rect_emb_val (cfg0.win 3) t (ix2 a b) 1).trans (by rw [index3]; show 0 * 1024 + b.val = b.val; omega)
theorem emb4 (t : Fin cfg0.N) (k : Fin 1024) : ((cfg0.win 4).blk t).view.emb (ix2 0 k) = ix2 0 k := by
  refine funext fun x => Fin.ext ?_
  match x with
  | 0 => exact (Pipeline.Window.rect_emb_val (cfg0.win 4) t (ix2 0 k) 0).trans (by rw [index4]; rfl)
  | 1 => exact (Pipeline.Window.rect_emb_val (cfg0.win 4) t (ix2 0 k) 1).trans (by rw [index4]; show 0 * 1024 + k.val = k.val; omega)
theorem emb5 (t : Fin cfg0.N) (a b : Fin 1024) : ((cfg0.win 5).blk t).view.emb (ix2 a b) = ix2 a b := by
  refine funext fun x => Fin.ext ?_
  match x with
  | 0 => exact (Pipeline.Window.rect_emb_val (cfg0.win 5) t (ix2 a b) 0).trans (by rw [index5]; show 0 * 1024 + a.val = a.val; omega)
  | 1 => exact (Pipeline.Window.rect_emb_val (cfg0.win 5) t (ix2 a b) 1).trans (by rw [index5]; show 0 * 1024 + b.val = b.val; omega)
theorem emb6 (t : Fin cfg0.N) (a b : Fin 1024) : ((cfg0.win 6).blk t).view.emb (ix2 a b) = ix2 a b := by
  refine funext fun x => Fin.ext ?_
  match x with
  | 0 => exact (Pipeline.Window.rect_emb_val (cfg0.win 6) t (ix2 a b) 0).trans (by rw [index6]; show 0 * 1024 + a.val = a.val; omega)
  | 1 => exact (Pipeline.Window.rect_emb_val (cfg0.win 6) t (ix2 a b) 1).trans (by rw [index6]; show 0 * 1024 + b.val = b.val; omega)
theorem emb7 (t : Fin cfg0.N) (a b : Fin 1024) : ((cfg0.win 7).blk t).view.emb (ix2 a b) = ix2 a b := by
  refine funext fun x => Fin.ext ?_
  match x with
  | 0 => exact (Pipeline.Window.rect_emb_val (cfg0.win 7) t (ix2 a b) 0).trans (by rw [index7]; show 0 * 1024 + a.val = a.val; omega)
  | 1 => exact (Pipeline.Window.rect_emb_val (cfg0.win 7) t (ix2 a b) 1).trans (by rw [index7]; show 0 * 1024 + b.val = b.val; omega)
theorem emb8 (t : Fin cfg0.N) (a b : Fin 1024) : ((cfg0.win 8).blk t).view.emb (ix2 a b) = ix2 a b := by
  refine funext fun x => Fin.ext ?_
  match x with
  | 0 => exact (Pipeline.Window.rect_emb_val (cfg0.win 8) t (ix2 a b) 0).trans (by rw [index8]; show 0 * 1024 + a.val = a.val; omega)
  | 1 => exact (Pipeline.Window.rect_emb_val (cfg0.win 8) t (ix2 a b) 1).trans (by rw [index8]; show 0 * 1024 + b.val = b.val; omega)
theorem emb9 (t : Fin cfg0.N) (a : Fin 128) (k : Fin 1024) (R : Fin 128) (hR : R.val = 128 * t.val + a.val) : ((cfg0.win 9).blk t).view.emb (ix2 a k) = ix2 R k := by
  refine funext fun x => Fin.ext ?_
  match x with
  | 0 => exact (Pipeline.Window.rect_emb_val (cfg0.win 9) t (ix2 a k) 0).trans (by rw [index9]; show t.val * 128 + a.val = R.val; omega)
  | 1 => exact (Pipeline.Window.rect_emb_val (cfg0.win 9) t (ix2 a k) 1).trans (by rw [index9]; show 0 * 1024 + k.val = k.val; omega)
theorem emb10 (t : Fin cfg0.N) (a : Fin 128) (k : Fin 1024) (R : Fin 128) (hR : R.val = 128 * t.val + a.val) : ((cfg0.win 10).blk t).view.emb (ix2 a k) = ix2 R k := by
  refine funext fun x => Fin.ext ?_
  match x with
  | 0 => exact (Pipeline.Window.rect_emb_val (cfg0.win 10) t (ix2 a k) 0).trans (by rw [index10]; show t.val * 128 + a.val = R.val; omega)
  | 1 => exact (Pipeline.Window.rect_emb_val (cfg0.win 10) t (ix2 a k) 1).trans (by rw [index10]; show 0 * 1024 + k.val = k.val; omega)
theorem emb11 (t : Fin cfg0.N) (a : Fin 128) (k : Fin 1024) (R : Fin 128) (hR : R.val = 128 * t.val + a.val) : ((cfg0.win 11).blk t).view.emb (ix2 a k) = ix2 R k := by
  refine funext fun x => Fin.ext ?_
  match x with
  | 0 => exact (Pipeline.Window.rect_emb_val (cfg0.win 11) t (ix2 a k) 0).trans (by rw [index11]; show t.val * 128 + a.val = R.val; omega)
  | 1 => exact (Pipeline.Window.rect_emb_val (cfg0.win 11) t (ix2 a k) 1).trans (by rw [index11]; show 0 * 1024 + k.val = k.val; omega)
theorem emb12 (t : Fin cfg0.N) (a : Fin 128) (k : Fin 1024) (R : Fin 128) (hR : R.val = 128 * t.val + a.val) : ((cfg0.win 12).blk t).view.emb (ix2 a k) = ix2 R k := by
  refine funext fun x => Fin.ext ?_
  match x with
  | 0 => exact (Pipeline.Window.rect_emb_val (cfg0.win 12) t (ix2 a k) 0).trans (by rw [index12]; show t.val * 128 + a.val = R.val; omega)
  | 1 => exact (Pipeline.Window.rect_emb_val (cfg0.win 12) t (ix2 a k) 1).trans (by rw [index12]; show 0 * 1024 + k.val = k.val; omega)
theorem emb13 (t : Fin cfg0.N) (a : Fin 128) (k : Fin 1024) (R : Fin 128) (hR : R.val = 128 * t.val + a.val) : ((cfg0.win 13).blk t).view.emb (ix2 a k) = ix2 R k := by
  refine funext fun x => Fin.ext ?_
  match x with
  | 0 => exact (Pipeline.Window.rect_emb_val (cfg0.win 13) t (ix2 a k) 0).trans (by rw [index13]; show t.val * 128 + a.val = R.val; omega)
  | 1 => exact (Pipeline.Window.rect_emb_val (cfg0.win 13) t (ix2 a k) 1).trans (by rw [index13]; show 0 * 1024 + k.val = k.val; omega)

theorem blk0 (t : Fin cfg0.N) (a : Fin 128) (k : Fin 1024) (b : Fin 32) (p : Fin 4) (h : 4 * b.val + p.val = 128 * t.val + a.val) :
    iblk m c 0 t (ix2 a k) = argo m c (ix3 b p k) := by
  refine (congrArg (V m c main_v0) (emb0 t a k ⟨4 * b.val + p.val, by omega⟩ h)).trans ?_
  rw [Vo]
  pointwise
theorem blk1 (t : Fin cfg0.N) (a : Fin 128) (k : Fin 1024) (b : Fin 32) (p : Fin 4) (h : 4 * b.val + p.val = 128 * t.val + a.val) :
    iblk m c 1 t (ix2 a k) = argz m c (ix3 b p k) := by
  refine (congrArg (V m c main_v1) (emb1 t a k ⟨4 * b.val + p.val, by omega⟩ h)).trans ?_
  rw [Vz]
  pointwise
theorem blk2 (t : Fin cfg0.N) (a : Fin 128) (k : Fin 1024) (b : Fin 32) (p : Fin 4) (h : 4 * b.val + p.val = 128 * t.val + a.val) :
    iblk m c 2 t (ix2 a k) = argx m c (ix3 b p k) := by
  refine (congrArg (V m c main_v2) (emb2 t a k ⟨4 * b.val + p.val, by omega⟩ h)).trans ?_
  rw [Vx]
  pointwise
theorem blk3 (t : Fin cfg0.N) (k n : Fin 1024) : iblk m c 3 t (ix2 k n) = argw m c (ix3 0 k n) := by
  refine (congrArg (V m c main_v6) (emb3 t k n)).trans ?_
  rw [Vw]
  pointwise
theorem blk4 (t : Fin cfg0.N) (k : Fin 1024) : iblk m c 4 t (ix2 0 k) = argg m c (ix2 0 k) := by
  refine (congrArg (V m c main_v7) (emb4 t k)).trans ?_
  rw [Vg]
  pointwise
theorem blk5 (t : Fin cfg0.N) (k n : Fin 1024) : iblk m c 5 t (ix2 k n) = argi m c (ix3 0 k (Proj.part0 n)) := by
  refine (congrArg (V m c main_v9) (emb5 t _ _)).trans ?_
  rw [Vi0]
  pointwise
theorem blk6 (t : Fin cfg0.N) (k n : Fin 1024) : iblk m c 6 t (ix2 k n) = argi m c (ix3 0 k (Proj.part1 n)) := by
  refine (congrArg (V m c main_v11) (emb6 t _ _)).trans ?_
  rw [Vi1]
  pointwise
theorem blk7 (t : Fin cfg0.N) (k n : Fin 1024) : iblk m c 7 t (ix2 k n) = argi m c (ix3 0 k (Proj.part2 n)) := by
  refine (congrArg (V m c main_v13) (emb7 t _ _)).trans ?_
  rw [Vi2]
  pointwise
theorem blk8 (t : Fin cfg0.N) (k n : Fin 1024) : iblk m c 8 t (ix2 k n) = argi m c (ix3 0 k (Proj.part3 n)) := by
  refine (congrArg (V m c main_v15) (emb8 t _ _)).trans ?_
  rw [Vi3]
  pointwise

/-- The reference's stream with the branch added, of the run's arguments. -/
abbrev M : FVec Ideal Reference6Ideal.S32x4x1024 .f32 := Reference6Ideal.Hand.mixed (F := Ideal) (argo m c) (argz m c) (argx m c) (argw m c)

/-- The reference's projected rows, of the run's arguments. -/
abbrev Y : FVec Ideal Reference6Ideal.S32x4x4096 .f32 := Reference6Ideal.Hand.proj (F := Ideal) (M m c) (argg m c) (argi m c)

theorem Y_apply (b : Fin 32) (p : Fin 4) (n : Fin 4096) :
    Y m c (ix3 b p n) = ∑ k, Proj.rms (fun k => M m c (ix3 b p k)) (fun k => argg m c (ix2 0 k)) k * argi m c (ix3 0 k n) :=
  Reference6Ideal.Hand.proj_apply _ _ _ b p n

/-- A point's rows with the branch. -/
theorem mix_blk (t : Fin cfg0.N) (a : Fin 128) (n : Fin 1024) (b : Fin 32) (p : Fin 4) (h : 4 * b.val + p.val = 128 * t.val + a.val) :
    k0_pay4 (iblk m c 1 t) (iblk m c 0 t) (iblk m c 2 t) (iblk m c 3 t) (ix2 a n) = M m c (ix3 b p n) := by
  refine (pay4_apply _ _ _ _ a n).trans (Eq.trans ?_ (Reference6Ideal.Hand.mixed_apply _ _ _ _ b p n).symm)
  rw [funext fun k => blk0 m c t a k b p h, funext fun k => blk1 m c t a k b p h, funext fun k => blk2 m c t a k b p h, funext fun k => funext fun n => blk3 m c t k n]

/-- A point's rows, normed. -/
theorem nrm_blk (t : Fin cfg0.N) (a : Fin 128) (n : Fin 1024) (b : Fin 32) (p : Fin 4) (h : 4 * b.val + p.val = 128 * t.val + a.val) :
    k0_pay5 (iblk m c 1 t) (iblk m c 0 t) (iblk m c 2 t) (iblk m c 3 t) (iblk m c 4 t) (ix2 a n) = Proj.rms (fun k => M m c (ix3 b p k)) (fun k => argg m c (ix2 0 k)) n := by
  refine (pay5_apply _ _ _ _ _ a n).trans ?_
  rw [funext fun k => mix_blk m c t a k b p h, funext fun k => blk4 m c t k]

/-- A part of the projected rows, row by row. -/
def rows (e : Fin 1024 → Fin 4096) (y : FVec Ideal Reference6Ideal.S32x4x4096 .f32) : FVec Ideal S128x1024 .f32 :=
  fun i => y (ix3 ⟨(i 0).val / 4, by have h : (i 0).val < 128 := (i 0).isLt; omega⟩ ⟨(i 0).val % 4, by omega⟩ (e (i 1)))

theorem rows_apply (e : Fin 1024 → Fin 4096) (y : FVec Ideal Reference6Ideal.S32x4x4096 .f32) (R : Fin 128) (n : Fin 1024) (b : Fin 32) (p : Fin 4) (hR : R.val = 4 * b.val + p.val) :
    rows e y (ix2 R n) = y (ix3 b p (e n)) := by
  have h1 : (⟨R.val / 4, by omega⟩ : Fin 32) = b := Fin.ext (by show R.val / 4 = b.val; omega)
  have h2 : (⟨R.val % 4, by omega⟩ : Fin 4) = p := Fin.ext (by show R.val % 4 = p.val; omega)
  show y (ix3 ⟨R.val / 4, _⟩ ⟨R.val % 4, _⟩ (e n)) = _
  rw [h1, h2]

theorem split (R : ℕ) (hR : R < 128) : ∃ (b : Fin 32) (p : Fin 4), 4 * b.val + p.val = R :=
  ⟨⟨R / 4, by omega⟩, ⟨R % 4, by omega⟩, by show 4 * (R / 4) + R % 4 = _; omega⟩

theorem outQ_rows (y : FVec Ideal Reference6Ideal.S32x4x4096 .f32) : rows Proj.part0 y = Reference6Ideal.Hand.outQ (F := Ideal) y := by
  refine funext fun i => ?_
  obtain ⟨R, n, rfl⟩ : ∃ (R : Fin 128) (n : Fin 1024), i = ix2 R n := ⟨i 0, i 1, eq_ix2 i⟩
  obtain ⟨b, p, h⟩ := split R.val R.isLt
  rw [rows_apply _ y R n b p h.symm, Reference6Ideal.Hand.outQ_apply y b p n R h.symm]

theorem outZ_rows (y : FVec Ideal Reference6Ideal.S32x4x4096 .f32) : rows Proj.part3 y = Reference6Ideal.Hand.outZ (F := Ideal) y := by
  refine funext fun i => ?_
  obtain ⟨R, n, rfl⟩ : ∃ (R : Fin 128) (n : Fin 1024), i = ix2 R n := ⟨i 0, i 1, eq_ix2 i⟩
  obtain ⟨b, p, h⟩ := split R.val R.isLt
  rw [rows_apply _ y R n b p h.symm, Reference6Ideal.Hand.outZ_apply y b p n R h.symm]

theorem arr9 : (dats m 0 c).arrAt 9 cfg0.N = Reference6Ideal.Hand.outX (F := Ideal) (M m c) := by
  refine (dats m 0 c).arrAt_eq_of_covers 9 _ (by decide +kernel) fun t hf y => ?_
  obtain ⟨a, n, rfl⟩ : ∃ (a : Fin 128) (n : Fin 1024), y = ix2 a n := ⟨y 0, y 1, eq_ix2 y⟩
  blk_simp
  rw [after0_9]
  frame_out
  have ht : t.val < 1 := t.isLt
  obtain ⟨b, p, h⟩ := split (128 * t.val + a.val) (by omega)
  refine Eq.trans ?_ (congrArg (Reference6Ideal.Hand.outX (F := Ideal) (M m c)) (emb9 t a n ⟨128 * t.val + a.val, by omega⟩ rfl)).symm
  rw [Reference6Ideal.Hand.outX_apply b p n _ _ h.symm]
  exact mix_blk m c t a n b p h

theorem arr10 : (dats m 0 c).arrAt 10 cfg0.N = rows Proj.part0 (Y m c) := by
  refine (dats m 0 c).arrAt_eq_of_covers 10 _ (by decide +kernel) fun t hf y => ?_
  obtain ⟨a, n, rfl⟩ : ∃ (a : Fin 128) (n : Fin 1024), y = ix2 a n := ⟨y 0, y 1, eq_ix2 y⟩
  blk_simp
  rw [after0_10]
  frame_out
  have ht : t.val < 1 := t.isLt
  obtain ⟨b, p, h⟩ := split (128 * t.val + a.val) (by omega)
  refine Eq.trans ?_ (congrArg (rows Proj.part0 (Y m c)) (emb10 t a n ⟨128 * t.val + a.val, by omega⟩ rfl)).symm
  rw [rows_apply _ _ _ n b p h.symm, Y_apply]
  refine (pay6_apply _ _ _ _ _ _ a n).trans (Finset.sum_congr rfl fun k _ => ?_)
  rw [nrm_blk m c t a k b p h, blk5]

theorem arr11 : (dats m 0 c).arrAt 11 cfg0.N = rows Proj.part1 (Y m c) := by
  refine (dats m 0 c).arrAt_eq_of_covers 11 _ (by decide +kernel) fun t hf y => ?_
  obtain ⟨a, n, rfl⟩ : ∃ (a : Fin 128) (n : Fin 1024), y = ix2 a n := ⟨y 0, y 1, eq_ix2 y⟩
  blk_simp
  rw [after0_11]
  frame_out
  rw [pay7_eq]
  have ht : t.val < 1 := t.isLt
  obtain ⟨b, p, h⟩ := split (128 * t.val + a.val) (by omega)
  refine Eq.trans ?_ (congrArg (rows Proj.part1 (Y m c)) (emb11 t a n ⟨128 * t.val + a.val, by omega⟩ rfl)).symm
  rw [rows_apply _ _ _ n b p h.symm, Y_apply]
  refine (pay1_apply _ _ a n).trans (Finset.sum_congr rfl fun k _ => ?_)
  rw [nrm_blk m c t a k b p h, blk6]

theorem arr12 : (dats m 0 c).arrAt 12 cfg0.N = rows Proj.part2 (Y m c) := by
  refine (dats m 0 c).arrAt_eq_of_covers 12 _ (by decide +kernel) fun t hf y => ?_
  obtain ⟨a, n, rfl⟩ : ∃ (a : Fin 128) (n : Fin 1024), y = ix2 a n := ⟨y 0, y 1, eq_ix2 y⟩
  blk_simp
  rw [after0_12]
  frame_out
  rw [pay7_eq]
  have ht : t.val < 1 := t.isLt
  obtain ⟨b, p, h⟩ := split (128 * t.val + a.val) (by omega)
  refine Eq.trans ?_ (congrArg (rows Proj.part2 (Y m c)) (emb12 t a n ⟨128 * t.val + a.val, by omega⟩ rfl)).symm
  rw [rows_apply _ _ _ n b p h.symm, Y_apply]
  refine (pay2_apply _ _ a n).trans (Finset.sum_congr rfl fun k _ => ?_)
  rw [nrm_blk m c t a k b p h, blk7]

theorem arr13 : (dats m 0 c).arrAt 13 cfg0.N = rows Proj.part3 (Y m c) := by
  refine (dats m 0 c).arrAt_eq_of_covers 13 _ (by decide +kernel) fun t hf y => ?_
  obtain ⟨a, n, rfl⟩ : ∃ (a : Fin 128) (n : Fin 1024), y = ix2 a n := ⟨y 0, y 1, eq_ix2 y⟩
  blk_simp
  rw [after0_13]
  frame_out
  rw [pay7_eq]
  have ht : t.val < 1 := t.isLt
  obtain ⟨b, p, h⟩ := split (128 * t.val + a.val) (by omega)
  refine Eq.trans ?_ (congrArg (rows Proj.part3 (Y m c)) (emb13 t a n ⟨128 * t.val + a.val, by omega⟩ rfl)).symm
  rw [rows_apply _ _ _ n b p h.symm, Y_apply]
  refine (pay3_apply _ _ a n).trans (Finset.sum_congr rfl fun k _ => ?_)
  rw [nrm_blk m c t a k b p h, blk8]

/-- What the lines after the call make of the keys. -/
def tailK (A : FVec Ideal S128x1024 .f32) : FVec Ideal S1x32x4x8x2x64 .f32 :=
  broadcastInDim S1x32x4x8x2x64 ![1, 2, 3, 4, 5] bcast_S32x4x8x2x64_S1x32x4x8x2x64_1_2_3_4_5 (shapeCast S32x4x8x2x64 A shapeCasts_S128x1024_S32x4x8x2x64)

theorem tailK_apply (A : FVec Ideal S128x1024 .f32) (b : Fin 32) (p : Fin 4) (h : Fin 8) (e : Fin 2) (d : Fin 64) : tailK A (ix6 0 b p h e d) = A (ix2 ⟨b.val * 4 + p.val, by omega⟩ ⟨h.val * 128 + e.val * 64 + d.val, by omega⟩) := by
  unfold tailK
  pointwise

theorem eq_K (y : S1x32x4x8x2x64.Idx) : y = ix6 0 (y 1) (y 2) (y 3) (y 4) (y 5) :=
  (eq_ix6 y).trans (congrArg (fun z : Fin 1 => (ix6 z (y 1) (y 2) (y 3) (y 4) (y 5) : S1x32x4x8x2x64.Idx)) (Subsingleton.elim (α := Fin 1) (y 0) 0))

theorem tailK_eq (y : FVec Ideal Reference6Ideal.S32x4x4096 .f32) : tailK (rows Proj.part1 y) = Reference6Ideal.Hand.outK (F := Ideal) y := by
  refine funext fun i => ?_
  obtain ⟨b, p, h, e, d, rfl⟩ : ∃ (b : Fin 32) (p : Fin 4) (h : Fin 8) (e : Fin 2) (d : Fin 64), i = ix6 0 b p h e d := ⟨i 1, i 2, i 3, i 4, i 5, eq_K i⟩
  exact (tailK_apply _ b p h e d).trans ((rows_apply _ y ⟨b.val * 4 + p.val, by omega⟩ ⟨h.val * 128 + e.val * 64 + d.val, by omega⟩ b p (by show b.val * 4 + p.val = _; omega)).trans (Reference6Ideal.Hand.outK_apply y b p h e d).symm)

theorem tail18 : Pipeline.afterTail₀ cfgs (dats m) 0 (V0 m) [hostOps1] c main_v18 = tailK ((dats m 0 c).arrAt 11 cfg0.N) := by
  unfold Pipeline.afterTail₀ tailK
  after_results
  rw [← show Pipeline.withArrays spec0 c (V0 m c) (fun w => (dats m 0 c).arrAt w cfg0.N) (Proc.devRef .tc main_v16_2) = (dats m 0 c).arrAt 11 cfg0.N from Pipeline.withArrays_arr spec0 (by decide) c _ _ 11]
  rfl

/-- What the lines after the call make of the values. -/
def tailV (A : FVec Ideal S128x1024 .f32) : FVec Ideal S1x32x4x8x128 .f32 :=
  broadcastInDim S1x32x4x8x128 ![1, 2, 3, 4] bcast_S32x4x8x128_S1x32x4x8x128_1_2_3_4 (shapeCast S32x4x8x128 A shapeCasts_S128x1024_S32x4x8x128)

theorem tailV_apply (A : FVec Ideal S128x1024 .f32) (b : Fin 32) (p : Fin 4) (h : Fin 8) (d : Fin 128) : tailV A (ix5 0 b p h d) = A (ix2 ⟨b.val * 4 + p.val, by omega⟩ ⟨h.val * 128 + d.val, by omega⟩) := by
  unfold tailV
  pointwise

theorem eq_V (y : S1x32x4x8x128.Idx) : y = ix5 0 (y 1) (y 2) (y 3) (y 4) :=
  (eq_ix5 y).trans (congrArg (fun z : Fin 1 => (ix5 z (y 1) (y 2) (y 3) (y 4) : S1x32x4x8x128.Idx)) (Subsingleton.elim (α := Fin 1) (y 0) 0))

theorem tailV_eq (y : FVec Ideal Reference6Ideal.S32x4x4096 .f32) : tailV (rows Proj.part2 y) = Reference6Ideal.Hand.outV (F := Ideal) y := by
  refine funext fun i => ?_
  obtain ⟨b, p, h, d, rfl⟩ : ∃ (b : Fin 32) (p : Fin 4) (h : Fin 8) (d : Fin 128), i = ix5 0 b p h d := ⟨i 1, i 2, i 3, i 4, eq_V i⟩
  exact (tailV_apply _ b p h d).trans ((rows_apply _ y ⟨b.val * 4 + p.val, by omega⟩ ⟨h.val * 128 + d.val, by omega⟩ b p (by show b.val * 4 + p.val = _; omega)).trans (Reference6Ideal.Hand.outV_apply y b p h d).symm)

theorem tail20 : Pipeline.afterTail₀ cfgs (dats m) 0 (V0 m) [hostOps1] c main_v20 = tailV ((dats m 0 c).arrAt 12 cfg0.N) := by
  unfold Pipeline.afterTail₀ tailV
  after_results
  rw [← show Pipeline.withArrays spec0 c (V0 m c) (fun w => (dats m 0 c).arrAt w cfg0.N) (Proc.devRef .tc main_v16_3) = (dats m 0 c).arrAt 12 cfg0.N from Pipeline.withArrays_arr spec0 (by decide) c _ _ 12]
  rfl

end Cert.Kernel6Ideal.Hand

namespace Cert.Proj
open Idealize.ShloMosaic Idealize.ShloMosaic.TcCoe Idealize.SL.Sem
open Cert.Kernel6Ideal Cert.Kernel6Ideal.Gen Cert.Kernel6Ideal.Hand

theorem algebraic6 : Cert.algebraic_Kernel6Ideal_Reference6Ideal := by
  intro m g m' g' _ hag
  refine ⟨fun c => Reference6Ideal.Hand.outX (F := Ideal) (M m c), fun c => Reference6Ideal.Hand.outQ (F := Ideal) (Y m c), fun c => Reference6Ideal.Hand.outK (F := Ideal) (Y m c), fun c => Reference6Ideal.Hand.outV (F := Ideal) (Y m c), fun c => Reference6Ideal.Hand.outZ (F := Ideal) (Y m c), ?_, ?_⟩
  · refine (θ_run _ _ _).mono (fun r h c => ⟨?_, ?_, ?_, ?_, ?_, h.2 c⟩) (θ_run_and (run_main m g) (unchanged m g))
    · exact (Pipeline.FramePost.out_eq h.1 c 9).trans (arr9 m c)
    · exact (Pipeline.FramePost.out_eq h.1 c 10).trans ((arr10 m c).trans (outQ_rows _))
    · exact ((h.1 c).2 main_v18 (Pipeline.mem_restRefs_of main_v18 (by decide) (by decide))).trans ((tail18 m c).trans ((congrArg tailK (arr11 m c)).trans (tailK_eq _)))
    · exact ((h.1 c).2 main_v20 (Pipeline.mem_restRefs_of main_v20 (by decide) (by decide))).trans ((tail20 m c).trans ((congrArg tailV (arr12 m c)).trans (tailV_eq _)))
    · exact (Pipeline.FramePost.out_eq h.1 c 13).trans ((arr13 m c).trans (outZ_rows _))
  · refine (θ_run _ _ _).mono (fun r h c => ?_) (Cert.Reference6Ideal.Value.run (F := Ideal) m' g')
    obtain ⟨e0, e1, e2, e3, e4, e5⟩ := hag c
    obtain ⟨r0, r1, r2, r3, r4, ra⟩ := h c
    rw [e0, e1, e2, e3] at r0
    rw [e0, e1, e2, e3, e4, e5] at r1 r2 r3 r4
    exact ⟨r0, r1, r2, r3, r4, ra⟩

end Cert.Proj
-- ==== Proof.Proj7.lean ====
/- The last layer's output projection and the final norm over the reals: the run's array is the reference's. -/
module

public import proofs.«01_k».proof.Proof.Proj
public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Claim
public import Idealize.ShloMosaic.Lib.Pointwise

@[expose] public section

set_option maxRecDepth 16384

noncomputable section

namespace Cert.Reference7Ideal.Hand
open Cert.Reference7Ideal Cert.Reference7Ideal.Gen Cert.Reference7Ideal.Value
open Idealize.ShloMosaic Idealize.ShloMosaic.TcCoe Idealize.SL.Sem

/-- The stream with the gated branch added. -/
def mixed {F : FTy → Type} [FloatOps F] (o z x : FVec F S32x4x1024 .f32) (w : FVec F S1x1024x1024 .f32) : FVec F S32x4x1024 .f32 :=
  addf x (Host.dotGeneral dot_S32x4x1024_S1024x1024_S32x4x1024_2_0_01_1_n_n none
    (mulf o (mulf z (Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf z))))))
    (shapeCast S1024x1024 w shapeCasts_S1x1024x1024_S1024x1024))

/-- The final norm, row by row. -/
def normed {F : FTy → Type} [FloatOps F] (y : FVec F S32x4x1024 .f32) (g : FVec F S1024 .f32) : FVec F S128x1024 .f32 :=
  shapeCast S128x1024 (mulf (mulf y (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf y y) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2] bcast_S1024_S1x1x1024_2 g))) shapeCasts_S32x4x1024_S128x1024

theorem mixed_apply (o z x : FVec Ideal S32x4x1024 .f32) (w : FVec Ideal S1x1024x1024 .f32) (b : Fin 32) (p : Fin 4) (n : Fin 1024) :
    mixed o z x w (ix3 b p n) = Proj.mix (fun k => o (ix3 b p k)) (fun k => z (ix3 b p k)) (fun k => x (ix3 b p k)) (fun k n => w (ix3 0 k n)) n := by
  unfold mixed Proj.mix
  pointwise
  simp only [Ideal.mul_one_div (Proj.gate_ne _)]

theorem normed_apply (y : FVec Ideal S32x4x1024 .f32) (g : FVec Ideal S1024 .f32) (b : Fin 32) (p : Fin 4) (n : Fin 1024) (R : Fin 128) (hR : R.val = 4 * b.val + p.val) :
    normed y g (ix2 R n) = Proj.rms (fun k => y (ix3 b p k)) (fun k => g (ix1 k)) n := by
  have h1 : (⟨R.val / 4, by omega⟩ : Fin 32) = b := Fin.ext (by show R.val / 4 = b.val; omega)
  have h2 : (⟨R.val % 4, by omega⟩ : Fin 4) = p := Fin.ext (by show R.val % 4 = p.val; omega)
  unfold normed Proj.rms
  pointwise
  rw [h1, h2]

end Cert.Reference7Ideal.Hand

namespace Cert.Kernel7Ideal.Hand
open Cert.Kernel7Ideal Cert.Kernel7Ideal.Gen
open Idealize.ShloMosaic Idealize.ShloMosaic.TcCoe Idealize.SL.Sem

theorem pay1_apply (z o x : Vec Ideal S128x1024 .f32) (w : Vec Ideal S1024x1024 .bf16) (g : Vec Ideal S1x1024 .f32) (a : Fin 128) (n : Fin 1024) :
    k0_pay1 z o x w g (ix2 a n) = Proj.rms (Proj.mix (fun k => o (ix2 a k)) (fun k => z (ix2 a k)) (fun k => x (ix2 a k)) (fun k n => w (ix2 k n))) (fun k => g (ix2 0 k)) n := by
  unfold Proj.rms Proj.mix
  pointwise [k0_pay1]
  simp only [zero_sub]

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![t.val, 0] := by decide +kernel
theorem index5 : ∀ t : Fin cfg0.N, (cfg0.win 5).index t = ![t.val, 0] := by decide +kernel
theorem index3 : ∀ t : Fin cfg0.N, (cfg0.win 3).index t = ![0, 0] := by decide +kernel
theorem index4 : ∀ t : Fin cfg0.N, (cfg0.win 4).index t = ![0, 0] := by decide +kernel

variable (m : (ℓ : Loc nD τ sig) → Buf (Elt Ideal) ℓ) (c : Dev nD)

/-- The five arguments. -/
abbrev argo : FVec Ideal S32x4x1024 .f32 := m ((c.tc : Thread nD τ).loc main_arg0)
abbrev argz : FVec Ideal S32x4x1024 .f32 := m ((c.tc : Thread nD τ).loc main_arg1)
abbrev argx : FVec Ideal S32x4x1024 .f32 := m ((c.tc : Thread nD τ).loc main_arg2)
abbrev argw : FVec Ideal S1x1024x1024 .f32 := m ((c.tc : Thread nD τ).loc main_arg3)
abbrev argg : FVec Ideal S1024 .f32 := m ((c.tc : Thread nD τ).loc main_arg4)

theorem Vo : V m c main_v0 = shapeCast S128x1024 (argo m c) shapeCasts_S32x4x1024_S128x1024 := by
  entry_read
  rfl
theorem Vz : V m c main_v1 = shapeCast S128x1024 (argz m c) shapeCasts_S32x4x1024_S128x1024 := by
  entry_read
  rfl
theorem Vx : V m c main_v2 = shapeCast S128x1024 (argx m c) shapeCasts_S32x4x1024_S128x1024 := by
  entry_read
  rfl
theorem Vw : V m c main_v4 = truncf (F := Ideal) .bf16 (shapeCast S1024x1024 (argw m c) shapeCasts_S1x1024x1024_S1024x1024) bitsLt_bf16_f32 := by
  entry_read
  rfl
theorem Vg : V m c main_v5 = shapeCast S1x1024 (argg m c) shapeCasts_S1024_S1x1024 := by
  entry_read
  rfl

theorem emb0 (t : Fin cfg0.N) (a : Fin 128) (k : Fin 1024) (R : Fin 128) (hR : R.val = 128 * t.val + a.val) : ((cfg0.win 0).blk t).view.emb (ix2 a k) = ix2 R k := by
  refine funext fun x => Fin.ext ?_
  match x with
  | 0 => exact (Pipeline.Window.rect_emb_val (cfg0.win 0) t (ix2 a k) 0).trans (by rw [index0]; show t.val * 128 + a.val = R.val; omega)
  | 1 => exact (Pipeline.Window.rect_emb_val (cfg0.win 0) t (ix2 a k) 1).trans (by rw [index0]; show 0 * 1024 + k.val = k.val; omega)
theorem emb1 (t : Fin cfg0.N) (a : Fin 128) (k : Fin 1024) (R : Fin 128) (hR : R.val = 128 * t.val + a.val) : ((cfg0.win 1).blk t).view.emb (ix2 a k) = ix2 R k := by
  refine funext fun x => Fin.ext ?_
  match x with
  | 0 => exact (Pipeline.Window.rect_emb_val (cfg0.win 1) t (ix2 a k) 0).trans (by rw [index1]; show t.val * 128 + a.val = R.val; omega)
  | 1 => exact (Pipeline.Window.rect_emb_val (cfg0.win 1) t (ix2 a k) 1).trans (by rw [index1]; show 0 * 1024 + k.val = k.val; omega)
theorem emb2 (t : Fin cfg0.N) (a : Fin 128) (k : Fin 1024) (R : Fin 128) (hR : R.val = 128 * t.val + a.val) : ((cfg0.win 2).blk t).view.emb (ix2 a k) = ix2 R k := by
  refine funext fun x => Fin.ext ?_
  match x with
  | 0 => exact (Pipeline.Window.rect_emb_val (cfg0.win 2) t (ix2 a k) 0).trans (by rw [index2]; show t.val * 128 + a.val = R.val; omega)
  | 1 => exact (Pipeline.Window.rect_emb_val (cfg0.win 2) t (ix2 a k) 1).trans (by rw [index2]; show 0 * 1024 + k.val = k.val; omega)
theorem emb5 (t : Fin cfg0.N) (a : Fin 128) (k : Fin 1024) (R : Fin 128) (hR : R.val = 128 * t.val + a.val) : ((cfg0.win 5).blk t).view.emb (ix2 a k) = ix2 R k := by
  refine funext fun x => Fin.ext ?_
  match x with
  | 0 => exact (Pipeline.Window.rect_emb_val (cfg0.win 5) t (ix2 a k) 0).trans (by rw [index5]; show t.val * 128 + a.val = R.val; omega)
  | 1 => exact (Pipeline.Window.rect_emb_val (cfg0.win 5) t (ix2 a k) 1).trans (by rw [index5]; show 0 * 1024 + k.val = k.val; omega)
theorem emb3 (t : Fin cfg0.N) (a b : Fin 1024) : ((cfg0.win 3).blk t).view.emb (ix2 a b) = ix2 a b := by
  refine funext fun x => Fin.ext ?_
  match x with
  | 0 => exact (Pipeline.Window.rect_emb_val (cfg0.win 3) t (ix2 a b) 0).trans (by rw [index3]; show 0 * 1024 + a.val = a.val; omega)
  | 1 => exact (Pipeline.Window.rect_emb_val (cfg0.win 3) t (ix2 a b) 1).trans (by rw [index3]; show 0 * 1024 + b.val = b.val; omega)
theorem emb4 (t : Fin cfg0.N) (k : Fin 1024) : ((cfg0.win 4).blk t).view.emb (ix2 0 k) = ix2 0 k := by
  refine funext fun x => Fin.ext ?_
  match x with
  | 0 => exact (Pipeline.Window.rect_emb_val (cfg0.win 4) t (ix2 0 k) 0).trans (by rw [index4]; rfl)
  | 1 => exact (Pipeline.Window.rect_emb_val (cfg0.win 4) t (ix2 0 k) 1).trans (by rw [index4]; show 0 * 1024 + k.val = k.val; omega)

theorem blk0 (t : Fin cfg0.N) (a : Fin 128) (k : Fin 1024) (b : Fin 32) (p : Fin 4) (h : 4 * b.val + p.val = 128 * t.val + a.val) :
    iblk m c 0 t (ix2 a k) = argo m c (ix3 b p k) := by
  refine (congrArg (V m c main_v0) (emb0 t a k ⟨4 * b.val + p.val, by omega⟩ h)).trans ?_
  rw [Vo]
  pointwise
theorem blk1 (t : Fin cfg0.N) (a : Fin 128) (k : Fin 1024) (b : Fin 32) (p : Fin 4) (h : 4 * b.val + p.val = 128 * t.val + a.val) :
    iblk m c 1 t (ix2 a k) = argz m c (ix3 b p k) := by
  refine (congrArg (V m c main_v1) (emb1 t a k ⟨4 * b.val + p.val, by omega⟩ h)).trans ?_
  rw [Vz]
  pointwise
theorem blk2 (t : Fin cfg0.N) (a : Fin 128) (k : Fin 1024) (b : Fin 32) (p : Fin 4) (h : 4 * b.val + p.val = 128 * t.val + a.val) :
    iblk m c 2 t (ix2 a k) = argx m c (ix3 b p k) := by
  refine (congrArg (V m c main_v2) (emb2 t a k ⟨4 * b.val + p.val, by omega⟩ h)).trans ?_
  rw [Vx]
  pointwise
theorem blk3 (t : Fin cfg0.N) (k n : Fin 1024) : iblk m c 3 t (ix2 k n) = argw m c (ix3 0 k n) := by
  refine (congrArg (V m c main_v4) (emb3 t k n)).trans ?_
  rw [Vw]
  pointwise
theorem blk4 (t : Fin cfg0.N) (k : Fin 1024) : iblk m c 4 t (ix2 0 k) = argg m c (ix1 k) := by
  refine (congrArg (V m c main_v5) (emb4 t k)).trans ?_
  rw [Vg]
  pointwise

/-- The reference's stream with the branch added, of the run's arguments. -/
abbrev Y : FVec Ideal Reference7Ideal.S32x4x1024 .f32 := Reference7Ideal.Hand.mixed (F := Ideal) (argo m c) (argz m c) (argx m c) (argw m c)

theorem Y_apply (b : Fin 32) (p : Fin 4) (n : Fin 1024) :
    Y m c (ix3 b p n) = Proj.mix (fun k => argo m c (ix3 b p k)) (fun k => argz m c (ix3 b p k)) (fun k => argx m c (ix3 b p k)) (fun k n => argw m c (ix3 0 k n)) n :=
  Reference7Ideal.Hand.mixed_apply _ _ _ _ b p n

theorem arr5 : (dats m 0 c).arrAt 5 cfg0.N = Reference7Ideal.Hand.normed (F := Ideal) (Y m c) (argg m c) := by
  refine (dats m 0 c).arrAt_eq_of_covers 5 _ (by decide +kernel) fun t hf y => ?_
  obtain ⟨a, n, rfl⟩ : ∃ (a : Fin 128) (n : Fin 1024), y = ix2 a n := ⟨y 0, y 1, eq_ix2 y⟩
  blk_simp
  rw [after0_5]
  frame_out
  have ht : t.val < 1 := t.isLt
  have hR : 128 * t.val + a.val < 128 := by omega
  obtain ⟨b, p, h⟩ : ∃ (b : Fin 32) (p : Fin 4), 4 * b.val + p.val = 128 * t.val + a.val := ⟨⟨(128 * t.val + a.val) / 4, by omega⟩, ⟨(128 * t.val + a.val) % 4, by omega⟩, by show 4 * ((128 * t.val + a.val) / 4) + (128 * t.val + a.val) % 4 = _; omega⟩
  refine Eq.trans ?_ (congrArg (Reference7Ideal.Hand.normed (F := Ideal) (Y m c) (argg m c)) (emb5 t a n ⟨128 * t.val + a.val, hR⟩ rfl)).symm
  rw [Reference7Ideal.Hand.normed_apply _ _ b p n _ h.symm, funext fun k => Y_apply m c b p k]
  refine (pay1_apply _ _ _ _ _ a n).trans ?_
  rw [funext fun k => blk0 m c t a k b p h, funext fun k => blk1 m c t a k b p h, funext fun k => blk2 m c t a k b p h, funext fun k => funext fun n => blk3 m c t k n, funext fun k => blk4 m c t k]

end Cert.Kernel7Ideal.Hand

namespace Cert.Proj
open Idealize.ShloMosaic Idealize.ShloMosaic.TcCoe Idealize.SL.Sem
open Cert.Kernel7Ideal Cert.Kernel7Ideal.Gen Cert.Kernel7Ideal.Hand

theorem algebraic7 : Cert.algebraic_Kernel7Ideal_Reference7Ideal := by
  intro m g m' g' _ hag
  refine ⟨fun c => Reference7Ideal.Hand.normed (F := Ideal) (Y m c) (argg m c), ?_, ?_⟩
  · refine (θ_run _ _ _).mono (fun r h c => ⟨?_, h.2 c⟩) (θ_run_and (run_main m g) (unchanged m g))
    exact (Pipeline.FramePost.out_eq h.1 c 5).trans (arr5 m c)
  · refine (θ_run _ _ _).mono (fun r h c => ?_) (Cert.Reference7Ideal.Value.run (F := Ideal) m' g')
    obtain ⟨e0, e1, e2, e3, e4⟩ := hag c
    obtain ⟨r0, ra⟩ := h c
    rw [e0, e1, e2, e3, e4] at r0
    exact ⟨r0, ra⟩

end Cert.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite
public import proofs.«01_k».proof.Proof.Value
public import proofs.«01_k».proof.Proof.Proj2
public import proofs.«01_k».proof.Proof.Proj3
public import proofs.«01_k».proof.Proof.Frames
public import proofs.«01_k».proof.Proof.K4I.Frame
public import proofs.«01_k».proof.Proof.Proj4
public import proofs.«01_k».proof.Proof.Proj5
public import proofs.«01_k».proof.Proof.Proj6
public import proofs.«01_k».proof.Proof.Proj7
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
  Cert.Frames.kernel, Cert.Frames.kernelIdeal, fun m ρ _ => Cert.Frames.kernelIdeal m ρ trivial, Cert.Frames.referenceIdeal, fun m ρ _ => Cert.Frames.referenceIdeal m ρ trivial,
  fun m ρ _ => Cert.Kernel2.Gen.frame m ρ, fun m ρ _ => Cert.Kernel2Ideal.Gen.frame m ρ,
  fun m ρ _ => (θ_run Cert.Reference2Ideal.defs _ _).mono (fun r h => ⟨fun c => (h c).2.2.2.2, sem_eq_zero_of_no_sems (by decide) r.2⟩) (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2, sem_eq_zero_of_no_sems (by decide) r.2⟩) (Cert.Reference3Ideal.Value.run (F := Ideal) m ρ),
  Cert.Proj.frame4, fun m ρ _ => Cert.Kernel4Ideal.Hand.ends m ρ,
  fun m ρ _ => (θ_run Cert.Reference4Ideal.defs _ _).mono (fun r h => ⟨fun c => (h c).2.2.2.2.2.2, sem_eq_zero_of_no_sems (by decide) r.2⟩) (Cert.Reference4Ideal.Value.run (F := Ideal) m ρ),
  fun m ρ _ => Cert.Kernel5.Gen.frame m ρ, fun m ρ _ => Cert.Kernel5Ideal.Gen.frame m ρ,
  fun m ρ _ => (θ_run Cert.Reference5Ideal.defs _ _).mono (fun r h => ⟨fun c => (h c).2.2.2.2, sem_eq_zero_of_no_sems (by decide) r.2⟩) (Cert.Reference5Ideal.Value.run (F := Ideal) m ρ),
  fun m ρ _ => Cert.Kernel6.Gen.frame m ρ, fun m ρ _ => Cert.Kernel6Ideal.Gen.frame m ρ,
  fun m ρ _ => (θ_run Cert.Reference6Ideal.defs _ _).mono (fun r h => ⟨fun c => (h c).2.2.2.2.2, sem_eq_zero_of_no_sems (by decide) r.2⟩) (Cert.Reference6Ideal.Value.run (F := Ideal) m ρ),
  fun m ρ _ => Cert.Kernel7.Gen.frame m ρ, fun m ρ _ => Cert.Kernel7Ideal.Gen.frame m ρ,
  fun m ρ _ => (θ_run Cert.Reference7Ideal.defs _ _).mono (fun r h => ⟨fun c => (h c).2, sem_eq_zero_of_no_sems (by decide) r.2⟩) (Cert.Reference7Ideal.Value.run (F := Ideal) m ρ),
  Cert.Frames.preserves, Cert.Value.algebraic, trivial, Cert.Proj.algebraic2, trivial, Cert.Proj.algebraic3, trivial, Cert.Proj.algebraic4, trivial, Cert.Proj.algebraic5, trivial, Cert.Proj.algebraic6, trivial, Cert.Proj.algebraic7⟩

end Cert.Proof

end
